-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v60)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v60) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v151) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_values : Cert.Pre_finite_values.Facts) (hPre_experts_in_range : Cert.Pre_experts_in_range.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_experts_in_range.lean ====
abbrev S296 : Shape := ⟨1, ![296]⟩
abbrev S1 : Shape := ⟨1, ![1]⟩
abbrev S151552x1024 : Shape := ⟨2, ![151552, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S296 : S_.BroadcastsInDim S296 (![] : Fin 0 → Fin S296.rank)
  reducesTo_S296_S_d0 : S296.ReducesTo [0] S_
  h_S_ : 0 < S_.numel

variable [Facts]

def fn {F : FTy → Type} [FloatOps F] (main_arg0 : IVec S296 32) (main_arg1 : IVec S1 32) (main_arg2 : FVec F S151552x1024 .bf16) (main_arg3 : FVec F S4x32x1024x2048 .f32) (main_arg4 : FVec F S4x32x2048 .f32) (main_arg5 : FVec F S4x32x1024x1024 .f32) (main_arg6 : FVec F S4x32x1024 .f32) : IVec S_ 1 :=
  let main_c : IVec S_ 32 := constantI S_ 32 0#32
  let main_v0 : IVec S296 32 := broadcastInDim S296 ![] bcast_S_S296 main_c
  let main_v1 : IVec S296 1 := cmpi .sge main_arg0 main_v0
  let main_c_0 : IVec S_ 32 := constantI S_ 32 128#32
  let main_v2 : IVec S296 32 := broadcastInDim S296 ![] bcast_S_S296 main_c_0
  let main_v3 : IVec S296 1 := cmpi .slt main_arg0 main_v2
  let main_v4 : IVec S296 1 := andi main_v1 main_v3
  let main_c_1 : IVec S_ 1 := constantI S_ 1 1#1
  let main_v5 : IVec S_ 1 := (fun x v => Host.reduce IntOp.andi x v reducesTo_S296_S_d0 h_S_) main_v4 main_c_1
  main_v5
-- ==== Pre_finite_values.lean ====
abbrev S4x8448x3072 : Shape := ⟨3, ![4, 8448, 3072]⟩
abbrev S4x64 : Shape := ⟨2, ![4, 64]⟩
abbrev S1x128 : Shape := ⟨2, ![1, 128]⟩
abbrev S4x8448x1536 : Shape := ⟨3, ![4, 8448, 1536]⟩
abbrev S_ : Shape := ⟨0, ![]⟩

class Facts : Prop where
  slices_S4x8448x3072_S4x8448x1536_0_0_1536 : S4x8448x3072.Slices ![0, 0, 1536] S4x8448x1536
  bitsLt_bf16_f32 : FTy.bits .bf16 < FTy.bits .f32
  bcast_S_S4x8448x1536 : S_.BroadcastsInDim S4x8448x1536 (![] : Fin 0 → Fin S4x8448x1536.rank)
  reducesTo_S4x8448x1536_S_d0_1_2 : S4x8448x1536.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S4x8448x3072 .bf16) (main_arg1 : FVec F S4x64 .f32) (main_arg2 : FVec F S1x128 .f32) : IVec S_ 1 :=
  let main_v0 : FVec F S4x8448x1536 .bf16 := (extractStridedSlice S4x8448x1536 ![0, 0, 1536] · slices_S4x8448x3072_S4x8448x1536_0_0_1536) main_arg0
  let main_v1 : FVec F S4x8448x1536 .f32 := (extf .f32 · bitsLt_bf16_f32) main_v0
  let main_v2 : FVec F S4x8448x1536 .f32 := Host.absf main_v1
  let main_cst : FVec F S_ .f32 := constant S_ .f32 0x7F800000#32
  let main_v3 : FVec F S4x8448x1536 .f32 := broadcastInDim S4x8448x1536 ![] bcast_S_S4x8448x1536 main_cst
  let main_v4 : IVec S4x8448x1536 1 := cmpf .olt main_v2 main_v3
  let main_c : IVec S_ 1 := constantI S_ 1 1#1
  let main_v5 : IVec S_ 1 := (fun x v => Host.reduce IntOp.andi x v reducesTo_S4x8448x1536_S_d0_1_2 h_S_) main_v4 main_c
  let main_v6 : FVec F S4x64 .f32 := Host.absf main_arg1
  let main_cst_0 : FVec F S_ .f32 := constant S_ .f32 0x7F800000#32
  let main_v7 : FVec F S4x64 .f32 := broadcastInDim S4x64 ![] bcast_S_S4x64 main_cst_0
  let main_v8 : IVec S4x64 1 := cmpf .olt main_v6 main_v7
  let main_c_1 : IVec S_ 1 := constantI S_ 1 1#1
  let main_v9 : IVec S_ 1 := (fun x v => Host.reduce IntOp.andi x v reducesTo_S4x64_S_d0_1 h_S_) main_v8 main_c_1
  let main_v10 : IVec S_ 1 := andi main_v5 main_v9
  main_v10
-- ==== Kernel.lean ====
abbrev S4x8448x3072 : Shape := ⟨3, ![4, 8448, 3072]⟩
abbrev S4x64 : Shape := ⟨2, ![4, 64]⟩
abbrev S1x128 : Shape := ⟨2, ![1, 128]⟩
abbrev S4x8192x512 : Shape := ⟨3, ![4, 8192, 512]⟩
abbrev S1x256x128 : Shape := ⟨3, ![1, 256, 128]⟩
abbrev S1x8448x128 : Shape := ⟨3, ![1, 8448, 128]⟩
abbrev S256x128 : Shape := ⟨2, ![256, 128]⟩
abbrev S512x128 : Shape := ⟨2, ![512, 128]⟩
abbrev S1x1408x128 : Shape := ⟨3, ![1, 1408, 128]⟩
abbrev S1408x128 : Shape := ⟨2, ![1408, 128]⟩
abbrev S512x1408 : Shape := ⟨2, ![512, 1408]⟩
abbrev S512 : Shape := ⟨1, ![512]⟩
abbrev S512x1 : Shape := ⟨2, ![512, 1]⟩
abbrev S1x64 : Shape := ⟨2, ![1, 64]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 4
  | .vmem => 10
  | .smem => 0
  | _ => 0

abbrev bufTy : (tb : Table) → Fin (tcTables nBuf tb) → BufTy
  | .hbm, ⟨0, _⟩ => ⟨S4x8448x3072, .bf16⟩
  | .hbm, ⟨1, _⟩ => ⟨S4x64, .f32⟩
  | .hbm, ⟨2, _⟩ => ⟨S1x128, .f32⟩
  | .hbm, ⟨3, _⟩ => ⟨S4x8192x512, .bf16⟩
  | .local _ .vmem, ⟨0, _⟩ => ⟨S4x64, .f32⟩
  | .local _ .vmem, ⟨1, _⟩ => ⟨S1x128, .f32⟩
  | .local _ .vmem, ⟨2, _⟩ => ⟨S1x256x128, .bf16⟩
  | .local _ .vmem, ⟨3, _⟩ => ⟨S1x256x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x8448x128, .bf16⟩
  | .local _ .vmem, ⟨7, _⟩ => ⟨S1x8448x128, .bf16⟩
  | .local _ .vmem, ⟨8, _⟩ => ⟨S1x256x128, .bf16⟩
  | .local _ .vmem, ⟨9, _⟩ => ⟨S1x256x128, .bf16⟩
  | _, _ => ⟨S4x8448x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c12_i32 : BitVec 32 := 12#32
  let v1 : BitVec 32 := Scalar.addi c12_i32 arg1
  let c0_i32_0 : BitVec 32 := 0#32
  ![arg0.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8448x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8448x3072 : Shape := ⟨3, ![4, 8448, 3072]⟩
abbrev S4x64 : Shape := ⟨2, ![4, 64]⟩
abbrev S1x128 : Shape := ⟨2, ![1, 128]⟩
abbrev S4x8192x512 : Shape := ⟨3, ![4, 8192, 512]⟩
abbrev S4x8192x4x2x64 : Shape := ⟨5, ![4, 8192, 4, 2, 64]⟩
abbrev S4x8448x512 : Shape := ⟨3, ![4, 8448, 512]⟩
abbrev S4x8448x4x2x64 : Shape := ⟨5, ![4, 8448, 4, 2, 64]⟩
abbrev S4x8448x4x128 : Shape := ⟨4, ![4, 8448, 4, 128]⟩
abbrev S1x64 : Shape := ⟨2, ![1, 64]⟩
abbrev S64 : Shape := ⟨1, ![64]⟩
abbrev S_ : Shape := ⟨0, ![]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S4x4x128x8192 : Shape := ⟨4, ![4, 4, 128, 8192]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S128 : Shape := ⟨1, ![128]⟩
abbrev S1x1x1x128 : Shape := ⟨4, ![1, 1, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S4x8448x3072, .bf16⟩
  | .hbm, ⟨1, _⟩ => ⟨S4x64, .f32⟩
  | .hbm, ⟨2, _⟩ => ⟨S1x128, .f32⟩
  | .hbm, ⟨3, _⟩ => ⟨S4x8448x3072, .f32⟩
  | .hbm, ⟨4, _⟩ => ⟨S4x8192x512, .f32⟩
  | .hbm, ⟨5, _⟩ => ⟨S4x8192x4x2x64, .f32⟩
  | .hbm, ⟨6, _⟩ => ⟨S4x8448x512, .f32⟩
  | .hbm, ⟨7, _⟩ => ⟨S4x8448x4x2x64, .f32⟩
  | .hbm, ⟨8, _⟩ => ⟨S4x8448x512, .f32⟩
  | .hbm, ⟨9, _⟩ => ⟨S4x8448x4x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x4x2x8192x8448, .f32⟩
  | .hbm, ⟨30, _⟩ => ⟨S_, .f32⟩
  | .hbm, ⟨31, _⟩ => ⟨S4x4x2x8192x8448, .f32⟩
  | .hbm, ⟨32, _⟩ => ⟨S4x4x2x8192x8448, .f32⟩
  | .hbm, ⟨33, _⟩ => ⟨S_, .f32⟩
  | .hbm, ⟨34, _⟩ => ⟨S4x4x2x8192, .f32⟩
  | .hbm, ⟨35, _⟩ => ⟨S_, .f32⟩
  | .hbm, ⟨36, _⟩ => ⟨S4x4x2x8192, .f32⟩
  | .hbm, ⟨37, _⟩ => ⟨S4x4x2x8192, .f32⟩
  | .hbm, ⟨38, _⟩ => ⟨S4x4x2x8192x1, .f32⟩
  | .hbm, ⟨39, _⟩ => ⟨S4x4x2x8192x8448, .f32⟩
  | .hbm, ⟨40, _⟩ => ⟨S4x4x2x8192x8448, .f32⟩
  | .hbm, ⟨41, _⟩ => ⟨S4x4x2x8192x8448, .f32⟩
  | .hbm, ⟨42, _⟩ => ⟨S_, .f32⟩
  | .hbm, ⟨43, _⟩ => ⟨S4x4x2x8192, .f32⟩
  | .hbm, ⟨44, _⟩ => ⟨S4x4x2x8192x1, .f32⟩
  | .hbm, ⟨45, _⟩ => ⟨S4x4x2x8192x8448, .f32⟩
  | .hbm, ⟨46, _⟩ => ⟨S4x4x2x8192x8448, .f32⟩
  | .hbm, ⟨47, _⟩ => ⟨S4x4x1x8192x8448, .f32⟩
  | .hbm, ⟨48, _⟩ => ⟨S4x4x8192x8448, .f32⟩
  | .hbm, ⟨49, _⟩ => ⟨S4x4x1x8192x8448, .f32⟩
  | .hbm, ⟨50, _⟩ => ⟨S4x4x8192x8448, .f32⟩
  | .hbm, ⟨51, _⟩ => ⟨S4x4x8192x8448, .f32⟩
  | .hbm, ⟨52, _⟩ => ⟨S4x4x8192x8448, .f32⟩
  | .hbm, ⟨53, _⟩ => ⟨S4x4x8192x8448, .f32⟩
  | .hbm, ⟨54, _⟩ => ⟨S4x4x128x8192, .f32⟩
  | .hbm, ⟨55, _⟩ => ⟨S4x8192x4x128, .f32⟩
  | .hbm, ⟨56, _⟩ => ⟨S4x8192x4x128, .f32⟩
  | .hbm, ⟨57, _⟩ => ⟨S_, .f32⟩
  | .hbm, ⟨58, _⟩ => ⟨S4x8192x4, .f32⟩
  | .hbm, ⟨59, _⟩ => ⟨S4x8192x4x1, .f32⟩
  | .hbm, ⟨60, _⟩ => ⟨S_, .f32⟩
  | .hbm, ⟨61, _⟩ => ⟨S4x8192x4x1, .f32⟩
  | .hbm, ⟨62, _⟩ => ⟨S4x8192x4x1, .f32⟩
  | .hbm, ⟨63, _⟩ => ⟨S_, .f32⟩
  | .hbm, ⟨64, _⟩ => ⟨S4x8192x4x1, .f32⟩
  | .hbm, ⟨65, _⟩ => ⟨S4x8192x4x1, .f32⟩
  | .hbm, ⟨66, _⟩ => ⟨S4x8192x4x1, .f32⟩
  | .hbm, ⟨67, _⟩ => ⟨S4x8192x4x128, .f32⟩
  | .hbm, ⟨68, _⟩ => ⟨S4x8192x4x128, .f32⟩
  | .hbm, ⟨69, _⟩ => ⟨S128, .f32⟩
  | .hbm, ⟨70, _⟩ => ⟨S1x1x1x128, .f32⟩
  | .hbm, ⟨71, _⟩ => ⟨S4x8192x4x128, .f32⟩
  | .hbm, ⟨72, _⟩ => ⟨S4x8192x4x128, .f32⟩
  | .hbm, ⟨73, _⟩ => ⟨S_, .f32⟩
  | .hbm, ⟨74, _⟩ => ⟨S4x8192x4x128, .f32⟩
  | .hbm, ⟨75, _⟩ => ⟨S4x8192x4x128, .f32⟩
  | .hbm, ⟨76, _⟩ => ⟨S4x8192x512, .f32⟩
  | .hbm, ⟨77, _⟩ => ⟨S4x8192x512, .bf16⟩
  | _, _ => ⟨S4x8448x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Kernel2.lean ====
abbrev S296 : Shape := ⟨1, ![296]⟩
abbrev S1 : Shape := ⟨1, ![1]⟩
abbrev S151552x1024 : Shape := ⟨2, ![151552, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S128x1024x2048 : Shape := ⟨3, ![128, 1024, 2048]⟩
abbrev S128x8x128x2 : Shape := ⟨4, ![128, 8, 128, 2]⟩
abbrev S128x8x2x128 : Shape := ⟨4, ![128, 8, 2, 128]⟩
abbrev S128x1x2048 : Shape := ⟨3, ![128, 1, 2048]⟩
abbrev S128x1024x1024 : Shape := ⟨3, ![128, 1024, 1024]⟩
abbrev S128x1x1024 : Shape := ⟨3, ![128, 1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x1024x256 : Shape := ⟨3, ![1, 1024, 256]⟩
abbrev S1024x256 : Shape := ⟨2, ![1024, 256]⟩
abbrev S512x2048 : Shape := ⟨2, ![512, 2048]⟩
abbrev S1x2048 : Shape := ⟨2, ![1, 2048]⟩
abbrev S512x128 : Shape := ⟨2, ![512, 128]⟩
abbrev S1x1024 : Shape := ⟨2, ![1, 1024]⟩

abbrev nBuf : Space → Nat
  | .hbm => 85
  | .vmem => 15
  | .smem => 2
  | _ => 0

abbrev bufTy : (tb : Table) → Fin (tcTables nBuf tb) → BufTy
  | .hbm, ⟨0, _⟩ => ⟨S151552x1024, .bf16⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S128x1024x2048, .f32⟩
  | .hbm, ⟨6, _⟩ => ⟨S128x8x128x2, .f32⟩
  | .hbm, ⟨7, _⟩ => ⟨S128x8x2x128, .f32⟩
  | .hbm, ⟨8, _⟩ => ⟨S128x1x2048, .f32⟩
  | .hbm, ⟨9, _⟩ => ⟨S128x1024x1024, .f32⟩
  | .hbm, ⟨10, _⟩ => ⟨S128x1x1024, .f32⟩
  | .hbm, ⟨11, _⟩ => ⟨S256, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S_, .i32⟩
  | .hbm, ⟨27, _⟩ => ⟨S_, .i1⟩
  | .hbm, ⟨28, _⟩ => ⟨S256, .i1⟩
  | .hbm, ⟨29, _⟩ => ⟨S256, .i1⟩
  | .hbm, ⟨30, _⟩ => ⟨S256, .i1⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S_, .i32⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S256, .i32⟩
  | .hbm, ⟨44, _⟩ => ⟨S256, .i1⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S_, .i32⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S_, .i32⟩
  | .hbm, ⟨61, _⟩ => ⟨S256, .i32⟩
  | .hbm, ⟨62, _⟩ => ⟨S256, .i1⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S256, .i1⟩
  | .hbm, ⟨69, _⟩ => ⟨S_, .i32⟩
  | .hbm, ⟨70, _⟩ => ⟨S256, .i32⟩
  | .hbm, ⟨71, _⟩ => ⟨S256, .i32⟩
  | .hbm, ⟨72, _⟩ => ⟨S256, .i32⟩
  | .hbm, ⟨73, _⟩ => ⟨S_, .i32⟩
  | .hbm, ⟨74, _⟩ => ⟨S256, .i32⟩
  | .hbm, ⟨75, _⟩ => ⟨S256, .i32⟩
  | .hbm, ⟨76, _⟩ => ⟨S256, .i32⟩
  | .hbm, ⟨77, _⟩ => ⟨S256x1, .i32⟩
  | .hbm, ⟨78, _⟩ => ⟨S256, .i32⟩
  | .hbm, ⟨79, _⟩ => ⟨S1x256, .i32⟩
  | .hbm, ⟨80, _⟩ => ⟨S256x256, .i32⟩
  | .hbm, ⟨81, _⟩ => ⟨S256x256, .i32⟩
  | .hbm, ⟨82, _⟩ => ⟨S256x256, .i1⟩
  | .hbm, ⟨83, _⟩ => ⟨S256x256, .bf16⟩
  | .hbm, ⟨84, _⟩ => ⟨S151552x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x256, .bf16⟩
  | .local _ .vmem, ⟨11, _⟩ => ⟨S512x1024, .bf16⟩
  | .local _ .vmem, ⟨12, _⟩ => ⟨S512x1024, .bf16⟩
  | .local _ .vmem, ⟨13, _⟩ => ⟨S1024x2048, .bf16⟩
  | .local _ .vmem, ⟨14, _⟩ => ⟨S1024x1024, .bf16⟩
  | .local _ .smem, ⟨0, _⟩ => ⟨S296, .i32⟩
  | .local _ .smem, ⟨1, _⟩ => ⟨S1, .i32⟩
  | _, _ => ⟨S151552x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v7 : Ref sig .tc := ⟨.hbm, 33, rfl⟩
abbrev main_c_0 : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v10 : Ref sig .tc := ⟨.hbm, 54, rfl⟩
abbrev main_c_2 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v11 : Ref sig .tc := ⟨.hbm, 72, rfl⟩
abbrev main_c_3 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S296 : Shape := ⟨1, ![296]⟩
abbrev S1 : Shape := ⟨1, ![1]⟩
abbrev S151552x1024 : Shape := ⟨2, ![151552, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S296x512x1024 : Shape := ⟨3, ![296, 512, 1024]⟩
abbrev S128x1024x2048 : Shape := ⟨3, ![128, 1024, 2048]⟩
abbrev S_ : Shape := ⟨0, ![]⟩
abbrev S296x1 : Shape := ⟨2, ![296, 1]⟩
abbrev S296x1024x2048 : Shape := ⟨3, ![296, 1024, 2048]⟩
abbrev S128x2048 : Shape := ⟨2, ![128, 2048]⟩
abbrev S296x2048 : Shape := ⟨2, ![296, 2048]⟩
abbrev S128x1024x1024 : Shape := ⟨3, ![128, 1024, 1024]⟩
abbrev S296x1024x1024 : Shape := ⟨3, ![296, 1024, 1024]⟩
abbrev S128x1024 : Shape := ⟨2, ![128, 1024]⟩
abbrev S296x1024 : Shape := ⟨2, ![296, 1024]⟩
abbrev S296x512x2048 : Shape := ⟨3, ![296, 512, 2048]⟩
abbrev S296x1x2048 : Shape := ⟨3, ![296, 1, 2048]⟩
abbrev S296x1x1024 : Shape := ⟨3, ![296, 1, 1024]⟩
abbrev S296x1x1 : Shape := ⟨3, ![296, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S296, .i32⟩
  | .hbm, ⟨1, _⟩ => ⟨S1, .i32⟩
  | .hbm, ⟨2, _⟩ => ⟨S151552x1024, .bf16⟩
  | .hbm, ⟨3, _⟩ => ⟨S4x32x1024x2048, .f32⟩
  | .hbm, ⟨4, _⟩ => ⟨S4x32x2048, .f32⟩
  | .hbm, ⟨5, _⟩ => ⟨S4x32x1024x1024, .f32⟩
  | .hbm, ⟨6, _⟩ => ⟨S4x32x1024, .f32⟩
  | .hbm, ⟨7, _⟩ => ⟨S151552x1024, .f32⟩
  | .hbm, ⟨8, _⟩ => ⟨S296x512x1024, .f32⟩
  | .hbm, ⟨9, _⟩ => ⟨S128x1024x2048, .f32⟩
  | .hbm, ⟨10, _⟩ => ⟨S_, .i32⟩
  | .hbm, ⟨11, _⟩ => ⟨S296, .i32⟩
  | .hbm, ⟨12, _⟩ => ⟨S296, .i1⟩
  | .hbm, ⟨13, _⟩ => ⟨S_, .i32⟩
  | .hbm, ⟨14, _⟩ => ⟨S296, .i32⟩
  | .hbm, ⟨15, _⟩ => ⟨S296, .i32⟩
  | .hbm, ⟨16, _⟩ => ⟨S296, .i32⟩
  | .hbm, ⟨17, _⟩ => ⟨S296x1, .i32⟩
  | .hbm, ⟨18, _⟩ => ⟨S296x1024x2048, .f32⟩
  | .hbm, ⟨19, _⟩ => ⟨S128x2048, .f32⟩
  | .hbm, ⟨20, _⟩ => ⟨S_, .i32⟩
  | .hbm, ⟨21, _⟩ => ⟨S296, .i32⟩
  | .hbm, ⟨22, _⟩ => ⟨S296, .i1⟩
  | .hbm, ⟨23, _⟩ => ⟨S_, .i32⟩
  | .hbm, ⟨24, _⟩ => ⟨S296, .i32⟩
  | .hbm, ⟨25, _⟩ => ⟨S296, .i32⟩
  | .hbm, ⟨26, _⟩ => ⟨S296, .i32⟩
  | .hbm, ⟨27, _⟩ => ⟨S296x1, .i32⟩
  | .hbm, ⟨28, _⟩ => ⟨S296x2048, .f32⟩
  | .hbm, ⟨29, _⟩ => ⟨S128x1024x1024, .f32⟩
  | .hbm, ⟨30, _⟩ => ⟨S_, .i32⟩
  | .hbm, ⟨31, _⟩ => ⟨S296, .i32⟩
  | .hbm, ⟨32, _⟩ => ⟨S296, .i1⟩
  | .hbm, ⟨33, _⟩ => ⟨S_, .i32⟩
  | .hbm, ⟨34, _⟩ => ⟨S296, .i32⟩
  | .hbm, ⟨35, _⟩ => ⟨S296, .i32⟩
  | .hbm, ⟨36, _⟩ => ⟨S296, .i32⟩
  | .hbm, ⟨37, _⟩ => ⟨S296x1, .i32⟩
  | .hbm, ⟨38, _⟩ => ⟨S296x1024x1024, .f32⟩
  | .hbm, ⟨39, _⟩ => ⟨S128x1024, .f32⟩
  | .hbm, ⟨40, _⟩ => ⟨S_, .i32⟩
  | .hbm, ⟨41, _⟩ => ⟨S296, .i32⟩
  | .hbm, ⟨42, _⟩ => ⟨S296, .i1⟩
  | .hbm, ⟨43, _⟩ => ⟨S_, .i32⟩
  | .hbm, ⟨44, _⟩ => ⟨S296, .i32⟩
  | .hbm, ⟨45, _⟩ => ⟨S296, .i32⟩
  | .hbm, ⟨46, _⟩ => ⟨S296, .i32⟩
  | .hbm, ⟨47, _⟩ => ⟨S296x1, .i32⟩
  | .hbm, ⟨48, _⟩ => ⟨S296x1024, .f32⟩
  | .hbm, ⟨49, _⟩ => ⟨S296x512x2048, .f32⟩
  | .hbm, ⟨50, _⟩ => ⟨S296x1x2048, .f32⟩
  | .hbm, ⟨51, _⟩ => ⟨S296x512x2048, .f32⟩
  | .hbm, ⟨52, _⟩ => ⟨S296x512x2048, .f32⟩
  | .hbm, ⟨53, _⟩ => ⟨S296x512x1024, .f32⟩
  | .hbm, ⟨54, _⟩ => ⟨S_, .f32⟩
  | .hbm, ⟨55, _⟩ => ⟨S296x512x1024, .f32⟩
  | .hbm, ⟨56, _⟩ => ⟨S296x512x1024, .f32⟩
  | .hbm, ⟨57, _⟩ => ⟨S296x512x1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S296x512x1024, .f32⟩
  | .hbm, ⟨62, _⟩ => ⟨S296x512x1024, .f32⟩
  | .hbm, ⟨63, _⟩ => ⟨S_, .f32⟩
  | .hbm, ⟨64, _⟩ => ⟨S296x512x1024, .f32⟩
  | .hbm, ⟨65, _⟩ => ⟨S296x512x1024, .f32⟩
  | .hbm, ⟨66, _⟩ => ⟨S_, .f32⟩
  | .hbm, ⟨67, _⟩ => ⟨S296x512x1024, .f32⟩
  | .hbm, ⟨68, _⟩ => ⟨S296x512x1024, .f32⟩
  | .hbm, ⟨69, _⟩ => ⟨S296x512x1024, .f32⟩
  | .hbm, ⟨70, _⟩ => ⟨S296x512x1024, .f32⟩
  | .hbm, ⟨71, _⟩ => ⟨S_, .f32⟩
  | .hbm, ⟨72, _⟩ => ⟨S296x512x1024, .f32⟩
  | .hbm, ⟨73, _⟩ => ⟨S296x512x1024, .f32⟩
  | .hbm, ⟨74, _⟩ => ⟨S_, .f32⟩
  | .hbm, ⟨75, _⟩ => ⟨S296x512x1024, .f32⟩
  | .hbm, ⟨76, _⟩ => ⟨S296x512x1024, .f32⟩
  | .hbm, ⟨77, _⟩ => ⟨S296x512x1024, .f32⟩
  | .hbm, ⟨78, _⟩ => ⟨S_, .f32⟩
  | .hbm, ⟨79, _⟩ => ⟨S296x512x1024, .f32⟩
  | .hbm, ⟨80, _⟩ => ⟨S296x512x1024, .f32⟩
  | .hbm, ⟨81, _⟩ => ⟨S296x512x1024, .f32⟩
  | .hbm, ⟨82, _⟩ => ⟨S296x512x1024, .f32⟩
  | .hbm, ⟨83, _⟩ => ⟨S296x1x1024, .f32⟩
  | .hbm, ⟨84, _⟩ => ⟨S296x512x1024, .f32⟩
  | .hbm, ⟨85, _⟩ => ⟨S296x512x1024, .f32⟩
  | .hbm, ⟨86, _⟩ => ⟨S296, .i32⟩
  | .hbm, ⟨87, _⟩ => ⟨S296x1x1, .i32⟩
  | .hbm, ⟨88, _⟩ => ⟨S_, .i32⟩
  | .hbm, ⟨89, _⟩ => ⟨S296x1x1, .i32⟩
  | .hbm, ⟨90, _⟩ => ⟨S296x1x1, .i1⟩
  | .hbm, ⟨91, _⟩ => ⟨S_, .f32⟩
  | .hbm, ⟨92, _⟩ => ⟨S_, .f32⟩
  | .hbm, ⟨93, _⟩ => ⟨S296x512x1024, .i1⟩
  | .hbm, ⟨94, _⟩ => ⟨S296x512x1024, .f32⟩
  | .hbm, ⟨95, _⟩ => ⟨S296x512x1024, .f32⟩
  | .hbm, ⟨96, _⟩ => ⟨S151552x1024, .f32⟩
  | .hbm, ⟨97, _⟩ => ⟨S151552x1024, .bf16⟩
  | _, _ => ⟨S296, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_cst_8 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== Kernel3.lean ====
abbrev S33792x1024 : Shape := ⟨2, ![33792, 1024]⟩
abbrev S1024 : Shape := ⟨1, ![1024]⟩
abbrev S4x16x1024 : Shape := ⟨3, ![4, 16, 1024]⟩
abbrev S1024x6400 : Shape := ⟨2, ![1024, 6400]⟩
abbrev S1x1024 : Shape := ⟨2, ![1, 1024]⟩
abbrev S33792x6400 : Shape := ⟨2, ![33792, 6400]⟩
abbrev S768x1024 : Shape := ⟨2, ![768, 1024]⟩
abbrev S1x16x1024 : Shape := ⟨3, ![1, 16, 1024]⟩
abbrev S1024x1280 : Shape := ⟨2, ![1024, 1280]⟩
abbrev S768x1280 : Shape := ⟨2, ![768, 1280]⟩
abbrev S768x1 : Shape := ⟨2, ![768, 1]⟩
abbrev S768 : Shape := ⟨1, ![768]⟩
abbrev S16x1024 : Shape := ⟨2, ![16, 1024]⟩

abbrev nBuf : Space → Nat
  | .hbm => 6
  | .vmem => 10
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S4x16x1024, .f32⟩
  | .hbm, ⟨3, _⟩ => ⟨S1024x6400, .bf16⟩
  | .hbm, ⟨4, _⟩ => ⟨S1x1024, .f32⟩
  | .hbm, ⟨5, _⟩ => ⟨S33792x6400, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x16x1024, .f32⟩
  | .local _ .vmem, ⟨4, _⟩ => ⟨S1x16x1024, .f32⟩
  | .local _ .vmem, ⟨5, _⟩ => ⟨S1024x1280, .bf16⟩
  | .local _ .vmem, ⟨6, _⟩ => ⟨S1024x1280, .bf16⟩
  | .local _ .vmem, ⟨7, _⟩ => ⟨S768x1280, .f32⟩
  | .local _ .vmem, ⟨8, _⟩ => ⟨S768x1280, .f32⟩
  | .local _ .vmem, ⟨9, _⟩ => ⟨S768x1024, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![44, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S33792x1024 : Shape := ⟨2, ![33792, 1024]⟩
abbrev S1024 : Shape := ⟨1, ![1024]⟩
abbrev S4x16x1024 : Shape := ⟨3, ![4, 16, 1024]⟩
abbrev S1024x6400 : Shape := ⟨2, ![1024, 6400]⟩
abbrev S4x8448x1024 : Shape := ⟨3, ![4, 8448, 1024]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x8192x1024 : Shape := ⟨3, ![4, 8192, 1024]⟩
abbrev S4x1x1024 : Shape := ⟨3, ![4, 1, 1024]⟩
abbrev S4x256x1024 : Shape := ⟨3, ![4, 256, 1024]⟩
abbrev S4x8448x6400 : Shape := ⟨3, ![4, 8448, 6400]⟩
abbrev S33792x6400 : Shape := ⟨2, ![33792, 6400]⟩

abbrev nBuf : Space → Nat
  | .hbm => 45
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S4x16x1024, .f32⟩
  | .hbm, ⟨3, _⟩ => ⟨S1024x6400, .bf16⟩
  | .hbm, ⟨4, _⟩ => ⟨S4x8448x1024, .f32⟩
  | .hbm, ⟨5, _⟩ => ⟨S4x8448x1024, .f32⟩
  | .hbm, ⟨6, _⟩ => ⟨S_, .f32⟩
  | .hbm, ⟨7, _⟩ => ⟨S4x8448, .f32⟩
  | .hbm, ⟨8, _⟩ => ⟨S4x8448x1, .f32⟩
  | .hbm, ⟨9, _⟩ => ⟨S_, .f32⟩
  | .hbm, ⟨10, _⟩ => ⟨S4x8448x1, .f32⟩
  | .hbm, ⟨11, _⟩ => ⟨S4x8448x1, .f32⟩
  | .hbm, ⟨12, _⟩ => ⟨S_, .f32⟩
  | .hbm, ⟨13, _⟩ => ⟨S4x8448x1, .f32⟩
  | .hbm, ⟨14, _⟩ => ⟨S4x8448x1, .f32⟩
  | .hbm, ⟨15, _⟩ => ⟨S4x8448x1, .f32⟩
  | .hbm, ⟨16, _⟩ => ⟨S4x8448x1024, .f32⟩
  | .hbm, ⟨17, _⟩ => ⟨S4x8448x1024, .f32⟩
  | .hbm, ⟨18, _⟩ => ⟨S1x1x1024, .f32⟩
  | .hbm, ⟨19, _⟩ => ⟨S4x8448x1024, .f32⟩
  | .hbm, ⟨20, _⟩ => ⟨S4x8448x1024, .f32⟩
  | .hbm, ⟨21, _⟩ => ⟨S4x8192x1024, .f32⟩
  | .hbm, ⟨22, _⟩ => ⟨S4x1x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x256x1024, .f32⟩
  | .hbm, ⟨32, _⟩ => ⟨S4x1x1024, .f32⟩
  | .hbm, ⟨33, _⟩ => ⟨S4x1x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x256x1024, .f32⟩
  | .hbm, ⟨38, _⟩ => ⟨S4x256x1024, .f32⟩
  | .hbm, ⟨39, _⟩ => ⟨S4x256x1024, .f32⟩
  | .hbm, ⟨40, _⟩ => ⟨S4x256x1024, .f32⟩
  | .hbm, ⟨41, _⟩ => ⟨S4x8448x1024, .f32⟩
  | .hbm, ⟨42, _⟩ => ⟨S1024x6400, .f32⟩
  | .hbm, ⟨43, _⟩ => ⟨S4x8448x6400, .f32⟩
  | .hbm, ⟨44, _⟩ => ⟨S33792x6400, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel4.lean ====
abbrev S33792x1024 : Shape := ⟨2, ![33792, 1024]⟩
abbrev S2048x1024 : Shape := ⟨2, ![2048, 1024]⟩
abbrev S4x16x1024 : Shape := ⟨3, ![4, 16, 1024]⟩
abbrev S768x1024 : Shape := ⟨2, ![768, 1024]⟩
abbrev S1x16x1024 : Shape := ⟨3, ![1, 16, 1024]⟩
abbrev S768x1 : Shape := ⟨2, ![768, 1]⟩
abbrev S16x1024 : Shape := ⟨2, ![16, 1024]⟩
abbrev S1x1024 : Shape := ⟨2, ![1, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S33792x1024, .bf16⟩
  | .hbm, ⟨1, _⟩ => ⟨S33792x1024, .bf16⟩
  | .hbm, ⟨2, _⟩ => ⟨S2048x1024, .bf16⟩
  | .hbm, ⟨3, _⟩ => ⟨S33792x1024, .f32⟩
  | .hbm, ⟨4, _⟩ => ⟨S4x16x1024, .f32⟩
  | .hbm, ⟨5, _⟩ => ⟨S33792x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S2048x1024, .bf16⟩
  | .local _ .vmem, ⟨5, _⟩ => ⟨S768x1024, .f32⟩
  | .local _ .vmem, ⟨6, _⟩ => ⟨S768x1024, .f32⟩
  | .local _ .vmem, ⟨7, _⟩ => ⟨S1x16x1024, .f32⟩
  | .local _ .vmem, ⟨8, _⟩ => ⟨S1x16x1024, .f32⟩
  | .local _ .vmem, ⟨9, _⟩ => ⟨S768x1024, .f32⟩
  | .local _ .vmem, ⟨10, _⟩ => ⟨S768x1024, .f32⟩
  | _, _ => ⟨S33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel4Ideal.lean ====
abbrev S33792x1024 : Shape := ⟨2, ![33792, 1024]⟩
abbrev S2048x1024 : Shape := ⟨2, ![2048, 1024]⟩
abbrev S4x16x1024 : Shape := ⟨3, ![4, 16, 1024]⟩
abbrev S768x1024 : Shape := ⟨2, ![768, 1024]⟩
abbrev S1x16x1024 : Shape := ⟨3, ![1, 16, 1024]⟩
abbrev S768x1 : Shape := ⟨2, ![768, 1]⟩
abbrev S16x1024 : Shape := ⟨2, ![16, 1024]⟩
abbrev S1x1024 : Shape := ⟨2, ![1, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S33792x1024, .bf16⟩
  | .hbm, ⟨1, _⟩ => ⟨S33792x1024, .bf16⟩
  | .hbm, ⟨2, _⟩ => ⟨S2048x1024, .bf16⟩
  | .hbm, ⟨3, _⟩ => ⟨S33792x1024, .f32⟩
  | .hbm, ⟨4, _⟩ => ⟨S4x16x1024, .f32⟩
  | .hbm, ⟨5, _⟩ => ⟨S33792x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S2048x1024, .bf16⟩
  | .local _ .vmem, ⟨5, _⟩ => ⟨S768x1024, .f32⟩
  | .local _ .vmem, ⟨6, _⟩ => ⟨S768x1024, .f32⟩
  | .local _ .vmem, ⟨7, _⟩ => ⟨S1x16x1024, .f32⟩
  | .local _ .vmem, ⟨8, _⟩ => ⟨S1x16x1024, .f32⟩
  | .local _ .vmem, ⟨9, _⟩ => ⟨S768x1024, .f32⟩
  | .local _ .vmem, ⟨10, _⟩ => ⟨S768x1024, .f32⟩
  | _, _ => ⟨S33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S33792x1024 : Shape := ⟨2, ![33792, 1024]⟩
abbrev S2048x1024 : Shape := ⟨2, ![2048, 1024]⟩
abbrev S4x16x1024 : Shape := ⟨3, ![4, 16, 1024]⟩
abbrev S33792x2048 : Shape := ⟨2, ![33792, 2048]⟩
abbrev S4x8448x1024 : Shape := ⟨3, ![4, 8448, 1024]⟩
abbrev S4x8192x1024 : Shape := ⟨3, ![4, 8192, 1024]⟩
abbrev S4x1x1024 : Shape := ⟨3, ![4, 1, 1024]⟩
abbrev S4x256x1024 : Shape := ⟨3, ![4, 256, 1024]⟩

abbrev nBuf : Space → Nat
  | .hbm => 25
  | .vmem => 0
  | .smem => 0
  | _ => 0

abbrev bufTy : (tb : Table) → Fin (tcTables nBuf tb) → BufTy
  | .hbm, ⟨0, _⟩ => ⟨S33792x1024, .bf16⟩
  | .hbm, ⟨1, _⟩ => ⟨S33792x1024, .bf16⟩
  | .hbm, ⟨2, _⟩ => ⟨S2048x1024, .bf16⟩
  | .hbm, ⟨3, _⟩ => ⟨S33792x1024, .f32⟩
  | .hbm, ⟨4, _⟩ => ⟨S4x16x1024, .f32⟩
  | .hbm, ⟨5, _⟩ => ⟨S33792x2048, .bf16⟩
  | .hbm, ⟨6, _⟩ => ⟨S33792x2048, .f32⟩
  | .hbm, ⟨7, _⟩ => ⟨S2048x1024, .f32⟩
  | .hbm, ⟨8, _⟩ => ⟨S33792x1024, .f32⟩
  | .hbm, ⟨9, _⟩ => ⟨S4x8448x1024, .f32⟩
  | .hbm, ⟨10, _⟩ => ⟨S4x8448x1024, .f32⟩
  | .hbm, ⟨11, _⟩ => ⟨S4x8192x1024, .f32⟩
  | .hbm, ⟨12, _⟩ => ⟨S4x1x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x256x1024, .f32⟩
  | .hbm, ⟨18, _⟩ => ⟨S4x1x1024, .f32⟩
  | .hbm, ⟨19, _⟩ => ⟨S4x256x1024, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S4x8448x1024, .f32⟩
  | .hbm, ⟨24, _⟩ => ⟨S33792x1024, .f32⟩
  | _, _ => ⟨S33792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel5.lean ====
abbrev S33792x512 : Shape := ⟨2, ![33792, 512]⟩
abbrev S1024x1024 : Shape := ⟨2, ![1024, 1024]⟩
abbrev S33792x1024 : Shape := ⟨2, ![33792, 1024]⟩
abbrev S4x16x1024 : Shape := ⟨3, ![4, 16, 1024]⟩
abbrev S768x512 : Shape := ⟨2, ![768, 512]⟩
abbrev S768x1024 : Shape := ⟨2, ![768, 1024]⟩
abbrev S1x16x1024 : Shape := ⟨3, ![1, 16, 1024]⟩
abbrev S768x1 : Shape := ⟨2, ![768, 1]⟩
abbrev S16x1024 : Shape := ⟨2, ![16, 1024]⟩
abbrev S1x1024 : Shape := ⟨2, ![1, 1024]⟩
abbrev S512x1024 : Shape := ⟨2, ![512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S33792x512, .bf16⟩
  | .hbm, ⟨1, _⟩ => ⟨S33792x512, .bf16⟩
  | .hbm, ⟨2, _⟩ => ⟨S1024x1024, .bf16⟩
  | .hbm, ⟨3, _⟩ => ⟨S33792x1024, .f32⟩
  | .hbm, ⟨4, _⟩ => ⟨S4x16x1024, .f32⟩
  | .hbm, ⟨5, _⟩ => ⟨S33792x1024, .f32⟩
  | .local _ .vmem, ⟨0, _⟩ => ⟨S768x512, .bf16⟩
  | .local _ .vmem, ⟨1, _⟩ => ⟨S768x512, .bf16⟩
  | .local _ .vmem, ⟨2, _⟩ => ⟨S768x512, .bf16⟩
  | .local _ .vmem, ⟨3, _⟩ => ⟨S768x512, .bf16⟩
  | .local _ .vmem, ⟨4, _⟩ => ⟨S1024x1024, .bf16⟩
  | .local _ .vmem, ⟨5, _⟩ => ⟨S768x1024, .f32⟩
  | .local _ .vmem, ⟨6, _⟩ => ⟨S768x1024, .f32⟩
  | .local _ .vmem, ⟨7, _⟩ => ⟨S1x16x1024, .f32⟩
  | .local _ .vmem, ⟨8, _⟩ => ⟨S1x16x1024, .f32⟩
  | .local _ .vmem, ⟨9, _⟩ => ⟨S768x1024, .f32⟩
  | .local _ .vmem, ⟨10, _⟩ => ⟨S768x1024, .f32⟩
  | _, _ => ⟨S33792x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S33792x512 : Shape := ⟨2, ![33792, 512]⟩
abbrev S1024x1024 : Shape := ⟨2, ![1024, 1024]⟩
abbrev S33792x1024 : Shape := ⟨2, ![33792, 1024]⟩
abbrev S4x16x1024 : Shape := ⟨3, ![4, 16, 1024]⟩
abbrev S4x8448x1024 : Shape := ⟨3, ![4, 8448, 1024]⟩
abbrev S4x8192x1024 : Shape := ⟨3, ![4, 8192, 1024]⟩
abbrev S4x1x1024 : Shape := ⟨3, ![4, 1, 1024]⟩
abbrev S4x256x1024 : Shape := ⟨3, ![4, 256, 1024]⟩

abbrev nBuf : Space → Nat
  | .hbm => 25
  | .vmem => 0
  | .smem => 0
  | _ => 0

abbrev bufTy : (tb : Table) → Fin (tcTables nBuf tb) → BufTy
  | .hbm, ⟨0, _⟩ => ⟨S33792x512, .bf16⟩
  | .hbm, ⟨1, _⟩ => ⟨S33792x512, .bf16⟩
  | .hbm, ⟨2, _⟩ => ⟨S1024x1024, .bf16⟩
  | .hbm, ⟨3, _⟩ => ⟨S33792x1024, .f32⟩
  | .hbm, ⟨4, _⟩ => ⟨S4x16x1024, .f32⟩
  | .hbm, ⟨5, _⟩ => ⟨S33792x1024, .bf16⟩
  | .hbm, ⟨6, _⟩ => ⟨S33792x1024, .f32⟩
  | .hbm, ⟨7, _⟩ => ⟨S1024x1024, .f32⟩
  | .hbm, ⟨8, _⟩ => ⟨S33792x1024, .f32⟩
  | .hbm, ⟨9, _⟩ => ⟨S4x8448x1024, .f32⟩
  | .hbm, ⟨10, _⟩ => ⟨S4x8448x1024, .f32⟩
  | .hbm, ⟨11, _⟩ => ⟨S4x8192x1024, .f32⟩
  | .hbm, ⟨12, _⟩ => ⟨S4x1x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x256x1024, .f32⟩
  | .hbm, ⟨18, _⟩ => ⟨S4x1x1024, .f32⟩
  | .hbm, ⟨19, _⟩ => ⟨S4x256x1024, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S4x8448x1024, .f32⟩
  | .hbm, ⟨24, _⟩ => ⟨S33792x1024, .f32⟩
  | _, _ => ⟨S33792x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel6.lean ====
abbrev S33792x1024 : Shape := ⟨2, ![33792, 1024]⟩
abbrev S1024 : Shape := ⟨1, ![1024]⟩
abbrev S4x16x1024 : Shape := ⟨3, ![4, 16, 1024]⟩
abbrev S1024x3072 : Shape := ⟨2, ![1024, 3072]⟩
abbrev S2x64 : Shape := ⟨2, ![2, 64]⟩
abbrev S8192x64 : Shape := ⟨2, ![8192, 64]⟩
abbrev S_ : Shape := ⟨0, ![]⟩
abbrev S256x64 : Shape := ⟨2, ![256, 64]⟩
abbrev S8448x64 : Shape := ⟨2, ![8448, 64]⟩
abbrev S64 : Shape := ⟨1, ![64]⟩
abbrev S1x64 : Shape := ⟨2, ![1, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S512 : Shape := ⟨1, ![512]⟩
abbrev S8x64 : Shape := ⟨2, ![8, 64]⟩
abbrev S1x512 : Shape := ⟨2, ![1, 512]⟩
abbrev S6x512 : Shape := ⟨2, ![6, 512]⟩
abbrev S6x1x512 : Shape := ⟨3, ![6, 1, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S33792x3072 : Shape := ⟨2, ![33792, 3072]⟩
abbrev S768x1024 : Shape := ⟨2, ![768, 1024]⟩
abbrev S1x16x1024 : Shape := ⟨3, ![1, 16, 1024]⟩
abbrev S1024x512 : Shape := ⟨2, ![1024, 512]⟩
abbrev S1x1x512 : Shape := ⟨3, ![1, 1, 512]⟩
abbrev S768x128 : Shape := ⟨2, ![768, 128]⟩
abbrev S768x512 : Shape := ⟨2, ![768, 512]⟩
abbrev S768x1 : Shape := ⟨2, ![768, 1]⟩
abbrev S768 : Shape := ⟨1, ![768]⟩
abbrev S16x1024 : Shape := ⟨2, ![16, 1024]⟩
abbrev S768x256 : Shape := ⟨2, ![768, 256]⟩

abbrev nBuf : Space → Nat
  | .hbm => 136
  | .vmem => 19
  | .smem => 0
  | _ => 0

abbrev hbmTy0_0 (i : Nat) : BufTy := match i % 128 with
  | 0 => ⟨S33792x1024, .f32⟩
  | 1 => ⟨S1024, .f32⟩
  | 2 => ⟨S4x16x1024, .f32⟩
  | 3 => ⟨S1024x3072, .bf16⟩
  | 4 => ⟨S2x64, .f32⟩
  | 5 => ⟨S2x64, .f32⟩
  | 6 => ⟨S8192x64, .f32⟩
  | 7 => ⟨S8192x64, .f32⟩
  | 8 => ⟨S_, .f32⟩
  | 9 => ⟨S256x64, .f32⟩
  | 10 => ⟨S8448x64, .f32⟩
  | 11 => ⟨S_, .f32⟩
  | 12 => ⟨S256x64, .f32⟩
  | 13 => ⟨S8448x64, .f32⟩
  | 14 => ⟨S64, .i32⟩
  | 15 => ⟨S_, .i32⟩
  | 16 => ⟨S_, .i32⟩
  | 17 => ⟨S64, .i32⟩
  | 18 => ⟨S64, .i32⟩
  | 19 => ⟨S64, .i32⟩
  | 20 => ⟨S_, .i32⟩
  | 21 => ⟨S64, .i32⟩
  | 22 => ⟨S64, .i1⟩
  | 23 => ⟨S64, .i32⟩
  | 24 => ⟨S64, .i32⟩
  | 25 => ⟨S_, .i32⟩
  | 26 => ⟨S64, .i32⟩
  | 27 => ⟨S64, .i1⟩
  | 28 => ⟨S64, .i1⟩
  | 29 => ⟨S_, .i32⟩
  | 30 => ⟨S64, .i32⟩
  | 31 => ⟨S64, .i32⟩
  | 32 => ⟨S64, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S64, .i32⟩
  | 40 => ⟨S64, .i32⟩
  | 41 => ⟨S_, .i32⟩
  | 42 => ⟨S64, .i32⟩
  | 43 => ⟨S64, .i1⟩
  | 44 => ⟨S_, .i32⟩
  | 45 => ⟨S64, .i32⟩
  | 46 => ⟨S64, .i1⟩
  | 47 => ⟨S_, .i32⟩
  | 48 => ⟨S_, .i1⟩
  | 49 => ⟨S64, .i1⟩
  | 50 => ⟨S64, .i1⟩
  | 51 => ⟨S64, .i1⟩
  | 52 => ⟨S64, .i32⟩
  | 53 => ⟨S64, .i32⟩
  | 54 => ⟨S64, .i32⟩
  | 55 => ⟨S_, .i32⟩
  | 56 => ⟨S64, .i32⟩
  | 57 => ⟨S64, .i1⟩
  | 58 => ⟨S1x64, .i1⟩
  | 59 => ⟨S8448x64, .f32⟩
  | 60 => ⟨S_, .f32⟩
  | 61 => ⟨S_, .f32⟩
  | 62 => ⟨S8448x64, .i1⟩
  | 63 => ⟨S8448x64, .f32⟩
  | 64 => ⟨S8448x64, .f32⟩
  | 65 => ⟨S_, .f32⟩
  | 66 => ⟨S_, .f32⟩
  | 67 => ⟨S8448x64, .i1⟩
  | 68 => ⟨S8448x64, .f32⟩
  | 69 => ⟨S8448x64, .f32⟩
  | 70 => ⟨S1x8448x1x64, .f32⟩
  | 71 => ⟨S1x8448x2x64, .f32⟩
  | 72 => ⟨S8448x128, .f32⟩
  | 73 => ⟨S1x8448x1x64, .f32⟩
  | 74 => ⟨S1x8448x2x64, .f32⟩
  | 75 => ⟨S8448x128, .f32⟩
  | 76 => ⟨S1x8448x1x64, .f32⟩
  | 77 => ⟨S1x8448x2x64, .f32⟩
  | 78 => ⟨S8448x128, .f32⟩
  | 79 => ⟨S_, .f32⟩
  | 80 => ⟨S512, .f32⟩
  | 81 => ⟨S1x64, .f32⟩
  | 82 => ⟨S64, .f32⟩
  | 83 => ⟨S1x64, .f32⟩
  | 84 => ⟨S8x64, .f32⟩
  | 85 => ⟨S512, .f32⟩
  | 86 => ⟨S1x64, .f32⟩
  | 87 => ⟨S64, .f32⟩
  | 88 => ⟨S1x64, .f32⟩
  | 89 => ⟨S8x64, .f32⟩
  | 90 => ⟨S512, .f32⟩
  | 91 => ⟨S1x64, .f32⟩
  | 92 => ⟨S64, .f32⟩
  | 93 => ⟨S1x64, .f32⟩
  | 94 => ⟨S8x64, .f32⟩
  | 95 => ⟨S512, .f32⟩
  | 96 => ⟨S1x64, .f32⟩
  | 97 => ⟨S64, .f32⟩
  | 98 => ⟨S1x64, .f32⟩
  | 99 => ⟨S8x64, .f32⟩
  | 100 => ⟨S512, .f32⟩
  | 101 => ⟨S1x512, .f32⟩
  | 102 => ⟨S1x512, .f32⟩
  | 103 => ⟨S1x512, .f32⟩
  | 104 => ⟨S1x512, .f32⟩
  | 105 => ⟨S1x512, .f32⟩
  | 106 => ⟨S1x512, .f32⟩
  | 107 => ⟨S6x512, .f32⟩
  | 108 => ⟨S6x1x512, .f32⟩
  | 109 => ⟨S256, .i32⟩
  | 110 => ⟨S_, .i32⟩
  | 111 => ⟨S_, .i32⟩
  | 112 => ⟨S256, .i32⟩
  | 113 => ⟨S256, .i32⟩
  | 114 => ⟨S256, .i32⟩
  | 115 => ⟨S_, .i32⟩
  | 116 => ⟨S256, .i32⟩
  | 117 => ⟨S256, .i1⟩
  | 118 => ⟨S256, .i32⟩
  | 119 => ⟨S256, .i32⟩
  | 120 => ⟨S_, .i32⟩
  | 121 => ⟨S256, .i32⟩
  | 122 => ⟨S256, .i1⟩
  | 123 => ⟨S256, .i1⟩
  | 124 => ⟨S_, .i32⟩
  | 125 => ⟨S256, .i32⟩
  | 126 => ⟨S256, .i32⟩
  | 127 => ⟨S256, .i32⟩
  | _ => ⟨S33792x1024, .f32⟩

abbrev hbmTy0_1 (i : Nat) : BufTy := match i % 128 with
  | 0 => ⟨S256x1, .i32⟩
  | 1 => ⟨S1x256, .i32⟩
  | 2 => ⟨S256x256, .i32⟩
  | 3 => ⟨S256x256, .i32⟩
  | 4 => ⟨S256x256, .i1⟩
  | 5 => ⟨S256x256, .bf16⟩
  | 6 => ⟨S1x1024, .f32⟩
  | 7 => ⟨S33792x3072, .bf16⟩
  | _ => ⟨S33792x1024, .f32⟩

abbrev hbmTy (i : Nat) : BufTy := match i / 128 with
  | 0 => hbmTy0_0 i
  | 1 => hbmTy0_1 i
  | _ => ⟨S33792x1024, .f32⟩

abbrev bufTy : (tb : Table) → Fin (tcTables nBuf tb) → BufTy
  | .hbm, ⟨i, _⟩ => hbmTy i
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S1x16x1024, .f32⟩
  | .local _ .vmem, ⟨4, _⟩ => ⟨S1x16x1024, .f32⟩
  | .local _ .vmem, ⟨5, _⟩ => ⟨S1024x512, .bf16⟩
  | .local _ .vmem, ⟨6, _⟩ => ⟨S1024x512, .bf16⟩
  | .local _ .vmem, ⟨7, _⟩ => ⟨S1x1x512, .f32⟩
  | .local _ .vmem, ⟨8, _⟩ => ⟨S1x1x512, .f32⟩
  | .local _ .vmem, ⟨9, _⟩ => ⟨S256x256, .bf16⟩
  | .local _ .vmem, ⟨10, _⟩ => ⟨S768x128, .f32⟩
  | .local _ .vmem, ⟨11, _⟩ => ⟨S768x128, .f32⟩
  | .local _ .vmem, ⟨12, _⟩ => ⟨S768x128, .f32⟩
  | .local _ .vmem, ⟨13, _⟩ => ⟨S768x128, .f32⟩
  | .local _ .vmem, ⟨14, _⟩ => ⟨S768x128, .f32⟩
  | .local _ .vmem, ⟨15, _⟩ => ⟨S768x128, .f32⟩
  | .local _ .vmem, ⟨16, _⟩ => ⟨S768x512, .bf16⟩
  | .local _ .vmem, ⟨17, _⟩ => ⟨S768x512, .bf16⟩
  | .local _ .vmem, ⟨18, _⟩ => ⟨S768x1024, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v5 : Ref sig .tc := ⟨.hbm, 32, rfl⟩
abbrev main_c_1 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v6 : Ref sig .tc := ⟨.hbm, 54, rfl⟩
abbrev main_c_2 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_cst_3 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v11 : Ref sig .tc := ⟨.hbm, 64, rfl⟩
abbrev main_cst_4 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_5 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_c_6 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_c : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_0 : Ref sig .tc := ⟨.hbm, 124, rfl⟩
abbrev main_call4_v12 : Ref sig .tc := ⟨.hbm, 125, rfl⟩
abbrev main_call4_v13 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![44, 6], ![false, false]⟩

def k0_cond2 (i : grid0.Coords) : BitVec 1 :=
  let arg1 : BitVec 32 := BitVec.ofNat 32 (i 1).val
  let c0_i32_4 : BitVec 32 := 0#32
  let v6 : BitVec 1 := Scalar.cmpi .eq arg1 c0_i32_4
  let c1_i32 : BitVec 32 := 1#32
  let v7 : BitVec 1 := Scalar.cmpi .eq arg1 c1_i32
  let v8 : BitVec 1 := Scalar.ori v6 v7
  let c3_i32 : BitVec 32 := 3#32
  let v9 : BitVec 1 := Scalar.cmpi .eq arg1 c3_i32
  let v10 : BitVec 1 := Scalar.ori v8 v9
  let c4_i32 : BitVec 32 := 4#32
  let v11 : BitVec 1 := Scalar.cmpi .eq arg1 c4_i32
  let v12 : BitVec 1 := Scalar.ori v10 v11
  let v_true : BitVec 1 := 1#1
  let v16 : BitVec 1 := Scalar.xori v12 v_true
  let v17 : BitVec 32 := Scalar.extui v16
  let c0_i32_7 : BitVec 32 := 0#32
  let v18 : BitVec 1 := Scalar.cmpi .ne v17 c0_i32_7
  v18

def k0_cond3 (i : grid0.Coords) : BitVec 1 :=
  let arg1 : BitVec 32 := BitVec.ofNat 32 (i 1).val
  let c0_i32_4 : BitVec 32 := 0#32
  let v6 : BitVec 1 := Scalar.cmpi .eq arg1 c0_i32_4
  let c1_i32 : BitVec 32 := 1#32
  let v7 : BitVec 1 := Scalar.cmpi .eq arg1 c1_i32
  let v8 : BitVec 1 := Scalar.ori v6 v7
  let c3_i32 : BitVec 32 := 3#32
  let v9 : BitVec 1 := Scalar.cmpi .eq arg1 c3_i32
  let v10 : BitVec 1 := Scalar.ori v8 v9
  let c4_i32 : BitVec 32 := 4#32
  let v11 : BitVec 1 := Scalar.cmpi .eq arg1 c4_i32
  let v12 : BitVec 1 := Scalar.ori v10 v11
  let c3_i32_5 : BitVec 32 := 3#32
  let v13 : BitVec 1 := Scalar.cmpi .eq arg1 c3_i32_5
  let c4_i32_6 : BitVec 32 := 4#32
  let v14 : BitVec 1 := Scalar.cmpi .eq arg1 c4_i32_6
  let v15 : BitVec 1 := Scalar.ori v13 v14
  let true_8 : BitVec 1 := 1#1
  let v19 : BitVec 1 := Scalar.xori v15 true_8
  let v20 : BitVec 1 := Scalar.andi v12 v19
  let v21 : BitVec 32 := Scalar.extui v20
  let c0_i32_9 : BitVec 32 := 0#32
  let v22 : BitVec 1 := Scalar.cmpi .ne v21 c0_i32_9
  v22

def k0_cond4 (i : grid0.Coords) : BitVec 1 :=
  let arg1 : BitVec 32 := BitVec.ofNat 32 (i 1).val
  let c3_i32_5 : BitVec 32 := 3#32
  let v13 : BitVec 1 := Scalar.cmpi .eq arg1 c3_i32_5
  let c4_i32_6 : BitVec 32 := 4#32
  let v14 : BitVec 1 := Scalar.cmpi .eq arg1 c4_i32_6
  let v15 : BitVec 1 := Scalar.ori v13 v14
  let v23 : BitVec 32 := Scalar.extui v15
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S33792x1024 : Shape := ⟨2, ![33792, 1024]⟩
abbrev S1024 : Shape := ⟨1, ![1024]⟩
abbrev S4x16x1024 : Shape := ⟨3, ![4, 16, 1024]⟩
abbrev S1024x3072 : Shape := ⟨2, ![1024, 3072]⟩
abbrev S2x64 : Shape := ⟨2, ![2, 64]⟩
abbrev S8192x64 : Shape := ⟨2, ![8192, 64]⟩
abbrev S4x8448x1024 : Shape := ⟨3, ![4, 8448, 1024]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x8192x1024 : Shape := ⟨3, ![4, 8192, 1024]⟩
abbrev S4x1x1024 : Shape := ⟨3, ![4, 1, 1024]⟩
abbrev S4x256x1024 : Shape := ⟨3, ![4, 256, 1024]⟩
abbrev S4x8448x3072 : Shape := ⟨3, ![4, 8448, 3072]⟩
abbrev S4x8448x512 : Shape := ⟨3, ![4, 8448, 512]⟩
abbrev S4x8448x8x64 : Shape := ⟨4, ![4, 8448, 8, 64]⟩
abbrev S1x64 : Shape := ⟨2, ![1, 64]⟩
abbrev S64 : Shape := ⟨1, ![64]⟩
abbrev S4x8448x8 : Shape := ⟨3, ![4, 8448, 8]⟩
abbrev S4x8448x8x1 : Shape := ⟨4, ![4, 8448, 8, 1]⟩
abbrev S1x1x1x64 : Shape := ⟨4, ![1, 1, 1, 64]⟩
abbrev S8192x1x64 : Shape := ⟨3, ![8192, 1, 64]⟩
abbrev S4x8192x8x64 : Shape := ⟨4, ![4, 8192, 8, 64]⟩
abbrev S4x8192x8x16 : Shape := ⟨4, ![4, 8192, 8, 16]⟩
abbrev S1x8192x1x64 : Shape := ⟨4, ![1, 8192, 1, 64]⟩
abbrev S4x256x8x64 : Shape := ⟨4, ![4, 256, 8, 64]⟩
abbrev S33792x3072 : Shape := ⟨2, ![33792, 3072]⟩

abbrev nBuf : Space → Nat
  | .hbm => 177
  | .vmem => 0
  | .smem => 0
  | _ => 0

abbrev hbmTy0_0 (i : Nat) : BufTy := match i % 128 with
  | 0 => ⟨S33792x1024, .f32⟩
  | 1 => ⟨S1024, .f32⟩
  | 2 => ⟨S4x16x1024, .f32⟩
  | 3 => ⟨S1024x3072, .bf16⟩
  | 4 => ⟨S2x64, .f32⟩
  | 5 => ⟨S2x64, .f32⟩
  | 6 => ⟨S8192x64, .f32⟩
  | 7 => ⟨S8192x64, .f32⟩
  | 8 => ⟨S4x8448x1024, .f32⟩
  | 9 => ⟨S4x8448x1024, .f32⟩
  | 10 => ⟨S_, .f32⟩
  | 11 => ⟨S4x8448, .f32⟩
  | 12 => ⟨S4x8448x1, .f32⟩
  | 13 => ⟨S_, .f32⟩
  | 14 => ⟨S4x8448x1, .f32⟩
  | 15 => ⟨S4x8448x1, .f32⟩
  | 16 => ⟨S_, .f32⟩
  | 17 => ⟨S4x8448x1, .f32⟩
  | 18 => ⟨S4x8448x1, .f32⟩
  | 19 => ⟨S4x8448x1, .f32⟩
  | 20 => ⟨S4x8448x1024, .f32⟩
  | 21 => ⟨S4x8448x1024, .f32⟩
  | 22 => ⟨S1x1x1024, .f32⟩
  | 23 => ⟨S4x8448x1024, .f32⟩
  | 24 => ⟨S4x8448x1024, .f32⟩
  | 25 => ⟨S4x8192x1024, .f32⟩
  | 26 => ⟨S4x1x1024, .f32⟩
  | 27 => ⟨S4x1x1024, .f32⟩
  | 28 => ⟨S_, .f32⟩
  | 29 => ⟨S4x1x1024, .f32⟩
  | 30 => ⟨S4x1x1024, .f32⟩
  | 31 => ⟨S4x8192x1024, .f32⟩
  | 32 => ⟨S4x8192x1024, .f32⟩
  | 33 => ⟨S4x8192x1024, .f32⟩
  | 34 => ⟨S4x8192x1024, .f32⟩
  | 35 => ⟨S4x256x1024, .f32⟩
  | 36 => ⟨S4x1x1024, .f32⟩
  | 37 => ⟨S4x1x1024, .f32⟩
  | 38 => ⟨S_, .f32⟩
  | 39 => ⟨S4x1x1024, .f32⟩
  | 40 => ⟨S4x1x1024, .f32⟩
  | 41 => ⟨S4x256x1024, .f32⟩
  | 42 => ⟨S4x256x1024, .f32⟩
  | 43 => ⟨S4x256x1024, .f32⟩
  | 44 => ⟨S4x256x1024, .f32⟩
  | 45 => ⟨S4x8448x1024, .f32⟩
  | 46 => ⟨S1024x3072, .f32⟩
  | 47 => ⟨S4x8448x3072, .f32⟩
  | 48 => ⟨S4x8448x512, .f32⟩
  | 49 => ⟨S4x8448x8x64, .f32⟩
  | 50 => ⟨S4x8448x512, .f32⟩
  | 51 => ⟨S4x8448x8x64, .f32⟩
  | 52 => ⟨S4x8448x512, .f32⟩
  | 53 => ⟨S4x8448x8x64, .f32⟩
  | 54 => ⟨S4x8448x512, .f32⟩
  | 55 => ⟨S4x8448x8x64, .f32⟩
  | 56 => ⟨S4x8448x512, .f32⟩
  | 57 => ⟨S4x8448x8x64, .f32⟩
  | 58 => ⟨S4x8448x512, .f32⟩
  | 59 => ⟨S4x8448x8x64, .f32⟩
  | 60 => ⟨S1x64, .f32⟩
  | 61 => ⟨S64, .f32⟩
  | 62 => ⟨S4x8448x8x64, .f32⟩
  | 63 => ⟨S_, .f32⟩
  | 64 => ⟨S4x8448x8, .f32⟩
  | 65 => ⟨S4x8448x8x1, .f32⟩
  | 66 => ⟨S_, .f32⟩
  | 67 => ⟨S4x8448x8x1, .f32⟩
  | 68 => ⟨S4x8448x8x1, .f32⟩
  | 69 => ⟨S_, .f32⟩
  | 70 => ⟨S4x8448x8x1, .f32⟩
  | 71 => ⟨S4x8448x8x1, .f32⟩
  | 72 => ⟨S4x8448x8x1, .f32⟩
  | 73 => ⟨S4x8448x8x64, .f32⟩
  | 74 => ⟨S4x8448x8x64, .f32⟩
  | 75 => ⟨S1x1x1x64, .f32⟩
  | 76 => ⟨S4x8448x8x64, .f32⟩
  | 77 => ⟨S4x8448x8x64, .f32⟩
  | 78 => ⟨S1x64, .f32⟩
  | 79 => ⟨S64, .f32⟩
  | 80 => ⟨S4x8448x8x64, .f32⟩
  | 81 => ⟨S_, .f32⟩
  | 82 => ⟨S4x8448x8, .f32⟩
  | 83 => ⟨S4x8448x8x1, .f32⟩
  | 84 => ⟨S_, .f32⟩
  | 85 => ⟨S4x8448x8x1, .f32⟩
  | 86 => ⟨S4x8448x8x1, .f32⟩
  | 87 => ⟨S_, .f32⟩
  | 88 => ⟨S4x8448x8x1, .f32⟩
  | 89 => ⟨S4x8448x8x1, .f32⟩
  | 90 => ⟨S4x8448x8x1, .f32⟩
  | 91 => ⟨S4x8448x8x64, .f32⟩
  | 92 => ⟨S4x8448x8x64, .f32⟩
  | 93 => ⟨S1x1x1x64, .f32⟩
  | 94 => ⟨S4x8448x8x64, .f32⟩
  | 95 => ⟨S4x8448x8x64, .f32⟩
  | 96 => ⟨S8192x1x64, .f32⟩
  | 97 => ⟨S8192x1x64, .f32⟩
  | 98 => ⟨S1x64, .f32⟩
  | 99 => ⟨S64, .f32⟩
  | 100 => ⟨S4x8448x8x64, .f32⟩
  | 101 => ⟨S_, .f32⟩
  | 102 => ⟨S4x8448x8, .f32⟩
  | 103 => ⟨S4x8448x8x1, .f32⟩
  | 104 => ⟨S_, .f32⟩
  | 105 => ⟨S4x8448x8x1, .f32⟩
  | 106 => ⟨S4x8448x8x1, .f32⟩
  | 107 => ⟨S_, .f32⟩
  | 108 => ⟨S4x8448x8x1, .f32⟩
  | 109 => ⟨S4x8448x8x1, .f32⟩
  | 110 => ⟨S4x8448x8x1, .f32⟩
  | 111 => ⟨S4x8448x8x64, .f32⟩
  | 112 => ⟨S4x8448x8x64, .f32⟩
  | 113 => ⟨S1x1x1x64, .f32⟩
  | 114 => ⟨S4x8448x8x64, .f32⟩
  | 115 => ⟨S4x8448x8x64, .f32⟩
  | 116 => ⟨S4x8192x8x64, .f32⟩
  | 117 => ⟨S4x8192x8x16, .f32⟩
  | 118 => ⟨S4x8192x8x16, .f32⟩
  | 119 => ⟨S4x8192x8x16, .f32⟩
  | 120 => ⟨S4x8192x8x16, .f32⟩
  | 121 => ⟨S4x8192x8x16, .f32⟩
  | 122 => ⟨S4x8192x8x16, .f32⟩
  | 123 => ⟨S4x8192x8x64, .f32⟩
  | 124 => ⟨S1x8192x1x64, .f32⟩
  | 125 => ⟨S4x8192x8x64, .f32⟩
  | 126 => ⟨S4x8192x8x64, .f32⟩
  | 127 => ⟨S1x8192x1x64, .f32⟩
  | _ => ⟨S33792x1024, .f32⟩

abbrev hbmTy0_1 (i : Nat) : BufTy := match i % 128 with
  | 0 => ⟨S4x8192x8x64, .f32⟩
  | 1 => ⟨S4x8192x8x64, .f32⟩
  | 2 => ⟨S4x8192x8x64, .f32⟩
  | 3 => ⟨S4x256x8x64, .f32⟩
  | 4 => ⟨S4x8448x8x64, .f32⟩
  | 5 => ⟨S1x64, .f32⟩
  | 6 => ⟨S64, .f32⟩
  | 7 => ⟨S4x8448x8x64, .f32⟩
  | 8 => ⟨S_, .f32⟩
  | 9 => ⟨S4x8448x8, .f32⟩
  | 10 => ⟨S4x8448x8x1, .f32⟩
  | 11 => ⟨S_, .f32⟩
  | 12 => ⟨S4x8448x8x1, .f32⟩
  | 13 => ⟨S4x8448x8x1, .f32⟩
  | 14 => ⟨S_, .f32⟩
  | 15 => ⟨S4x8448x8x1, .f32⟩
  | 16 => ⟨S4x8448x8x1, .f32⟩
  | 17 => ⟨S4x8448x8x1, .f32⟩
  | 18 => ⟨S4x8448x8x64, .f32⟩
  | 19 => ⟨S4x8448x8x64, .f32⟩
  | 20 => ⟨S1x1x1x64, .f32⟩
  | 21 => ⟨S4x8448x8x64, .f32⟩
  | 22 => ⟨S4x8448x8x64, .f32⟩
  | 23 => ⟨S4x8192x8x64, .f32⟩
  | 24 => ⟨S4x8192x8x16, .f32⟩
  | 25 => ⟨S4x8192x8x16, .f32⟩
  | 26 => ⟨S4x8192x8x16, .f32⟩
  | 27 => ⟨S4x8192x8x16, .f32⟩
  | 28 => ⟨S4x8192x8x16, .f32⟩
  | 29 => ⟨S4x8192x8x16, .f32⟩
  | 30 => ⟨S4x8192x8x64, .f32⟩
  | 31 => ⟨S1x8192x1x64, .f32⟩
  | 32 => ⟨S4x8192x8x64, .f32⟩
  | 33 => ⟨S4x8192x8x64, .f32⟩
  | 34 => ⟨S1x8192x1x64, .f32⟩
  | 35 => ⟨S4x8192x8x64, .f32⟩
  | 36 => ⟨S4x8192x8x64, .f32⟩
  | 37 => ⟨S4x8192x8x64, .f32⟩
  | 38 => ⟨S4x256x8x64, .f32⟩
  | 39 => ⟨S4x8448x8x64, .f32⟩
  | 40 => ⟨S4x8448x512, .f32⟩
  | 41 => ⟨S4x8448x512, .f32⟩
  | 42 => ⟨S4x8448x512, .f32⟩
  | 43 => ⟨S4x8448x512, .f32⟩
  | 44 => ⟨S4x8448x512, .f32⟩
  | 45 => ⟨S4x8448x512, .f32⟩
  | 46 => ⟨S4x8448x3072, .f32⟩
  | 47 => ⟨S33792x3072, .f32⟩
  | 48 => ⟨S33792x3072, .bf16⟩
  | _ => ⟨S33792x1024, .f32⟩

abbrev hbmTy (i : Nat) : BufTy := match i / 128 with
  | 0 => hbmTy0_0 i
  | 1 => hbmTy0_1 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_cst_11 : Ref sig .tc := ⟨.hbm, 104, rfl⟩
abbrev main_v84 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_13 : Ref sig .tc := ⟨.hbm, 136, rfl⟩
abbrev main_v114 : Ref sig .tc := ⟨.hbm, 137, rfl⟩
abbrev main_v115 : Ref sig .tc := ⟨.hbm, 138, rfl⟩
abbrev main_cst_14 : Ref sig .tc := ⟨.hbm, 139, rfl⟩
abbrev main_v116 : Ref sig .tc := ⟨.hbm, 140, rfl⟩
abbrev main_v117 : Ref sig .tc := ⟨.hbm, 141, rfl⟩
abbrev main_cst_15 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩

abbrev nD : Nat := 1
abbrev τ : Topo := Topo.v7x

variable {F : FTy → Type} [FloatOps F]
-- ==== Proof.Model.lean ====
/- What one grid point of the attention kernel computes, spelt as the recurrence it runs: six blocks of 1408 keys, and
   for each the running maximum, denominator and weighted sum of 512 rows (256 queries, once for each half of the head). -/
module

public import proofs.«01_k».proof.Proof.Gen.KernelIdeal.Frame

@[expose] public section

set_option maxRecDepth 16384

noncomputable section

namespace Cert.KernelIdeal.Model

open Cert.KernelIdeal Cert.KernelIdeal.Gen Idealize.ShloMosaic Idealize.SL.Sem

variable {F : FTy → Type} [FloatOps F]

/-- Tile 0 of a block of scores: lanes 0 to 127. -/
abbrev tile0 (S : FVec F S512x1408 .f32) : FVec F S512x128 .f32 :=
  extractStridedSlice S512x128 ![0, 0] S slices_S512x1408_o0_0_S512x128

/-- Tile 1 of a block of scores: lanes 128 to 255. -/
abbrev tile1 (S : FVec F S512x1408 .f32) : FVec F S512x128 .f32 :=
  extractStridedSlice S512x128 ![0, 128] S slices_S512x1408_o0_128_S512x128

/-- Tile 2 of a block of scores: lanes 256 to 383. -/
abbrev tile2 (S : FVec F S512x1408 .f32) : FVec F S512x128 .f32 :=
  extractStridedSlice S512x128 ![0, 256] S slices_S512x1408_o0_256_S512x128

/-- Tile 3 of a block of scores: lanes 384 to 511. -/
abbrev tile3 (S : FVec F S512x1408 .f32) : FVec F S512x128 .f32 :=
  extractStridedSlice S512x128 ![0, 384] S slices_S512x1408_o0_384_S512x128

/-- Tile 4 of a block of scores: lanes 512 to 639. -/
abbrev tile4 (S : FVec F S512x1408 .f32) : FVec F S512x128 .f32 :=
  extractStridedSlice S512x128 ![0, 512] S slices_S512x1408_o0_512_S512x128

/-- Tile 5 of a block of scores: lanes 640 to 767. -/
abbrev tile5 (S : FVec F S512x1408 .f32) : FVec F S512x128 .f32 :=
  extractStridedSlice S512x128 ![0, 640] S slices_S512x1408_o0_640_S512x128

/-- Tile 6 of a block of scores: lanes 768 to 895. -/
abbrev tile6 (S : FVec F S512x1408 .f32) : FVec F S512x128 .f32 :=
  extractStridedSlice S512x128 ![0, 768] S slices_S512x1408_o0_768_S512x128

/-- Tile 7 of a block of scores: lanes 896 to 1023. -/
abbrev tile7 (S : FVec F S512x1408 .f32) : FVec F S512x128 .f32 :=
  extractStridedSlice S512x128 ![0, 896] S slices_S512x1408_o0_896_S512x128

/-- Tile 8 of a block of scores: lanes 1024 to 1151. -/
abbrev tile8 (S : FVec F S512x1408 .f32) : FVec F S512x128 .f32 :=
  extractStridedSlice S512x128 ![0, 1024] S slices_S512x1408_o0_1024_S512x128

/-- Tile 9 of a block of scores: lanes 1152 to 1279. -/
abbrev tile9 (S : FVec F S512x1408 .f32) : FVec F S512x128 .f32 :=
  extractStridedSlice S512x128 ![0, 1152] S slices_S512x1408_o0_1152_S512x128

/-- Tile 10 of a block of scores: lanes 1280 to 1407. -/
abbrev tile10 (S : FVec F S512x1408 .f32) : FVec F S512x128 .f32 :=
  extractStridedSlice S512x128 ![0, 1280] S slices_S512x1408_o0_1280_S512x128

/-- The largest of the eleven tiles, lane by lane. -/
def tileMax (S : FVec F S512x1408 .f32) : FVec F S512x128 .f32 :=
  maximumf (maximumf (maximumf (maximumf (maximumf (maximumf (maximumf (maximumf (maximumf (maximumf (tile0 S) (tile1 S)) (tile2 S)) (tile3 S)) (tile4 S)) (tile5 S)) (tile6 S)) (tile7 S)) (tile8 S)) (tile9 S)) (tile10 S)

/-- A running maximum of the rows after one more block of scores. -/
def mStep (m : FVec F S512x128 .f32) (S : FVec F S512x1408 .f32) : FVec F S512x128 .f32 :=
  maximumf m (broadcastTo S512x128 (shapeCast S512x1 (multiReduction .maximumf [1] S512 (tileMax S) 0xFF800000#32
    reduces_S512x128_S512 (.inl rfl) rfl) shapeCasts_S512_S512x1) broadcasts_S512x1_S512x128)

/-- The weights of the eleven tiles under the maximum `n`, added lane by lane. -/
def tileSum (n : FVec F S512x128 .f32) (S : FVec F S512x1408 .f32) : FVec F S512x128 .f32 :=
  addf (addf (addf (addf (addf (addf (addf (addf (addf (addf (exp (subf (tile0 S) n)) (exp (subf (tile1 S) n))) (exp (subf (tile2 S) n))) (exp (subf (tile3 S) n))) (exp (subf (tile4 S) n))) (exp (subf (tile5 S) n))) (exp (subf (tile6 S) n))) (exp (subf (tile7 S) n))) (exp (subf (tile8 S) n))) (exp (subf (tile9 S) n))) (exp (subf (tile10 S) n))

/-- A running denominator after one more block: rescaled from the maximum `m` to the maximum `n`, plus the block's weights. -/
def lStep (m n : FVec F S512x128 .f32) (S : FVec F S512x1408 .f32) (l : FVec F S512x128 .f32) : FVec F S512x128 .f32 :=
  addf (mulf (exp (subf m n)) l) (broadcastTo S512x128 (shapeCast S512x1 (multiReduction .add [1] S512 (tileSum n S)
    0x00000000#32 reduces_S512x128_S512 (.inl rfl) rfl) shapeCasts_S512_S512x1) broadcasts_S512x1_S512x128)

/-- The block's weights under the maximum `n`, as one matrix of 1408 columns. -/
def weights (n : FVec F S512x128 .f32) (S : FVec F S512x1408 .f32) : FVec F S512x1408 .bf16 :=
  concatenate S512x1408 1 [⟨S512x128, truncf .bf16 (exp (subf (tile0 S) n)) bitsLt_bf16_f32⟩, ⟨S512x128, truncf .bf16 (exp (subf (tile1 S) n)) bitsLt_bf16_f32⟩, ⟨S512x128, truncf .bf16 (exp (subf (tile2 S) n)) bitsLt_bf16_f32⟩, ⟨S512x128, truncf .bf16 (exp (subf (tile3 S) n)) bitsLt_bf16_f32⟩, ⟨S512x128, truncf .bf16 (exp (subf (tile4 S) n)) bitsLt_bf16_f32⟩, ⟨S512x128, truncf .bf16 (exp (subf (tile5 S) n)) bitsLt_bf16_f32⟩, ⟨S512x128, truncf .bf16 (exp (subf (tile6 S) n)) bitsLt_bf16_f32⟩, ⟨S512x128, truncf .bf16 (exp (subf (tile7 S) n)) bitsLt_bf16_f32⟩, ⟨S512x128, truncf .bf16 (exp (subf (tile8 S) n)) bitsLt_bf16_f32⟩, ⟨S512x128, truncf .bf16 (exp (subf (tile9 S) n)) bitsLt_bf16_f32⟩, ⟨S512x128, truncf .bf16 (exp (subf (tile10 S) n)) bitsLt_bf16_f32⟩]
    concatenates_S512x128_S512x128_S512x128_S512x128_S512x128_S512x128_S512x128_S512x128_S512x128_S512x128_S512x128_S512x1408_d1

/-- A running weighted sum of the values after one more block. -/
def aStep (m n : FVec F S512x128 .f32) (S : FVec F S512x1408 .f32) (v : FVec F S1x1408x128 .bf16)
    (a : FVec F S512x128 .f32) : FVec F S512x128 .f32 :=
  addf (mulf (exp (subf m n)) a) (matmul dot_S512x1408_S1408x128_S512x128_1_0_0_1_n_n none (weights n S)
    (shapeCast S1408x128 v shapeCasts_S1x1408x128_S1408x128) (constant S512x128 .f32 0x00000000#32))

/-- The scores of the stacked rows against one block of keys. -/
def scores (q : FVec F S512x128 .bf16) (k : FVec F S1x1408x128 .bf16) : FVec F S512x1408 .f32 :=
  matmul dot_S512x128_S1408x128_S512x1408_1_1_0_0_n_n none q
    (shapeCast S1408x128 k shapeCasts_S1x1408x128_S1408x128) (constant S512x1408 .f32 0x00000000#32)

section Chain

variable (x0 : Vec F S4x64 .f32) (x1 : Vec F S1x128 .f32) (x2 : Vec F S1x256x128 .bf16) (x3 x4 : Vec F S1x8448x128 .bf16)

/-- The stacked and scaled queries of the grid point. -/
def qs : FVec F S512x128 .bf16 := k0_pay2 (View.ld x2 r0_0)

/-- The scores of block 1 of the keys. -/
def s1 : FVec F S512x1408 .f32 := scores (qs x2) (View.ld x3 r0_1)

/-- The scores of block 2 of the keys. -/
def s2 : FVec F S512x1408 .f32 := scores (qs x2) (View.ld x3 r0_2)

/-- The scores of block 3 of the keys. -/
def s3 : FVec F S512x1408 .f32 := scores (qs x2) (View.ld x3 r0_3)

/-- The scores of block 4 of the keys. -/
def s4 : FVec F S512x1408 .f32 := scores (qs x2) (View.ld x3 r0_4)

/-- The scores of block 5 of the keys. -/
def s5 : FVec F S512x1408 .f32 := scores (qs x2) (View.ld x3 r0_5)

/-- The scores of block 6 of the keys. -/
def s6 : FVec F S512x1408 .f32 := scores (qs x2) (View.ld x3 r0_6)

/-- The running maximum after block 1. -/
def m1 : FVec F S512x128 .f32 := mStep (k0_pay3 (F := F)) (s1 x2 x3)

/-- The running maximum after block 2. -/
def m2 : FVec F S512x128 .f32 := mStep (m1 x2 x3) (s2 x2 x3)

/-- The running maximum after block 3. -/
def m3 : FVec F S512x128 .f32 := mStep (m2 x2 x3) (s3 x2 x3)

/-- The running maximum after block 4. -/
def m4 : FVec F S512x128 .f32 := mStep (m3 x2 x3) (s4 x2 x3)

/-- The running maximum after block 5. -/
def m5 : FVec F S512x128 .f32 := mStep (m4 x2 x3) (s5 x2 x3)

/-- The running maximum after block 6. -/
def m6 : FVec F S512x128 .f32 := mStep (m5 x2 x3) (s6 x2 x3)

/-- The running denominator after block 1. -/
def l1 : FVec F S512x128 .f32 := lStep (k0_pay3 (F := F)) (m1 x2 x3) (s1 x2 x3) (k0_pay4 (F := F))

/-- The running denominator after block 2. -/
def l2 : FVec F S512x128 .f32 := lStep (m1 x2 x3) (m2 x2 x3) (s2 x2 x3) (l1 x2 x3)

/-- The running denominator after block 3. -/
def l3 : FVec F S512x128 .f32 := lStep (m2 x2 x3) (m3 x2 x3) (s3 x2 x3) (l2 x2 x3)

/-- The running denominator after block 4. -/
def l4 : FVec F S512x128 .f32 := lStep (m3 x2 x3) (m4 x2 x3) (s4 x2 x3) (l3 x2 x3)

/-- The running denominator after block 5. -/
def l5 : FVec F S512x128 .f32 := lStep (m4 x2 x3) (m5 x2 x3) (s5 x2 x3) (l4 x2 x3)

/-- The running denominator after block 6. -/
def l6 : FVec F S512x128 .f32 := lStep (m5 x2 x3) (m6 x2 x3) (s6 x2 x3) (l5 x2 x3)

/-- The running weighted sum after block 1. -/
def a1 : FVec F S512x128 .f32 := aStep (k0_pay3 (F := F)) (m1 x2 x3) (s1 x2 x3) (View.ld x4 r0_1) (k0_pay5 (F := F))

/-- The running weighted sum after block 2. -/
def a2 : FVec F S512x128 .f32 := aStep (m1 x2 x3) (m2 x2 x3) (s2 x2 x3) (View.ld x4 r0_2) (a1 x2 x3 x4)

/-- The running weighted sum after block 3. -/
def a3 : FVec F S512x128 .f32 := aStep (m2 x2 x3) (m3 x2 x3) (s3 x2 x3) (View.ld x4 r0_3) (a2 x2 x3 x4)

/-- The running weighted sum after block 4. -/
def a4 : FVec F S512x128 .f32 := aStep (m3 x2 x3) (m4 x2 x3) (s4 x2 x3) (View.ld x4 r0_4) (a3 x2 x3 x4)

/-- The running weighted sum after block 5. -/
def a5 : FVec F S512x128 .f32 := aStep (m4 x2 x3) (m5 x2 x3) (s5 x2 x3) (View.ld x4 r0_5) (a4 x2 x3 x4)

/-- The running weighted sum after block 6. -/
def a6 : FVec F S512x128 .f32 := aStep (m5 x2 x3) (m6 x2 x3) (s6 x2 x3) (View.ld x4 r0_6) (a5 x2 x3 x4)

theorem s2_eq : k0_pay183 x0 x1 x2 x3 x4 = s2 x2 x3 := rfl

theorem s3_eq : k0_pay197 x0 x1 x2 x3 x4 = s3 x2 x3 := rfl

theorem s4_eq : k0_pay211 x0 x1 x2 x3 x4 = s4 x2 x3 := rfl

theorem s5_eq : k0_pay222 x0 x1 x2 x3 x4 = s5 x2 x3 := rfl

theorem s6_eq : k0_pay236 x0 x1 x2 x3 x4 = s6 x2 x3 := rfl

theorem m1_eq : k0_pay196 x0 x1 x2 x3 x4 = m1 x2 x3 := rfl

theorem m2_eq : k0_pay201 x0 x1 x2 x3 x4 = m2 x2 x3 := rfl

theorem m3_eq : k0_pay221 x0 x1 x2 x3 x4 = m3 x2 x3 := rfl

theorem m4_eq : k0_pay230 x0 x1 x2 x3 x4 = m4 x2 x3 := rfl

theorem m5_eq : k0_pay238 x0 x1 x2 x3 x4 = m5 x2 x3 := rfl

theorem m6_eq : k0_pay249 x0 x1 x2 x3 x4 = m6 x2 x3 := rfl

/-- The denominator before the last block, as the frame names it. -/
theorem l5_eq : k0_pay239 x0 x1 x2 x3 x4 = l5 x2 x3 := rfl

/-- The weighted sum before the last block, as the frame names it. -/
theorem a5_eq : k0_pay240 x0 x1 x2 x3 x4 = a5 x2 x3 x4 := rfl

/-- The rows' result: the weighted sum over the denominator. -/
def o : FVec F S512x128 .f32 := divf (a6 x2 x3 x4) (l6 x2 x3)

end Chain

end Cert.KernelIdeal.Model

end
-- ==== Proof.Softmax.lean ====
/- The arithmetic of a softmax taken block by block, over the extended reals: nothing here is about a program. -/
module

public import Idealize.ShloMosaic.PureOps.Ideal
public import Idealize.ShloMosaic.PureOps.Ideal.Laws
public import Idealize.ShloMosaic.Lib.Pointwise

@[expose] public section

noncomputable section

namespace Cert.Softmax

open Idealize.ShloMosaic

variable {U K : Type} [Fintype K] [DecidableEq U]

/-- A finite sum of reals, read as an extended real, is the sum of the readings. -/
theorem coe_sum {ι : Type} (D : Finset ι) (f : ι → ℝ) :
    ((∑ i ∈ D, f i : ℝ) : EReal) = ∑ i ∈ D, (f i : EReal) := by
  classical
  induction D using Finset.induction_on with
  | empty => simp
  | insert a D h ih => rw [Finset.sum_insert h, Finset.sum_insert h, EReal.coe_add, ih]

/-- The weight of a score `s` under the running maximum `m`, as a real number. -/
def wt (s m : EReal) : ℝ := (Ideal.exp (s - m)).toReal

/-- The exponential of anything below `⊤` is a nonnegative real. -/
theorem exp_coe {x : EReal} (h : x ≠ ⊤) : ∃ r : ℝ, 0 ≤ r ∧ Ideal.exp x = (r : EReal) := by
  induction x with
  | bot => exact ⟨0, le_rfl, rfl⟩
  | coe r => exact ⟨Real.exp r, (Real.exp_pos r).le, rfl⟩
  | top => exact absurd rfl h

/-- A score at most the maximum differs from it by something below `⊤`. -/
theorem sub_ne_top {s m : EReal} (h : s ≤ m) : s - m ≠ ⊤ := by
  induction m with
  | bot => rw [le_bot_iff.mp h]; decide
  | top => rw [EReal.sub_top]; decide
  | coe r =>
    induction s with
    | bot => rw [EReal.bot_sub]; decide
    | coe q => rw [← EReal.coe_sub]; exact EReal.coe_ne_top _
    | top => exact absurd (top_le_iff.mp h) (EReal.coe_ne_top r)

/-- The exponential of the difference is the weight. -/
theorem exp_eq_wt {s m : EReal} (h : s ≤ m) : Ideal.exp (s - m) = (wt s m : EReal) := by
  obtain ⟨r, _, hr⟩ := exp_coe (sub_ne_top h)
  rw [wt, hr, EReal.toReal_coe]

/-- A weight is not negative. -/
theorem wt_nonneg {s m : EReal} (h : s ≤ m) : 0 ≤ wt s m := by
  obtain ⟨r, h0, hr⟩ := exp_coe (sub_ne_top h)
  rw [wt, hr, EReal.toReal_coe]; exact h0

/-- A real score under a real maximum has a positive weight. -/
theorem wt_coe (s m : ℝ) : wt (s : EReal) (m : EReal) = Real.exp (s - m) := by
  rw [wt, ← EReal.coe_sub]; rfl

/-- The exponential of `⊥` is zero. -/
theorem exp_bot : Ideal.exp ⊥ = 0 := rfl

/-- Passing from one maximum to a larger one multiplies a weight by the weight of the old maximum. -/
theorem wt_mul {s m n : EReal} (h : s ≤ m) (h' : m ≤ n) : wt m n * wt s m = wt s n := by
  induction n with
  | bot =>
    obtain rfl := le_bot_iff.mp h'
    obtain rfl := le_bot_iff.mp h
    simp [wt, exp_bot]
  | top => simp [wt, exp_bot, EReal.sub_top]
  | coe n =>
    induction m with
    | top => exact absurd (top_le_iff.mp h') (EReal.coe_ne_top n)
    | bot => obtain rfl := le_bot_iff.mp h; simp [wt, exp_bot]
    | coe m =>
      induction s with
      | top => exact absurd (top_le_iff.mp h) (EReal.coe_ne_top m)
      | bot => simp [wt, exp_bot]
      | coe s => rw [wt_coe, wt_coe, wt_coe, ← Real.exp_add]; congr 1; ring

/-- The largest score of one block of keys. -/
def blockTop (s : K → EReal) : EReal := Finset.univ.sup s

theorem le_blockTop (s : K → EReal) (k : K) : s k ≤ blockTop s := Finset.le_sup (Finset.mem_univ k)

/-- What the three running quantities of one row are after the blocks in `D`: the maximum `m` of the scores, the
    denominator `l` and the weighted sum `a` of the values. -/
structure Inv (s : U → K → EReal) (v : U → K → ℝ) (D : Finset U) (m l a : EReal) : Prop where
  top : m = D.sup fun u => blockTop (s u)
  den : l = ((∑ u ∈ D, ∑ k, wt (s u k) m : ℝ) : EReal)
  num : a = ((∑ u ∈ D, ∑ k, wt (s u k) m * v u k : ℝ) : EReal)

/-- Before the first block: the maximum is `⊥`, the two sums are zero. -/
theorem Inv.start (s : U → K → EReal) (v : U → K → ℝ) : Inv s v ∅ ⊥ 0 0 :=
  ⟨by simp, by simp, by simp⟩

/-- One more block: the maximum grows, and the two sums are rescaled by the weight of the old maximum. -/
theorem Inv.step {s : U → K → EReal} {v : U → K → ℝ} {D : Finset U} {m l a : EReal} (h : Inv s v D m l a) (u : U)
    (hu : u ∉ D) :
    Inv s v (insert u D) (max m (blockTop (s u)))
      (Ideal.exp (m - max m (blockTop (s u))) * l + ∑ k, Ideal.exp (s u k - max m (blockTop (s u))))
      (Ideal.exp (m - max m (blockTop (s u))) * a + ∑ k, Ideal.exp (s u k - max m (blockTop (s u))) * (v u k : EReal)) := by
  obtain ⟨h1, h2, h3⟩ := h
  have hle : ∀ w ∈ D, ∀ k, s w k ≤ m := fun w hw k => h1 ▸ (le_blockTop (s w) k).trans (Finset.le_sup (f := fun u => blockTop (s u)) hw)
  set n := max m (blockTop (s u)) with hn
  have hmn : m ≤ n := le_max_left _ _
  have hsn : ∀ k, s u k ≤ n := fun k => (le_blockTop (s u) k).trans (le_max_right _ _)
  refine ⟨?_, ?_, ?_⟩
  · rw [Finset.sup_insert, ← h1, hn, max_comm]
  · rw [h2, exp_eq_wt hmn, Finset.sum_insert hu, add_comm, EReal.coe_add, ← EReal.coe_mul]
    congr 1
    · rw [coe_sum]; exact Finset.sum_congr rfl fun k _ => exp_eq_wt (hsn k)
    · rw [Finset.mul_sum]
      refine congrArg _ (Finset.sum_congr rfl fun w hw => ?_)
      rw [Finset.mul_sum]
      exact Finset.sum_congr rfl fun k _ => wt_mul (hle w hw k) hmn
  · rw [h3, exp_eq_wt hmn, Finset.sum_insert hu, add_comm, EReal.coe_add, ← EReal.coe_mul]
    congr 1
    · rw [coe_sum]
      refine Finset.sum_congr rfl fun k _ => ?_
      rw [exp_eq_wt (hsn k), EReal.coe_mul]
    · rw [Finset.mul_sum]
      refine congrArg _ (Finset.sum_congr rfl fun w hw => ?_)
      rw [Finset.mul_sum]
      refine Finset.sum_congr rfl fun k _ => ?_
      rw [← mul_assoc, wt_mul (hle w hw k) hmn]

/-- The largest of finitely many real scores is a real number. -/
theorem blockTop_coe [Nonempty K] (s : K → ℝ) : ∃ r : ℝ, blockTop (fun k => (s k : EReal)) = (r : EReal) := by
  obtain ⟨k, _, hk⟩ := Finset.exists_mem_eq_sup (Finset.univ : Finset K) Finset.univ_nonempty (fun k => (s k : EReal))
  exact ⟨s k, hk⟩

/-- With real scores the softmax of a row is the real one: each weight over the sum of all the weights. -/
theorem div_wt [Nonempty K] (s : K → ℝ) (k : K) :
    Ideal.div (wt (s k) (blockTop fun k => (s k : EReal)) : EReal)
        ((∑ j, wt (s j) (blockTop fun k => (s k : EReal)) : ℝ) : EReal)
      = ((wt (s k) (blockTop fun k => (s k : EReal)) / ∑ j, wt (s j) (blockTop fun k => (s k : EReal)) : ℝ) : EReal)
    ∧ 0 < ∑ j, wt (s j) (blockTop fun k => (s k : EReal)) := by
  obtain ⟨r, hr⟩ := blockTop_coe s
  have hpos : 0 < ∑ j, wt (s j) (blockTop fun k => (s k : EReal)) := by
    refine Finset.sum_pos (fun j _ => ?_) Finset.univ_nonempty
    rw [hr, wt_coe]; exact Real.exp_pos _
  refine ⟨?_, hpos⟩
  rw [Ideal.div_coe hpos.ne', ← EReal.coe_mul, mul_one_div]

end Cert.Softmax

end
-- ==== Proof.Blocks.lean ====
/- The recurrence of Model.lean read at one row, at the extended reals: eleven tiles of 128 lanes are one block of 1408
   keys, and the three steps are those of Softmax.lean. -/
module

public import proofs.«01_k».proof.Proof.Model
public import proofs.«01_k».proof.Proof.Softmax

@[expose] public section

set_option maxRecDepth 16384

noncomputable section

namespace Cert.KernelIdeal.Blocks

open Cert.KernelIdeal Cert.KernelIdeal.Gen Cert.KernelIdeal.Model Cert.Softmax Idealize.ShloMosaic Idealize.SL.Sem

/-- The bits of minus infinity denote `⊥`. -/
theorem ofBits_neg_inf : Ideal.ofBits .f32 0xFF800000#32 = ⊥ := by simp [Ideal.ofBits, Ideal.ieee]

/-- A fold of `max` from `⊥` is the supremum. -/
theorem fold_max {K : Type} [Fintype K] (f : K → EReal) : Finset.univ.fold max ⊥ f = blockTop f := rfl

/-- A sum over 1408 keys, lane by lane of eleven tiles. -/
theorem sum_tiles (f : Fin 1408 → EReal) :
    ∑ k, f k = ∑ x : Fin 128, (f ⟨x.1, by omega⟩ + f ⟨128 + x.1, by omega⟩ + f ⟨256 + x.1, by omega⟩ + f ⟨384 + x.1, by omega⟩ + f ⟨512 + x.1, by omega⟩ + f ⟨640 + x.1, by omega⟩ + f ⟨768 + x.1, by omega⟩ + f ⟨896 + x.1, by omega⟩ + f ⟨1024 + x.1, by omega⟩ + f ⟨1152 + x.1, by omega⟩ + f ⟨1280 + x.1, by omega⟩) := by
  rw [← (finProdFinEquiv (m := 11) (n := 128)).sum_comp f, Fintype.sum_prod_type, Finset.sum_comm]
  refine Finset.sum_congr rfl fun x _ => ?_
  simp only [Fin.sum_univ_castSucc, Fin.sum_univ_zero, zero_add]
  repeat' refine congrArg₂ (· + ·) ?_ ?_
  all_goals
    refine congrArg f (Fin.ext ?_)
    simp [finProdFinEquiv]
    try omega

/-- The running maximum of a row grows to the block's largest score. -/
theorem mStep_apply (m : FVec Ideal S512x128 .f32) (S : FVec Ideal S512x1408 .f32) (r : Fin 512) (c : Fin 128) :
    mStep m S (ix2 r c) = max (m (ix2 r c)) (blockTop fun k : Fin 1408 => S (ix2 r k)) := by
  pointwise [mStep, tileMax]
  rw [ofBits_neg_inf, fold_max]
  congr 1
  apply le_antisymm
  · refine Finset.sup_le fun x _ => ?_
    simp only [max_le_iff]
    refine ⟨⟨⟨⟨⟨⟨⟨⟨⟨⟨?_, ?_⟩, ?_⟩, ?_⟩, ?_⟩, ?_⟩, ?_⟩, ?_⟩, ?_⟩, ?_⟩, ?_⟩ <;>
      exact le_blockTop (fun k : Fin 1408 => S (ix2 r k)) _
  · refine Finset.sup_le fun k _ => ?_
    refine le_trans ?_ (le_blockTop _ (⟨k.1 % 128, by omega⟩ : Fin 128))
    by_contra hc
    simp only [le_max_iff, not_or, not_le] at hc
    have hne : ∀ j : Fin 1408, S (ix2 r j) < S (ix2 r k) → j.1 ≠ k.1 := fun j h e => by
      rw [Fin.ext e] at h; exact lt_irrefl _ h
    obtain ⟨⟨⟨⟨⟨⟨⟨⟨⟨⟨h0, h1⟩, h2⟩, h3⟩, h4⟩, h5⟩, h6⟩, h7⟩, h8⟩, h9⟩, h10⟩ := hc
    have g0 := hne _ h0
    have g1 := hne _ h1
    have g2 := hne _ h2
    have g3 := hne _ h3
    have g4 := hne _ h4
    have g5 := hne _ h5
    have g6 := hne _ h6
    have g7 := hne _ h7
    have g8 := hne _ h8
    have g9 := hne _ h9
    have g10 := hne _ h10
    dsimp only at g0 g1 g2 g3 g4 g5 g6 g7 g8 g9 g10
    clear h0 h1 h2 h3 h4 h5 h6 h7 h8 h9 h10 hne
    omega

/-- The running denominator of a row whose new maximum `ν` is the same on every lane. -/
theorem lStep_apply (m n : FVec Ideal S512x128 .f32) (S : FVec Ideal S512x1408 .f32) (l : FVec Ideal S512x128 .f32)
    (r : Fin 512) (c : Fin 128) (ν : EReal) (hn : ∀ c, n (ix2 r c) = ν) :
    lStep m n S l (ix2 r c)
      = Ideal.exp (m (ix2 r c) - ν) * l (ix2 r c) + ∑ k : Fin 1408, Ideal.exp (S (ix2 r k) - ν) := by
  pointwise [lStep, tileSum]
  simp only [hn]
  rw [sum_tiles fun k => Ideal.exp (S (ix2 r k) - ν)]

/-- A choice both of whose branches are `c` is `c`. -/
theorem dite_const {α : Type} {p : Prop} [Decidable p] {f : p → α} {g : ¬p → α} {c : α} (hf : ∀ h, f h = c)
    (hg : ∀ h, g h = c) : dite p f g = c := by
  split
  · exact hf _
  · exact hg _

/-- The matrix of weights of a row whose new maximum `ν` is the same on every lane. -/
theorem weights_apply (n : FVec Ideal S512x128 .f32) (S : FVec Ideal S512x1408 .f32) (r : Fin 512) (k : Fin 1408)
    (ν : EReal) (hn : ∀ c, n (ix2 r c) = ν) : weights n S (ix2 r k) = Ideal.exp (S (ix2 r k) - ν) := by
  pointwise [weights]
  simp only [hn]
  repeat' refine dite_const (fun h => ?_) (fun h => ?_)
  all_goals
    refine congrArg (fun i => Ideal.exp (S (ix2 r i) - ν)) (Fin.ext ?_)
    first | rfl | (dsimp only; omega)

/-- The running weighted sum of a row whose new maximum `ν` is the same on every lane. -/
theorem aStep_apply (m n : FVec Ideal S512x128 .f32) (S : FVec Ideal S512x1408 .f32) (v : FVec Ideal S1x1408x128 .bf16)
    (a : FVec Ideal S512x128 .f32) (r : Fin 512) (e : Fin 128) (ν : EReal) (hn : ∀ c, n (ix2 r c) = ν) :
    aStep m n S v a (ix2 r e)
      = Ideal.exp (m (ix2 r e) - ν) * a (ix2 r e) + ∑ k : Fin 1408, Ideal.exp (S (ix2 r k) - ν) * v (ix3 0 k e) := by
  unfold aStep
  have hw : ∀ k, weights n S (ix2 r k) = Ideal.exp (S (ix2 r k) - ν) := fun k => weights_apply n S r k ν hn
  generalize weights n S = w at hw ⊢
  pointwise
  simp only [hn, hw]

/-- The scores of a row: the sum over the 128 lanes. -/
theorem scores_apply (q : FVec Ideal S512x128 .bf16) (k : FVec Ideal S1x1408x128 .bf16) (r : Fin 512) (c : Fin 1408) :
    scores q k (ix2 r c) = ∑ d : Fin 128, q (ix2 r d) * k (ix3 0 c d) := by
  pointwise [scores]

/-- The bits of one eighth. -/
theorem ofBits_eighth : Ideal.ofBits .bf16 0x3E00#16 = ((1 / 8 : ℝ) : EReal) := by
  simp [Ideal.ofBits, Ideal.ieee, ← EReal.coe_mul]; norm_num

/-- A lane below 64, as the comparison of words the kernel makes. -/
theorem lane_lt (d : Fin 128) : IntOp.cmpi .slt (BitVec.ofNat 32 d.1) 64#32 = if d.1 < 64 then 1#1 else 0#1 := by
  revert d; decide +kernel

/-- A lane from 64 on, likewise. -/
theorem lane_ge (d : Fin 128) : IntOp.cmpi .sge (BitVec.ofNat 32 d.1) 64#32 = if d.1 < 64 then 0#1 else 1#1 := by
  revert d; decide +kernel

/-- The first 256 stacked rows hold the first half of the head, scaled; zero in the other lanes. -/
theorem stack_lo (q : Vec Ideal S1x256x128 .bf16) (r : Fin 256) (d : Fin 128) :
    k0_pay2 q (ix2 ⟨r.1, by omega⟩ d) = if d.1 < 64 then q (ix3 0 r d) * ((1 / 8 : ℝ) : EReal) else 0 := by
  pointwise [k0_pay2]
  rw [lane_lt, ofBits_eighth]
  split <;> simp [Scalar.select]

/-- The last 256 stacked rows hold the second half of the head, scaled; zero in the other lanes. -/
theorem stack_hi (q : Vec Ideal S1x256x128 .bf16) (r : Fin 256) (d : Fin 128) :
    k0_pay2 q (ix2 ⟨256 + r.1, by omega⟩ d) = if d.1 < 64 then 0 else q (ix3 0 r d) * ((1 / 8 : ℝ) : EReal) := by
  pointwise [k0_pay2]
  rw [lane_ge, ofBits_eighth]
  split <;> simp [Scalar.select]

end Cert.KernelIdeal.Blocks

end
-- ==== Proof.Rows.lean ====
/- The whole recurrence at one row: after six blocks the running quantities are the softmax over all 8448 keys. -/
module

public import proofs.«01_k».proof.Proof.Blocks

@[expose] public section

set_option maxRecDepth 16384

noncomputable section

namespace Cert.KernelIdeal.Rows

open Cert.KernelIdeal Cert.KernelIdeal.Gen Cert.KernelIdeal.Model Cert.KernelIdeal.Blocks Cert.Softmax
open Idealize.ShloMosaic Idealize.SL.Sem

/-- One block's step at one row, on every lane at once. -/
theorem row_step {m l a : FVec Ideal S512x128 .f32} {S : FVec Ideal S512x1408 .f32} {vb : FVec Ideal S1x1408x128 .bf16}
    {r : Fin 512} {s : Fin 6 → Fin 1408 → EReal} {V : Fin 128 → Fin 6 → Fin 1408 → ℝ} {D : Finset (Fin 6)} {u : Fin 6}
    (hu : u ∉ D) (hS : ∀ k, S (ix2 r k) = s u k) (hv : ∀ k e, vb (ix3 0 k e) = (V e u k : EReal))
    (h : ∀ e, Inv s (V e) D (m (ix2 r e)) (l (ix2 r e)) (a (ix2 r e))) (e : Fin 128) :
    Inv s (V e) (insert u D) (mStep m S (ix2 r e)) (lStep m (mStep m S) S l (ix2 r e))
      (aStep m (mStep m S) S vb a (ix2 r e)) := by
  have hm : ∀ c, mStep m S (ix2 r c) = max (m (ix2 r e)) (blockTop (s u)) := fun c => by
    rw [mStep_apply, (h c).top, (h e).top]
    simp only [hS]
  rw [lStep_apply m _ S l r e _ hm, aStep_apply m _ S vb a r e _ hm, hm e]
  simp only [hS, hv]
  exact (h e).step u hu

/-- Key `k` of block `u`, among all the keys. -/
abbrev key (u : Fin 6) (k : Fin 1408) : Fin 8448 := ⟨k.1 + 1408 * u.1, by omega⟩

/-- A sum over the blocks and the keys of each is the sum over all the keys. -/
theorem sum_keys (f : Fin 8448 → ℝ) : ∑ u : Fin 6, ∑ k : Fin 1408, f (key u k) = ∑ j, f j := by
  rw [← (finProdFinEquiv (m := 6) (n := 1408)).sum_comp f, Fintype.sum_prod_type]
  rfl

/-- The largest score over the blocks is the largest over all the keys. -/
theorem sup_keys (f : Fin 8448 → EReal) :
    (Finset.univ.sup fun u : Fin 6 => blockTop fun k : Fin 1408 => f (key u k)) = blockTop f := by
  apply le_antisymm
  · exact Finset.sup_le fun u _ => Finset.sup_le fun k _ => le_blockTop f _
  · refine Finset.sup_le fun j _ => ?_
    have hj : j = key ⟨j.1 / 1408, by omega⟩ ⟨j.1 % 1408, by omega⟩ := Fin.ext (by dsimp only; omega)
    rw [hj]
    exact (le_blockTop (fun k : Fin 1408 => f (key _ k)) _).trans
      (Finset.le_sup (f := fun u : Fin 6 => blockTop fun k : Fin 1408 => f (key u k)) (Finset.mem_univ _))

variable (x2 : Vec Ideal S1x256x128 .bf16) (x3 x4 : Vec Ideal S1x8448x128 .bf16)

/-- An element of a block's load is the element of the whole at the key it stands for. -/
theorem at_key (x : Vec Ideal S1x8448x128 .bf16) (d : Fin 128) {j j' : Fin 8448} (h : j.1 = j'.1) :
    x (ix3 0 j d) = x (ix3 0 j' d) := by rw [Fin.ext h]

/-- The score of stacked row `r` against key `j`. -/
def score (r : Fin 512) (j : Fin 8448) : EReal := ∑ d : Fin 128, qs x2 (ix2 r d) * x3 (ix3 0 j d)

theorem ld1 (x : Vec Ideal S1x8448x128 .bf16) (k : Fin 1408) (d : Fin 128) :
    (View.ld x r0_1 : FVec Ideal S1x1408x128 .bf16) (ix3 0 k d) = x (ix3 0 (key 0 k) d) := by
  pointwise
  exact at_key x d (by simp [key]; try omega)

theorem ld2 (x : Vec Ideal S1x8448x128 .bf16) (k : Fin 1408) (d : Fin 128) :
    (View.ld x r0_2 : FVec Ideal S1x1408x128 .bf16) (ix3 0 k d) = x (ix3 0 (key 1 k) d) := by
  pointwise
  exact at_key x d (by simp [key]; try omega)

theorem ld3 (x : Vec Ideal S1x8448x128 .bf16) (k : Fin 1408) (d : Fin 128) :
    (View.ld x r0_3 : FVec Ideal S1x1408x128 .bf16) (ix3 0 k d) = x (ix3 0 (key 2 k) d) := by
  pointwise
  exact at_key x d (by simp [key]; try omega)

theorem ld4 (x : Vec Ideal S1x8448x128 .bf16) (k : Fin 1408) (d : Fin 128) :
    (View.ld x r0_4 : FVec Ideal S1x1408x128 .bf16) (ix3 0 k d) = x (ix3 0 (key 3 k) d) := by
  pointwise
  exact at_key x d (by simp [key]; try omega)

theorem ld5 (x : Vec Ideal S1x8448x128 .bf16) (k : Fin 1408) (d : Fin 128) :
    (View.ld x r0_5 : FVec Ideal S1x1408x128 .bf16) (ix3 0 k d) = x (ix3 0 (key 4 k) d) := by
  pointwise
  exact at_key x d (by simp [key]; try omega)

theorem ld6 (x : Vec Ideal S1x8448x128 .bf16) (k : Fin 1408) (d : Fin 128) :
    (View.ld x r0_6 : FVec Ideal S1x1408x128 .bf16) (ix3 0 k d) = x (ix3 0 (key 5 k) d) := by
  pointwise
  exact at_key x d (by simp [key]; try omega)

theorem s1_apply (r : Fin 512) (k : Fin 1408) : s1 x2 x3 (ix2 r k) = score x2 x3 r (key 0 k) := by
  rw [s1, scores_apply]
  exact Finset.sum_congr rfl fun d _ => congrArg (qs x2 (ix2 r d) * ·) (ld1 x3 k d)

theorem s2_apply (r : Fin 512) (k : Fin 1408) : s2 x2 x3 (ix2 r k) = score x2 x3 r (key 1 k) := by
  rw [s2, scores_apply]
  exact Finset.sum_congr rfl fun d _ => congrArg (qs x2 (ix2 r d) * ·) (ld2 x3 k d)

theorem s3_apply (r : Fin 512) (k : Fin 1408) : s3 x2 x3 (ix2 r k) = score x2 x3 r (key 2 k) := by
  rw [s3, scores_apply]
  exact Finset.sum_congr rfl fun d _ => congrArg (qs x2 (ix2 r d) * ·) (ld3 x3 k d)

theorem s4_apply (r : Fin 512) (k : Fin 1408) : s4 x2 x3 (ix2 r k) = score x2 x3 r (key 3 k) := by
  rw [s4, scores_apply]
  exact Finset.sum_congr rfl fun d _ => congrArg (qs x2 (ix2 r d) * ·) (ld4 x3 k d)

theorem s5_apply (r : Fin 512) (k : Fin 1408) : s5 x2 x3 (ix2 r k) = score x2 x3 r (key 4 k) := by
  rw [s5, scores_apply]
  exact Finset.sum_congr rfl fun d _ => congrArg (qs x2 (ix2 r d) * ·) (ld5 x3 k d)

theorem s6_apply (r : Fin 512) (k : Fin 1408) : s6 x2 x3 (ix2 r k) = score x2 x3 r (key 5 k) := by
  rw [s6, scores_apply]
  exact Finset.sum_congr rfl fun d _ => congrArg (qs x2 (ix2 r d) * ·) (ld6 x3 k d)

/-- What the three running quantities of a row are after the last block. -/
theorem inv_row (V : Fin 128 → Fin 8448 → ℝ) (hv : ∀ j e, x4 (ix3 0 j e) = (V e j : EReal)) (r : Fin 512) (e : Fin 128) :
    Inv (fun u k => score x2 x3 r (key u k)) (fun u k => V e (key u k)) Finset.univ (m6 x2 x3 (ix2 r e))
      (l6 x2 x3 (ix2 r e)) (a6 x2 x3 x4 (ix2 r e)) := by
  have h0 : ∀ e, Inv (fun u k => score x2 x3 r (key u k)) (fun u k => V e (key u k)) ∅ (k0_pay3 (F := Ideal) (ix2 r e))
      (k0_pay4 (F := Ideal) (ix2 r e)) (k0_pay5 (F := Ideal) (ix2 r e)) := fun e => by
    pointwise [k0_pay3, k0_pay4, k0_pay5]
    rw [ofBits_neg_inf]
    exact Inv.start _ _
  have h1 := row_step (V := fun e u k => V e (key u k)) (u := 0) (by decide) (s1_apply x2 x3 r)
    (vb := View.ld x4 r0_1) (fun k e => by rw [ld1, hv]) h0
  have h2 := row_step (V := fun e u k => V e (key u k)) (u := 1) (by decide) (s2_apply x2 x3 r)
    (vb := View.ld x4 r0_2) (fun k e => by rw [ld2, hv]) h1
  have h3 := row_step (V := fun e u k => V e (key u k)) (u := 2) (by decide) (s3_apply x2 x3 r)
    (vb := View.ld x4 r0_3) (fun k e => by rw [ld3, hv]) h2
  have h4 := row_step (V := fun e u k => V e (key u k)) (u := 3) (by decide) (s4_apply x2 x3 r)
    (vb := View.ld x4 r0_4) (fun k e => by rw [ld4, hv]) h3
  have h5 := row_step (V := fun e u k => V e (key u k)) (u := 4) (by decide) (s5_apply x2 x3 r)
    (vb := View.ld x4 r0_5) (fun k e => by rw [ld5, hv]) h4
  have h6 := row_step (V := fun e u k => V e (key u k)) (u := 5) (by decide) (s6_apply x2 x3 r)
    (vb := View.ld x4 r0_6) (fun k e => by rw [ld6, hv]) h5
  have hD : (insert 5 (insert 4 (insert 3 (insert 2 (insert 1 (insert 0 (∅ : Finset (Fin 6)))))))) = Finset.univ := by
    decide
  have h := h6 e
  rw [hD] at h
  exact h

/-- An elementwise quotient at an index. -/
theorem quot_apply (a b : FVec Ideal S512x128 .f32) (i : S512x128.Idx) : divf a b i = Ideal.div (a i) (b i) := rfl

/-- Real scores and real values: a row of the result is the softmax's weighted sum of the values. -/
theorem o_apply (V : Fin 128 → Fin 8448 → ℝ) (hv : ∀ j e, x4 (ix3 0 j e) = (V e j : EReal)) (r : Fin 512)
    (sc : Fin 8448 → ℝ) (hs : ∀ j, score x2 x3 r j = (sc j : EReal)) (e : Fin 128) :
    o x2 x3 x4 (ix2 r e)
      = ((∑ j, wt (sc j) (blockTop fun j => (sc j : EReal))
            / (∑ i, wt (sc i) (blockTop fun j => (sc j : EReal))) * V e j : ℝ) : EReal) := by
  obtain ⟨h1, h2, h3⟩ := inv_row x2 x3 x4 V hv r e
  simp only [hs] at h1 h2 h3
  rw [sup_keys fun j => (sc j : EReal)] at h1
  rw [h1, sum_keys fun j => wt (sc j) (blockTop fun j => (sc j : EReal))] at h2
  rw [h1, sum_keys fun j => wt (sc j) (blockTop fun j => (sc j : EReal)) * V e j] at h3
  have hd : o x2 x3 x4 (ix2 r e) = Ideal.div (a6 x2 x3 x4 (ix2 r e)) (l6 x2 x3 (ix2 r e)) :=
    quot_apply _ _ _
  rw [hd, h2, h3, Ideal.div_coe (div_wt sc 0).2.ne', ← EReal.coe_mul, mul_one_div, Finset.sum_div]
  refine congrArg (fun x : ℝ => (x : EReal)) (Finset.sum_congr rfl fun j _ => ?_)
  rw [div_mul_eq_mul_div]

end Cert.KernelIdeal.Rows

end
-- ==== Proof.Spec.lean ====
/- Differential attention of one row, over the reals: two softmaxes over all keys, their difference, the values it
   weighs, and the root-mean-square norm that closes it. Both programs are read down to these definitions. -/
module

public import proofs.«01_k».proof.Proof.Softmax

@[expose] public section

noncomputable section

namespace Cert.Spec

open Cert.Softmax Idealize.ShloMosaic

/-- The scaled score of a query half-head against key `j`. -/
def sc (Q : Fin 64 → ℝ) (K : Fin 8448 → Fin 64 → ℝ) (j : Fin 8448) : ℝ := (∑ d, Q d * K j d) * (1 / 8)

/-- The softmax weight of key `j` among the scores `s`. -/
def soft (s : Fin 8448 → ℝ) (j : Fin 8448) : ℝ :=
  wt (s j) (blockTop fun j => (s j : EReal)) / ∑ i, wt (s i) (blockTop fun j => (s j : EReal))

/-- The values weighed by the first softmax less `lam` times the second. -/
def diff (lam : ℝ) (s t : Fin 8448 → ℝ) (V : Fin 8448 → ℝ) : ℝ := ∑ j, (soft s j - lam * soft t j) * V j

/-- The difference of the two attentions is the attention with the difference of the weights. -/
theorem diff_eq (lam : ℝ) (s t : Fin 8448 → ℝ) (V : Fin 8448 → ℝ) :
    (∑ j, soft s j * V j) - lam * ∑ j, soft t j * V j = diff lam s t V := by
  rw [diff, Finset.mul_sum, ← Finset.sum_sub_distrib]
  exact Finset.sum_congr rfl fun j _ => by rw [sub_mul, mul_assoc]

/-- The scale between the two attentions, from the four learned vectors. -/
def lam (p : Fin 4 → Fin 64 → EReal) : EReal :=
  Ideal.exp (∑ d, p 0 d * p 1 d) - Ideal.exp (∑ d, p 2 d * p 3 d) + Ideal.ofBits .f32 0x3EB60549#32

/-- The bits of the initial scale denote a real number. -/
theorem ofBits_init : ∃ r : ℝ, Ideal.ofBits .f32 0x3EB60549#32 = (r : EReal) := by
  simp only [Ideal.ofBits, Ideal.ieee]
  rw [if_neg (by decide), if_neg (by decide)]
  exact ⟨_, rfl⟩

/-- A sum of products of reals is a real. -/
theorem sum_coe {ι : Type} [Fintype ι] (f g : ι → ℝ) :
    ∑ d, ((f d : ℝ) : EReal) * (g d : EReal) = ((∑ d, f d * g d : ℝ) : EReal) := by
  rw [coe_sum]; exact Finset.sum_congr rfl fun d _ => (EReal.coe_mul _ _).symm

/-- With real vectors the scale is a real number. -/
theorem lam_coe (L : Fin 4 → Fin 64 → ℝ) : ∃ r : ℝ, lam (fun i d => (L i d : EReal)) = (r : EReal) := by
  obtain ⟨r, hr⟩ := ofBits_init
  obtain ⟨a, _, ha⟩ := exp_coe (EReal.coe_ne_top (∑ d, L 0 d * L 1 d))
  obtain ⟨b, _, hb⟩ := exp_coe (EReal.coe_ne_top (∑ d, L 2 d * L 3 d))
  refine ⟨a - b + r, ?_⟩
  rw [lam, sum_coe, sum_coe, ha, hb, hr, EReal.coe_add, EReal.coe_sub]

/-- The root-mean-square norm of a row of 128, with its gain and the last scale. -/
def norm (o g : Fin 128 → EReal) (e : Fin 128) : EReal :=
  o e * Ideal.rsqrt (Ideal.div (∑ i, o i * o i) (Ideal.ofBits .f32 0x43000000#32) + Ideal.ofBits .f32 0x358637BD#32)
    * g e * Ideal.ofBits .f32 0x3F24FD5C#32

/-- The column of lane `d` of half `i` of head `h`, from column `k` on. -/
def col (k : ℕ) (hk : k ≤ 2560) (h : Fin 4) (i : Fin 2) (d : Fin 64) : Fin 3072 :=
  ⟨k + 128 * h.1 + 64 * i.1 + d.1, by omega⟩

/-- The scores of query `q` of batch `b` in half `i` of head `h`, over the packed array of queries, keys and values. -/
def score (X : Fin 4 → Fin 8448 → Fin 3072 → ℝ) (b : Fin 4) (q : Fin 8192) (h : Fin 4) (i : Fin 2) :
    Fin 8448 → ℝ :=
  sc (fun d => X b ⟨q.1, by omega⟩ (col 1536 (by decide) h i d)) (fun j d => X b j (col 2048 (by decide) h i d))

/-- The layer's result at query `q` of batch `b`, head `h` and lane `e`. -/
def attn (X : Fin 4 → Fin 8448 → Fin 3072 → ℝ) (lr : ℝ) (g : Fin 128 → EReal) (b : Fin 4) (q : Fin 8192) (h : Fin 4)
    (e : Fin 128) : EReal :=
  norm (fun e => (diff lr (score X b q h 0) (score X b q h 1)
    (fun j => X b j ⟨2560 + 128 * h.1 + e.1, by omega⟩) : EReal)) g e

end Cert.Spec

end
-- ==== Proof.Out.lean ====
/- What one grid point of the attention kernel writes. -/
module

public import proofs.«01_k».proof.Proof.Rows
public import proofs.«01_k».proof.Proof.Spec
public import Idealize.ShloMosaic.Lib.Pipeline.ValueKit
public import Idealize.ShloMosaic.Lib.Pipeline.Covers

@[expose] public section

set_option maxRecDepth 16384

noncomputable section

namespace Cert.KernelIdeal.Out

open Cert.KernelIdeal Cert.KernelIdeal.Gen Cert.KernelIdeal.Model Cert.KernelIdeal.Blocks Cert.KernelIdeal.Rows
open Cert.Softmax Cert.Spec Idealize.ShloMosaic Idealize.SL.Sem

variable (x0 : Vec Ideal S4x64 .f32) (x1 : Vec Ideal S1x128 .f32) (x2 : Vec Ideal S1x256x128 .bf16)
  (x3 x4 : Vec Ideal S1x8448x128 .bf16)

/-- The block the grid point writes, over the rows' results. -/
def block : FVec Ideal S1x256x128 .bf16 :=
  k0_pay1 (extractStridedSlice S256x128 ![0, 0] (o x2 x3 x4) slices_S512x128_o0_0_S256x128)
    (extractStridedSlice S256x128 ![256, 0] (o x2 x3 x4) slices_S512x128_o256_0_S256x128) (View.ld x0 r0_7)
    (k0_pay180 (View.ld x0 r0_7)) (View.ld x1 r0_8)

theorem out_eq : out0_5 x0 x1 x2 x3 x4 = View.canon [⟨r0_0, block x0 x1 x2 x3 x4⟩] := rfl

/-- The block's element at row `r` and lane `e`. -/
theorem block_apply (r : Fin 256) (e : Fin 128) :
    block x0 x1 x2 x3 x4 (ix3 0 r e)
      = norm (fun e => o x2 x3 x4 (ix2 ⟨r.1, by omega⟩ e) - lam (fun i d => x0 (ix2 i d)) * o x2 x3 x4 (ix2 ⟨256 + r.1, by omega⟩ e))
          (fun e => x1 (ix2 0 e)) e := by
  unfold block
  generalize o x2 x3 x4 = w
  pointwise [k0_pay1, k0_pay180]
  rfl

/-- A sum over 128 lanes of which the last 64 hold zero. -/
theorem half_lo (f : Fin 128 → EReal) (g : Fin 64 → EReal) (h₀ : ∀ d : Fin 64, f ⟨d.1, by omega⟩ = g d)
    (h₁ : ∀ d : Fin 64, f ⟨64 + d.1, by omega⟩ = 0) : ∑ d, f d = ∑ d, g d := by
  rw [Fin.sum_univ_two_halves 64 64 rfl f]
  exact (congrArg₂ (· + ·) (Finset.sum_congr rfl fun d _ => h₀ d) ((Finset.sum_congr rfl fun d _ => h₁ d).trans
    Finset.sum_const_zero)).trans (add_zero _)

/-- A sum over 128 lanes of which the first 64 hold zero. -/
theorem half_hi (f : Fin 128 → EReal) (g : Fin 64 → EReal) (h₀ : ∀ d : Fin 64, f ⟨d.1, by omega⟩ = 0)
    (h₁ : ∀ d : Fin 64, f ⟨64 + d.1, by omega⟩ = g d) : ∑ d, f d = ∑ d, g d := by
  rw [Fin.sum_univ_two_halves 64 64 rfl f]
  exact (congrArg₂ (· + ·) ((Finset.sum_congr rfl fun d _ => h₀ d).trans Finset.sum_const_zero)
    (Finset.sum_congr rfl fun d _ => h₁ d)).trans (zero_add _)

/-- One scaled product of reals. -/
theorem scaled_coe (q k : ℝ) : (q : EReal) * ((1 / 8 : ℝ) : EReal) * (k : EReal) = ((q * k * (1 / 8) : ℝ) : EReal) := by
  rw [← EReal.coe_mul, ← EReal.coe_mul]; congr 1; ring

/-- The scaled score as a sum of scaled products. -/
theorem sc_coe (Q : Fin 64 → ℝ) (K : Fin 8448 → Fin 64 → ℝ) (j : Fin 8448) :
    ∑ d, ((Q d * K j d * (1 / 8) : ℝ) : EReal) = (sc Q K j : EReal) := by
  rw [sc, Finset.sum_mul, coe_sum]

/-- The query block is loaded whole. -/
theorem ld_q (x : Vec Ideal S1x256x128 .bf16) (r : Fin 256) (d : Fin 128) :
    (View.ld x r0_0 : FVec Ideal S1x256x128 .bf16) (ix3 0 r d) = x (ix3 0 r d) := by
  pointwise

section Real
variable (Q : Fin 256 → Fin 128 → ℝ) (K V : Fin 8448 → Fin 128 → ℝ)
  (hq : ∀ r d, x2 (ix3 0 r d) = (Q r d : EReal)) (hk : ∀ j d, x3 (ix3 0 j d) = (K j d : EReal))
  (hv : ∀ j d, x4 (ix3 0 j d) = (V j d : EReal))
include hq hk

/-- A score of the upper 256 rows: the first half of the lanes. -/
theorem score_lo (r : Fin 256) (j : Fin 8448) :
    Rows.score x2 x3 ⟨r.1, by omega⟩ j = (sc (fun d => Q r ⟨d.1, by omega⟩) (fun j d => K j ⟨d.1, by omega⟩) j : EReal) := by
  rw [← sc_coe]
  refine half_lo _ _ (fun d => ?_) (fun d => ?_)
  · rw [qs, stack_lo, if_pos d.2, hk, ← scaled_coe, ld_q, hq]
  · rw [qs, stack_lo, if_neg (by simp), zero_mul]

/-- A score of the lower 256 rows: the second half of the lanes. -/
theorem score_hi (r : Fin 256) (j : Fin 8448) :
    Rows.score x2 x3 ⟨256 + r.1, by omega⟩ j
      = (sc (fun d => Q r ⟨64 + d.1, by omega⟩) (fun j d => K j ⟨64 + d.1, by omega⟩) j : EReal) := by
  rw [← sc_coe]
  refine half_hi _ _ (fun d => ?_) (fun d => ?_)
  · rw [qs, stack_hi, if_pos d.2, zero_mul]
  · rw [qs, stack_hi, if_neg (by simp), hk, ← scaled_coe, ld_q, hq]

include hv

/-- The block the grid point leaves, at row `r` and lane `e`: the norm of the difference of the two attentions. -/
theorem out_apply (lr : ℝ) (hl : lam (fun i d => x0 (ix2 i d)) = (lr : EReal)) (r : Fin 256) (e : Fin 128) :
    out0_5 x0 x1 x2 x3 x4 (ix3 0 r e)
      = norm (fun e => (diff lr (sc (fun d => Q r ⟨d.1, by omega⟩) (fun j d => K j ⟨d.1, by omega⟩))
          (sc (fun d => Q r ⟨64 + d.1, by omega⟩) (fun j d => K j ⟨64 + d.1, by omega⟩)) (fun j => V j e) : EReal))
          (fun e => x1 (ix2 0 e)) e := by
  rw [out_eq, View.canon_unit_zero (funext fun a => by fin_cases a <;> rfl), block_apply, hl]
  refine congrArg (fun w => norm w (fun e => x1 (ix2 0 e)) e) (funext fun e => ?_)
  rw [o_apply x2 x3 x4 (fun e j => V j e) hv _ _ (score_lo x2 x3 Q K hq hk r) e,
    o_apply x2 x3 x4 (fun e j => V j e) hv _ _ (score_hi x2 x3 Q K hq hk r) e, ← EReal.coe_mul, ← EReal.coe_sub]
  exact congrArg _ (diff_eq lr _ _ _)

end Real

end Cert.KernelIdeal.Out

end
-- ==== Proof.Whole.lean ====
/- The result array of the attention kernel after the whole grid. -/
module

public import proofs.«01_k».proof.Proof.Out

@[expose] public section

set_option maxRecDepth 16384

noncomputable section

namespace Cert.KernelIdeal.Whole

open Cert.KernelIdeal Cert.KernelIdeal.Gen
open Cert.Softmax Cert.Spec Idealize.ShloMosaic Idealize.ShloMosaic.TcCoe Idealize.SL.Sem
open Idealize.ShloMosaic.Pipeline (Dat)

/-- A grid coordinate read back from its word, after the constant the index map adds. -/
theorem word (k n : ℕ) (h : k + n < 2 ^ 32) :
    (Scalar.addi (BitVec.ofNat 32 k) (BitVec.ofNat 32 n)).toNat = k + n := by
  show (BitVec.ofNat 32 k + BitVec.ofNat 32 n).toNat = _
  simp only [BitVec.toNat_add, BitVec.toNat_ofNat]
  omega

/-- The same without a constant. -/
theorem word₀ (n : ℕ) (h : n < 2 ^ 32) : (BitVec.ofNat 32 n).toNat = n := by
  simp only [BitVec.toNat_ofNat]; omega

/-- The query window's block index: batch, query block, head slab. -/
theorem map_q (i : grid0.Coords) : cc0_transform_2 i = ![(i 0).val, (i 2).val, 12 + (i 1).val] := by
  have h0 : (i 0).val < 4 := (i 0).isLt
  have h1 : (i 1).val < 4 := (i 1).isLt
  have h2 : (i 2).val < 32 := (i 2).isLt
  show ![(BitVec.ofNat 32 (i 0).val).toNat, (Scalar.addi (BitVec.ofNat 32 0) (BitVec.ofNat 32 (i 2).val)).toNat,
    (Scalar.addi (BitVec.ofNat 32 12) (BitVec.ofNat 32 (i 1).val)).toNat] = _
  rw [word₀ _ (by omega), word _ _ (by omega), word _ _ (by omega), Nat.zero_add]

/-- The key window's block index: batch, all keys, head slab. -/
theorem map_k (i : grid0.Coords) : cc0_transform_3 i = ![(i 0).val, 0, 16 + (i 1).val] := by
  have h0 : (i 0).val < 4 := (i 0).isLt
  have h1 : (i 1).val < 4 := (i 1).isLt
  show ![(BitVec.ofNat 32 (i 0).val).toNat, 0, (Scalar.addi (BitVec.ofNat 32 16) (BitVec.ofNat 32 (i 1).val)).toNat] = _
  rw [word₀ _ (by omega), word _ _ (by omega)]

/-- The value window's block index. -/
theorem map_v (i : grid0.Coords) : cc0_transform_4 i = ![(i 0).val, 0, 20 + (i 1).val] := by
  have h0 : (i 0).val < 4 := (i 0).isLt
  have h1 : (i 1).val < 4 := (i 1).isLt
  show ![(BitVec.ofNat 32 (i 0).val).toNat, 0, (Scalar.addi (BitVec.ofNat 32 20) (BitVec.ofNat 32 (i 1).val)).toNat] = _
  rw [word₀ _ (by omega), word _ _ (by omega)]

/-- The result window's block index. -/
theorem map_o (i : grid0.Coords) : cc0_transform_5 i = ![(i 0).val, (i 2).val, (i 1).val] := by
  have h0 : (i 0).val < 4 := (i 0).isLt
  have h1 : (i 1).val < 4 := (i 1).isLt
  have h2 : (i 2).val < 32 := (i 2).isLt
  show ![(BitVec.ofNat 32 (i 0).val).toNat, (BitVec.ofNat 32 (i 2).val).toNat, (BitVec.ofNat 32 (i 1).val).toNat] = _
  rw [word₀ _ (by omega), word₀ _ (by omega), word₀ _ (by omega)]

/-- The block each window holds at a grid point: batch, slab and query block are the point's three coordinates. -/
theorem idx (t : Fin cfg0.N) :
    win0_0.index t = ![0, 0] ∧ win0_1.index t = ![0, 0]
      ∧ win0_2.index t = ![(grid0.coords t 0).val, (grid0.coords t 2).val, 12 + (grid0.coords t 1).val]
      ∧ win0_3.index t = ![(grid0.coords t 0).val, 0, 16 + (grid0.coords t 1).val]
      ∧ win0_4.index t = ![(grid0.coords t 0).val, 0, 20 + (grid0.coords t 1).val]
      ∧ win0_5.index t = ![(grid0.coords t 0).val, (grid0.coords t 2).val, (grid0.coords t 1).val] :=
  ⟨rfl, rfl, map_q _, map_k _, map_v _, map_o _⟩

/-- The grid point of a block of the result. -/
def point (b : Fin 4) (q : Fin 32) (h : Fin 4) : grid0.Coords := fun
  | ⟨0, _⟩ => b | ⟨1, _⟩ => h | ⟨2, _⟩ => q
  | ⟨_ + 3, hh⟩ => absurd hh (Nat.not_lt.2 (Nat.le_add_left _ _))

/-- The result window's block at a point. -/
theorem map_point (b : Fin 4) (q : Fin 32) (h : Fin 4) : cc0_transform_5 (point b q h) = ![b.1, q.1, h.1] := map_o _

/-- The result's blocks cover its array. -/
theorem covers : (cfg0.win 5).Covers :=
  (cfg0.win 5).covers_of_indexMap_surj rfl (by decide) fun β => by
    have h0 : (β ⟨0, by decide⟩).val < 4 :=
      lt_of_lt_of_eq (β ⟨0, by decide⟩).isLt (by decide : (cfg0.win 5).nblk ⟨0, by decide⟩ = 4)
    have h1 : (β ⟨1, by decide⟩).val < 32 :=
      lt_of_lt_of_eq (β ⟨1, by decide⟩).isLt (by decide : (cfg0.win 5).nblk ⟨1, by decide⟩ = 32)
    have h2 : (β ⟨2, by decide⟩).val < 4 :=
      lt_of_lt_of_eq (β ⟨2, by decide⟩).isLt (by decide : (cfg0.win 5).nblk ⟨2, by decide⟩ = 4)
    refine ⟨point ⟨_, h0⟩ ⟨_, h1⟩ ⟨_, h2⟩, fun a => ?_⟩
    refine (congrFun (map_point ⟨_, h0⟩ ⟨_, h1⟩ ⟨_, h2⟩) a).trans ?_
    match a with
    | ⟨0, _⟩ => rfl
    | ⟨1, _⟩ => rfl
    | ⟨2, _⟩ => rfl

variable (m : (ℓ : Loc nD τ sig) → Buf (Elt Ideal) ℓ)

/-- The packed array, the scale vectors and the gain a device holds. -/
abbrev qkv (c : Dev nD) : FVec Ideal S4x8448x3072 .bf16 := m ((c : Thread nD τ).loc main_arg0)
abbrev vecs (c : Dev nD) : FVec Ideal S4x64 .f32 := m ((c : Thread nD τ).loc main_arg1)
abbrev gain (c : Dev nD) : FVec Ideal S1x128 .f32 := m ((c : Thread nD τ).loc main_arg2)

/-- The result array as a function of its index. -/
def G (X : Fin 4 → Fin 8448 → Fin 3072 → ℝ) (lr : ℝ) (g : Fin 128 → EReal) : FVec Ideal S4x8192x512 .bf16 := fun j =>
  attn X lr g (j 0) (j 1) ⟨(j 2).val / 128, by have : (j 2).val < 512 := (j 2).isLt; omega⟩
    ⟨(j 2).val % 128, Nat.mod_lt _ (by decide)⟩

variable (c : Dev nD) (t : Fin cfg0.N)

/-- The grid point's batch, head slab and query block. -/
abbrev pb : Fin 4 := ⟨(grid0.coords t 0).val, (grid0.coords t 0).isLt⟩
abbrev ph : Fin 4 := ⟨(grid0.coords t 1).val, (grid0.coords t 1).isLt⟩
abbrev pq : Fin 32 := ⟨(grid0.coords t 2).val, (grid0.coords t 2).isLt⟩

/-- The block of scale vectors is the whole array. -/
theorem blk_l (i : Fin 4) (d : Fin 64) : (iblk m c 0 t : FVec Ideal S4x64 .f32) (ix2 i d) = vecs m c (ix2 i d) := by
  blk_ext [iblk, V, idx t]

/-- The block of gains is the whole array. -/
theorem blk_g (d : Fin 128) : (iblk m c 1 t : FVec Ideal S1x128 .f32) (ix2 0 d) = gain m c (ix2 0 d) := by
  blk_ext [iblk, V, idx t]

/-- The query block in the packed array. -/
theorem blk_q (r : Fin 256) (d : Fin 128) :
    (iblk m c 2 t : FVec Ideal S1x256x128 .bf16) (ix3 0 r d)
      = qkv m c (ix3 (pb t) ⟨256 * (pq t).1 + r.1, by have := (pq t).2; omega⟩
          ⟨1536 + 128 * (ph t).1 + d.1, by have := (ph t).2; omega⟩) := by
  blk_ext [iblk, V, idx t]

/-- The key block in the packed array. -/
theorem blk_k (j : Fin 8448) (d : Fin 128) :
    (iblk m c 3 t : FVec Ideal S1x8448x128 .bf16) (ix3 0 j d)
      = qkv m c (ix3 (pb t) j ⟨2048 + 128 * (ph t).1 + d.1, by have := (ph t).2; omega⟩) := by
  blk_ext [iblk, V, idx t]

/-- The value block in the packed array. -/
theorem blk_v (j : Fin 8448) (d : Fin 128) :
    (iblk m c 4 t : FVec Ideal S1x8448x128 .bf16) (ix3 0 j d)
      = qkv m c (ix3 (pb t) j ⟨2560 + 128 * (ph t).1 + d.1, by have := (ph t).2; omega⟩) := by
  blk_ext [iblk, V, idx t]

/-- The place of the result block's element in the result array. -/
theorem emb_o (r : Fin 256) (e : Fin 128) :
    ((win0_5.blk t).view.emb (ix3 0 r e) : S4x8192x512.Idx)
      = ix3 (pb t) ⟨256 * (pq t).1 + r.1, by have := (pq t).2; omega⟩
          ⟨128 * (ph t).1 + e.1, by have := (ph t).2; omega⟩ := by
  blk_ext [iblk, V, idx t]

/-- The result function at an element given by its head and lane. -/
theorem G_apply (X : Fin 4 → Fin 8448 → Fin 3072 → ℝ) (lr : ℝ) (g : Fin 128 → EReal) (b : Fin 4) (q : Fin 8192)
    (h : Fin 4) (e : Fin 128) (k : Fin 512) (hk : k.1 = 128 * h.1 + e.1) : G X lr g (ix3 b q k) = attn X lr g b q h e := by
  have h₁ : (⟨k.1 / 128, by omega⟩ : Fin 4) = h := Fin.ext (by dsimp only; omega)
  have h₂ : (⟨k.1 % 128, Nat.mod_lt _ (by decide)⟩ : Fin 128) = e := Fin.ext (by dsimp only; omega)
  show attn X lr g b q ⟨k.1 / 128, _⟩ ⟨k.1 % 128, _⟩ = _
  rw [h₁, h₂]

/-- After the grid the result array holds the layer's result, whatever it held before. -/
theorem out_whole (X : Fin 4 → Fin 8448 → Fin 3072 → ℝ) (lr : ℝ)
    (hX : ∀ b n (k : Fin 3072), 1536 ≤ k.1 → qkv m c (ix3 b n k) = (X b n k : EReal))
    (hl : lam (fun i d => vecs m c (ix2 i d)) = (lr : EReal)) :
    (dats m 0 c).arrAt 5 cfg0.N = G X lr fun e => gain m c (ix2 0 e) := by
  refine (dats m 0 c).arrAt_eq_of_covers 5 _ covers fun t hf y => ?_
  blk_simp
  rw [after0_5]
  obtain ⟨r, e, rfl⟩ : ∃ (r : Fin 256) (e : Fin 128), y = ix3 0 r e :=
    ⟨y 1, y 2, by blk_ext [iblk, V, idx t]⟩
  rw [emb_o t r e, G_apply X lr _ (pb t) _ (ph t) e _ rfl]
  have hg : (fun e => (iblk m c 1 t : FVec Ideal S1x128 .f32) (ix2 0 e)) = fun e => gain m c (ix2 0 e) :=
    funext fun e => blk_g m c t e
  refine (Out.out_apply (iblk m c 0 t) (iblk m c 1 t) (iblk m c 2 t) (iblk m c 3 t) (iblk m c 4 t)
    (fun r d => X (pb t) ⟨256 * (pq t).1 + r.1, by have := (pq t).2; omega⟩
      ⟨1536 + 128 * (ph t).1 + d.1, by have := (ph t).2; omega⟩)
    (fun j d => X (pb t) j ⟨2048 + 128 * (ph t).1 + d.1, by have := (ph t).2; omega⟩)
    (fun j d => X (pb t) j ⟨2560 + 128 * (ph t).1 + d.1, by have := (ph t).2; omega⟩)
    (fun r d => (blk_q m c t r d).trans (hX _ _ _ (by dsimp only; omega)))
    (fun j d => (blk_k m c t j d).trans (hX _ _ _ (by dsimp only; omega)))
    (fun j d => (blk_v m c t j d).trans (hX _ _ _ (by dsimp only; omega))) lr ?_ r e).trans ?_
  · rw [← hl]
    exact congrArg lam (funext fun i => funext fun d => blk_l m c t i d)
  · rw [hg]
    rfl

end Cert.KernelIdeal.Whole

end
-- ==== Proof.Ref.lean ====
/- The reference's result, read one stage at a time. -/
module

public import proofs.«01_k».proof.Proof.Gen.ReferenceIdeal.Read
public import proofs.«01_k».proof.Proof.Whole
public import Idealize.ShloMosaic.Lib.Pointwise

@[expose] public section

set_option maxRecDepth 16384

noncomputable section

namespace Cert.ReferenceIdeal.Ref

open Cert.ReferenceIdeal Cert.ReferenceIdeal.Gen Cert.ReferenceIdeal.Read
open Cert.Softmax Cert.Spec Idealize.ShloMosaic Idealize.SL.Sem

variable (x0 : FVec Ideal S4x8448x3072 .bf16) (x1 : FVec Ideal S4x64 .f32) (x2 : FVec Ideal S1x128 .f32)

/-- The zero word is zero. -/
theorem ofBits_zero : Ideal.ofBits .f32 0x00000000#32 = 0 := by simp [Ideal.ofBits, Ideal.ieee]

/-- The scale of the scores is one eighth. -/
theorem ofBits_eighth : Ideal.ofBits .f32 0x3E000000#32 = ((1 / 8 : ℝ) : EReal) := by
  simp [Ideal.ofBits, Ideal.ieee, ← EReal.coe_mul]; norm_num

/-- The query half-heads. -/
theorem q_apply (b : Fin 4) (q : Fin 8192) (h : Fin 4) (i : Fin 2) (d : Fin 64) :
    val_main_v2 (F := Ideal) x0 (ix5 b q h i d) = x0 (ix3 b ⟨q.1, by omega⟩ (col 1536 (by decide) h i d)) := by
  pointwise [val_main_v2, val_main_v1, val_main_v0]
  exact congrArg (fun k => x0 (ix3 b _ k)) (Fin.ext (by simp only [col]; omega))

/-- The key half-heads. -/
theorem k_apply (b : Fin 4) (j : Fin 8448) (h : Fin 4) (i : Fin 2) (d : Fin 64) :
    val_main_v4 (F := Ideal) x0 (ix5 b j h i d) = x0 (ix3 b j (col 2048 (by decide) h i d)) := by
  pointwise [val_main_v4, val_main_v3, val_main_v0]
  exact congrArg (fun k => x0 (ix3 b _ k)) (Fin.ext (by simp only [col]; omega))

/-- The values. -/
theorem v_apply (b : Fin 4) (j : Fin 8448) (h : Fin 4) (e : Fin 128) :
    val_main_v6 (F := Ideal) x0 (ix4 b j h e) = x0 (ix3 b j ⟨2560 + 128 * h.1 + e.1, by omega⟩) := by
  pointwise [val_main_v6, val_main_v5, val_main_v0]
  exact congrArg (fun k => x0 (ix3 b _ k)) (Fin.ext (by simp only [col]; omega))

/-- The scale. -/
theorem lam_apply : val_main_v22 (F := Ideal) x1 ix0 = lam fun i d => x1 (ix2 i d) := by
  pointwise [val_main_v22, val_main_v21, val_main_v20, val_main_v19, val_main_v18, val_main_v17, val_main_v16, val_main_v15, val_main_v14, val_main_v13, val_main_v12, val_main_v11, val_main_v10, val_main_v9, val_main_v8, val_main_v7]
  rw [lam, val_main_cst_apply, val_main_cst_0_apply, val_main_cst_1_apply]
  show Ideal.exp (Ideal.ofBits .f32 0x00000000#32 + _) - Ideal.exp (Ideal.ofBits .f32 0x00000000#32 + _) + _ = _
  rw [ofBits_zero, zero_add, zero_add]
  rfl

/-- The scores before the scale. -/
theorem dot_apply (b h : Fin 4) (i : Fin 2) (q : Fin 8192) (j : Fin 8448) :
    val_main_v23 (F := Ideal) x0 (ix5 b h i q j)
      = ∑ d : Fin 64, val_main_v2 (F := Ideal) x0 (ix5 b q h i d) * val_main_v4 (F := Ideal) x0 (ix5 b j h i d) := by
  unfold val_main_v23
  pointwise

/-- A host maximum over the last of five axes is the fold over that axis. -/
theorem fold_last {n0 n1 n2 n3 n4 : ℕ} {u : Shape} (y : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel) (b : Fin n0) (hh : Fin n1) (i : Fin n2) (q : Fin n3) :
    Host.reduce FloatOps.maximumf y init h hu (ix4 b hh i q)
      = Finset.fold max (init (Shape.Idx.first hu)) (fun j => y (ix5 b hh i q j)) Finset.univ := by
  rw [Host.reduce_eq_fold, Shape.ReducesTo.fold_fiber_r5_a4]
  rfl

/-- The maximum of a row of scores. -/
theorem max_apply (b h : Fin 4) (i : Fin 2) (q : Fin 8192) :
    val_main_v26 (F := Ideal) x0 (ix4 b h i q)
      = Finset.fold max (val_main_cst_3 (F := Ideal) (Shape.Idx.first h_S_)) (fun j => val_main_v25 (F := Ideal) x0 (ix5 b h i q j)) Finset.univ := by
  unfold val_main_v26
  exact fold_last _ _ _ _ b h i q

/-- The place of an element of the weights' slice of one half, once the unit axis is dropped. -/
theorem drop_unit (i : S4x4x8192x8448.Idx) (b h : Fin 4) (q : Fin 8192) (j : Fin 8448) (hb : (i 0).val = b.val)
    (hh : (i 1).val = h.val) (hq : (i 2).val = q.val) (hj : (i 3).val = j.val) :
    idx_main_v38 i = ix5 b h 0 q j := by
  funext a
  have := b.isLt
  have := h.isLt
  have := q.isLt
  have := j.isLt
  match a with
  | ⟨0, _⟩ => exact Fin.ext (by dsimp only; rw [hb, hh, hq, hj]; show _ = b.val; omega)
  | ⟨1, _⟩ => exact Fin.ext (by dsimp only; rw [hb, hh, hq, hj]; show _ = h.val; omega)
  | ⟨2, _⟩ => rfl
  | ⟨3, _⟩ => exact Fin.ext (by dsimp only; rw [hb, hh, hq, hj]; show _ = q.val; omega)
  | ⟨4, _⟩ => exact Fin.ext (by dsimp only; rw [hb, hh, hq, hj]; show _ = j.val; omega)

/-- The first half of a head is read in place. -/
theorem half_lo (b h : Fin 4) (q : Fin 8192) (j : Fin 8448) : idx_main_v37 (ix5 b h 0 q j) = ix5 b h 0 q j := by
  funext a
  match a with
  | ⟨0, _⟩ => rfl
  | ⟨1, _⟩ => rfl
  | ⟨2, _⟩ => rfl
  | ⟨3, _⟩ => rfl
  | ⟨4, _⟩ => rfl

/-- The second half of a head is read one further. -/
theorem half_hi (b h : Fin 4) (q : Fin 8192) (j : Fin 8448) : idx_main_v39 (ix5 b h 0 q j) = ix5 b h 1 q j := by
  funext a
  match a with
  | ⟨0, _⟩ => rfl
  | ⟨1, _⟩ => rfl
  | ⟨2, _⟩ => rfl
  | ⟨3, _⟩ => rfl
  | ⟨4, _⟩ => rfl

/-- The difference of the two softmaxes of a head. -/
theorem w_apply (b h : Fin 4) (q : Fin 8192) (j : Fin 8448) :
    val_main_v43 (F := Ideal) x0 x1 (ix4 b h q j) = val_main_v36 (F := Ideal) x0 (ix5 b h 0 q j) - val_main_v22 (F := Ideal) x1 ix0 * val_main_v36 (F := Ideal) x0 (ix5 b h 1 q j) := by
  have h0 : val_main_v38 (F := Ideal) x0 (ix4 b h q j) = val_main_v36 (F := Ideal) x0 (ix5 b h 0 q j) := by
    rw [val_main_v38_apply, val_main_v37_apply, drop_unit _ b h q j rfl rfl rfl rfl, half_lo]
  have h1 : val_main_v40 (F := Ideal) x0 (ix4 b h q j) = val_main_v36 (F := Ideal) x0 (ix5 b h 1 q j) := by
    rw [val_main_v40_apply, val_main_v39_apply, ← half_hi]
    exact congrArg (fun i => val_main_v36 (F := Ideal) x0 (idx_main_v39 i)) (drop_unit _ b h q j rfl rfl rfl rfl)
  rw [val_main_v43_apply, val_main_v42_apply, val_main_v41_apply, h0, h1]
  generalize val_main_v36 (F := Ideal) x0 = w
  generalize val_main_v22 (F := Ideal) x1 = l
  exact congrArg (fun i => w (ix5 b h 0 q j) - l i * w (ix5 b h 1 q j)) (funext fun a => a.elim0)

/-- Where the weighted sum reads its values. -/
theorem l44 (b h : Fin 4) (q : Fin 8192) (e : Fin 128) (k : Fin 8448) :
    lidx_main_v44 (idx_main_v45 (ix4 b q h e)) k = ix4 b k h e := by
  funext a
  match a with
  | ⟨0, _⟩ => rfl
  | ⟨1, _⟩ => rfl
  | ⟨2, _⟩ => rfl
  | ⟨3, _⟩ => rfl
/-- Where the weighted sum reads its weights. -/
theorem r44 (b h : Fin 4) (q : Fin 8192) (e : Fin 128) (k : Fin 8448) :
    ridx_main_v44 (idx_main_v45 (ix4 b q h e)) k = ix4 b h q k := by
  funext a
  match a with
  | ⟨0, _⟩ => rfl
  | ⟨1, _⟩ => rfl
  | ⟨2, _⟩ => rfl
  | ⟨3, _⟩ => rfl

/-- The weighted sum of the values of a head. -/
theorem out_apply (b h : Fin 4) (q : Fin 8192) (e : Fin 128) :
    val_main_v45 (F := Ideal) x0 x1 (ix4 b q h e) = ∑ k, val_main_v6 (F := Ideal) x0 (ix4 b k h e) * val_main_v43 (F := Ideal) x0 x1 (ix4 b h q k) := by
  rw [val_main_v45_apply, val_main_v44_apply]
  simp only [l44, r44]

/-- The norm of a head's result, its gain and the last scale, laid out by columns. -/
theorem norm_apply (b : Fin 4) (q : Fin 8192) (n : Fin 512) :
    val_main_v63 (F := Ideal) x0 x1 x2 (ix3 b q n)
      = norm (fun e => val_main_v45 (F := Ideal) x0 x1 (ix4 b q ⟨n.1 / 128, by omega⟩ e)) (fun e => x2 (ix2 0 e))
          ⟨n.1 % 128, Nat.mod_lt _ (by decide)⟩ := by
  unfold val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46
  generalize val_main_v45 (F := Ideal) x0 x1 = w
  pointwise
  rw [val_main_cst_6_apply, val_main_cst_7_apply, val_main_cst_8_apply, val_main_cst_9_apply]
  show _ * Ideal.rsqrt (Ideal.div (Ideal.ofBits .f32 0x00000000#32 + _) _ + _) * _ * _ = _
  rw [ofBits_zero, zero_add]
  rfl

/-- A row of softmax weights over its scores and their maximum. -/
theorem quot_apply (b h : Fin 4) (i : Fin 2) (q : Fin 8192) (j : Fin 8448) :
    val_main_v36 (F := Ideal) x0 (ix5 b h i q j)
      = Ideal.div (Ideal.exp (val_main_v25 (F := Ideal) x0 (ix5 b h i q j) - val_main_v28 (F := Ideal) x0 (ix4 b h i q)))
          (∑ k, Ideal.exp (val_main_v25 (F := Ideal) x0 (ix5 b h i q k) - val_main_v28 (F := Ideal) x0 (ix4 b h i q))) := by
  unfold val_main_v36 val_main_v35 val_main_v34 val_main_v33 val_main_v32 val_main_v31 val_main_v30 val_main_v29
  generalize val_main_v28 (F := Ideal) x0 = m
  generalize val_main_v25 (F := Ideal) x0 = y
  pointwise
  rw [val_main_cst_5_apply]
  show Ideal.div _ (Ideal.ofBits .f32 0x00000000#32 + _) = _
  rw [ofBits_zero, zero_add]

/-- The maximum the exponentials are taken under. -/
theorem top_apply (b h : Fin 4) (i : Fin 2) (q : Fin 8192) :
    val_main_v28 (F := Ideal) x0 (ix4 b h i q) = blockTop fun j => val_main_v25 (F := Ideal) x0 (ix5 b h i q j) := by
  rw [val_main_v28_apply, max_apply, val_main_v27_apply, val_main_cst_3_apply, val_main_cst_4_apply]
  show max (Ideal.ofBits .f32 0xFF800000#32) (Finset.fold max (Ideal.ofBits .f32 0xFF800000#32) _ _) = _
  rw [Cert.KernelIdeal.Blocks.ofBits_neg_inf, bot_sup_eq]
  exact Cert.KernelIdeal.Blocks.fold_max _

section Real
variable (X : Fin 4 → Fin 8448 → Fin 3072 → ℝ)
  (hX : ∀ b n (k : Fin 3072), 1536 ≤ k.1 → x0 (ix3 b n k) = (X b n k : EReal))
include hX

/-- The scaled scores are the real ones. -/
theorem score_apply (b h : Fin 4) (i : Fin 2) (q : Fin 8192) (j : Fin 8448) :
    val_main_v25 (F := Ideal) x0 (ix5 b h i q j) = (Spec.score X b q h i j : EReal) := by
  rw [val_main_v25_apply, dot_apply, val_main_v24_apply, val_main_cst_2_apply]
  show (∑ d, _) * Ideal.ofBits .f32 0x3E000000#32 = _
  rw [ofBits_eighth]
  refine (congrArg (· * ((1 / 8 : ℝ) : EReal)) ((Finset.sum_congr rfl fun d _ => ?_).trans (sum_coe
    (fun d => X b ⟨q.1, by omega⟩ (col 1536 (by decide) h i d)) (fun d => X b j (col 2048 (by decide) h i d))))).trans ?_
  · rw [q_apply, k_apply, hX _ _ _ (by simp only [col]; omega), hX _ _ _ (by simp only [col]; omega)]
  · rw [← EReal.coe_mul]; rfl

/-- The softmax weights are the real ones. -/
theorem soft_apply (b h : Fin 4) (i : Fin 2) (q : Fin 8192) (j : Fin 8448) :
    val_main_v36 (F := Ideal) x0 (ix5 b h i q j) = (soft (Spec.score X b q h i) j : EReal) := by
  have ht : val_main_v28 (F := Ideal) x0 (ix4 b h i q) = blockTop fun j => (Spec.score X b q h i j : EReal) := by
    rw [top_apply]; exact congrArg blockTop (funext fun j => score_apply x0 X hX b h i q j)
  have he : ∀ j, Ideal.exp (val_main_v25 (F := Ideal) x0 (ix5 b h i q j) - val_main_v28 (F := Ideal) x0 (ix4 b h i q))
      = (wt (Spec.score X b q h i j) (blockTop fun j => (Spec.score X b q h i j : EReal)) : EReal) := fun j => by
    rw [score_apply x0 X hX, ht]; exact exp_eq_wt (le_blockTop (fun j => (Spec.score X b q h i j : EReal)) j)
  rw [quot_apply, he, Finset.sum_congr rfl fun k _ => he k, ← coe_sum]
  exact (div_wt (Spec.score X b q h i) j).1

/-- The reference's result is the layer's result. -/
theorem result (lr : ℝ) (hl : lam (fun i d => x1 (ix2 i d)) = (lr : EReal)) :
    val_main_v63 (F := Ideal) x0 x1 x2 = Cert.KernelIdeal.Whole.G X lr fun e => x2 (ix2 0 e) := by
  funext j
  obtain ⟨b, q, n, rfl⟩ : ∃ (b : Fin 4) (q : Fin 8192) (n : Fin 512), j = ix3 b q n :=
    ⟨j 0, j 1, j 2, (eq_ix3 j)⟩
  rw [norm_apply]
  show _ = attn X lr _ b q ⟨n.1 / 128, by omega⟩ ⟨n.1 % 128, Nat.mod_lt _ (by decide)⟩
  unfold attn
  refine congrArg (fun w => norm w (fun e => x2 (ix2 0 e)) ⟨n.1 % 128, Nat.mod_lt _ (by decide)⟩) (funext fun e => ?_)
  rw [out_apply, diff, coe_sum]
  refine Finset.sum_congr rfl fun k _ => ?_
  rw [w_apply, v_apply, soft_apply x0 X hX, soft_apply x0 X hX, lam_apply, hl, hX _ _ _ (by dsimp only; omega),
    ← EReal.coe_mul, ← EReal.coe_sub, ← EReal.coe_mul, mul_comm]

end Real

end Cert.ReferenceIdeal.Ref

end
-- ==== Proof.Pre.lean ====
/- What the precondition gives: the queries, keys and values and the scale's vectors are real numbers. -/
module

public import proofs.«01_k».proof.Proof.Gen.Pre_finite_values
public import Idealize.ShloMosaic.Lib.ReduceAll
public import Idealize.ShloMosaic.Lib.Pointwise
public import Idealize.ShloMosaic.PureOps.Ideal.Laws

@[expose] public section

noncomputable section

namespace Cert.Pre_finite_values.Read

open Cert.Pre_finite_values Idealize.ShloMosaic Facts

/-- A number whose absolute value lies below infinity is real. -/
theorem real_of_lt (x : EReal) (h : max x (-x) < ⊤) : x = (x.toReal : EReal) := by
  induction x with
  | bot => exact absurd h (by simp)
  | top => exact absurd h (by simp)
  | coe r => rfl

/-- The comparison of an absolute value with infinity, read. -/
theorem of_cmp (x : EReal)
    (h : BitVec.ofBool (decide (max x (-x) < Ideal.ofBits .f32 0x7F800000#32)) = 1#1) : x = (x.toReal : EReal) := by
  refine real_of_lt x ?_
  have ht : Ideal.ofBits .f32 0x7F800000#32 = ⊤ := by simp [Ideal.ofBits, Ideal.ieee]
  by_contra hn
  rw [ht, decide_eq_false hn] at h
  exact absurd h (by decide)

/-- A scalar array has one index. -/
instance : Subsingleton S_.Idx := ⟨fun _ _ => funext fun a => a.elim0⟩

/-- Where the precondition holds, the entries it ranges over are real numbers. -/
theorem decode (x0 : FVec Ideal S4x8448x3072 .bf16) (x1 : FVec Ideal S4x64 .f32) (x2 : FVec Ideal S1x128 .f32)
    (i : S_.Idx) (h : fn x0 x1 x2 i = 1#1) :
    (∀ b n (k : Fin 3072), 1536 ≤ k.1 → x0 (ix3 b n k) = ((x0 (ix3 b n k)).toReal : EReal))
      ∧ ∀ a d, x1 (ix2 a d) = ((x1 (ix2 a d)).toReal : EReal) := by
  dsimp only [fn] at h
  have h' := IntOp.andi_eq_one.mp h
  have e0 := fun j => Host.reduce_andi_all _ _ _ _ _ h'.1 j
  have e1 := fun j => Host.reduce_andi_all _ _ _ _ _ h'.2 j
  refine ⟨fun b n k hk => ?_, fun a d => ?_⟩
  · have := e0 (ix3 b n ⟨k.1 - 1536, by omega⟩)
    pointwise at this
    have e : (⟨1536 + (k.1 - 1536), by omega⟩ : Fin 3072) = k := Fin.ext (by dsimp only; omega)
    rw [e] at this
    exact of_cmp _ this
  · have := e1 (ix2 a d)
    pointwise at this
    exact of_cmp _ this

end Cert.Pre_finite_values.Read

end
-- ==== Proof.PreExperts.lean ====
/- What the experts' precondition gives: the table of blocks names experts that exist. -/
module

public import proofs.«01_k».proof.Proof.Gen.Pre_experts_in_range
public import proofs.«01_k».proof.Proof.Ref
public import proofs.«01_k».proof.Proof.Pre
public import Idealize.ShloMosaic.Lib.ReduceAll
public import Idealize.ShloMosaic.Lib.Pointwise

@[expose] public section

noncomputable section

namespace Cert.Pre_experts_in_range.Read

open Cert.Pre_experts_in_range Idealize.ShloMosaic Facts

/-- A scalar array has one index. -/
instance : Subsingleton S_.Idx := ⟨fun _ _ => funext fun a => a.elim0⟩

/-- A word that is, as a signed integer, at least 0 and less than 128 is less than 128 as a natural. -/
theorem lt_of_cmp (x : BitVec 32) (h0 : BitVec.ofBool ((0#32).sle x) = 1#1) (h1 : BitVec.ofBool (x.slt 128#32) = 1#1) : x.toNat < 128 := by
  have e0 : (0#32).sle x = true := by revert h0; cases (0#32).sle x <;> simp
  have e1 : x.slt 128#32 = true := by revert h1; cases x.slt 128#32 <;> simp
  rw [BitVec.sle_iff_toInt_le] at e0
  rw [BitVec.slt_iff_toInt_lt] at e1
  have a0 : (0#32).toInt = 0 := rfl
  have a1 : (128#32).toInt = 128 := rfl
  rw [a0] at e0
  rw [a1] at e1
  have hx := BitVec.toInt_eq_toNat_cond x
  have := x.isLt
  split_ifs at hx <;> omega

/-- Where the precondition holds, every entry of the table is less than 128. -/
theorem decode {F : FTy → Type} [FloatOps F] (x0 : IVec S296 32) (x1 : IVec S1 32) (x2 : FVec F S151552x1024 .bf16) (x3 : FVec F S4x32x1024x2048 .f32)
    (x4 : FVec F S4x32x2048 .f32) (x5 : FVec F S4x32x1024x1024 .f32) (x6 : FVec F S4x32x1024 .f32)
    (i : S_.Idx) (h : fn x0 x1 x2 x3 x4 x5 x6 i = 1#1) (k : Fin 296) : (x0 (ix1 k)).toNat < 128 := by
  dsimp only [fn] at h
  have e := Host.reduce_andi_all _ _ _ _ _ h (ix1 k)
  have e := IntOp.andi_eq_one.mp e
  exact lt_of_cmp _ e.1 e.2

end Cert.Pre_experts_in_range.Read

end
-- ==== Proof.ExpertsHost.lean ====
/- The experts' kernel before its grid: the arrays and tables as its host lines leave them, and its windows' blocks. -/
module

public import proofs.«01_k».proof.Proof.PreExperts
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The host lines before the grid, stretch by stretch. -/
abbrev lines : List (List (HloOp τ sig (Elt F))) :=
  [hostOps0, hostOps0_1, hostOps0_2, hostOps0_3, hostOps0_4, hostOps0_5, hostOps0_6, hostOps0_7, hostOps0_8]

/-- A buffer's contents when the grid starts. -/
@[irreducible] def V (c : Dev nD) (b : Ref sig .tc) : Buf (Elt F) ((c : Thread nD τ).loc b) :=
  StableHlo.after lines.flatten (fun b => m (c, b)) b

/-- Those contents are what the host lines leave. -/
theorem V_eq (c : Dev nD) (b : Ref sig .tc) : V m c b = StableHlo.after lines.flatten (fun b => m (c, b)) b := by
  unfold V; rfl

/-- Every host line touches buffers of the TensorCore only. -/
theorem lines_sub : (lines : List (List (HloOp τ sig (Elt F)))).Forall fun ops =>
    ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub⟩

/-- No host line allocates a buffer. -/
theorem lines_fresh : (lines : List (List (HloOp τ sig (Elt F)))).Forall fun ops =>
    ops.Forall fun op => op.fresh = ∅ := by
  simp only [List.Forall]; repeat' constructor

set_option maxHeartbeats 800000 in
/-- The program runs its host lines and then the grid. -/
theorem hmain (𝒱₀ : Variants) :
    Pipeline.HMainP (Ix := Unit) (Name := ℕ) (U := UR sig nD τ) (Lvl := ℕ) pcfgs 0 defs₀ 𝒱₀ m (main (F := F)) (V m) := by
  rw [show V m = fun c (b : Ref sig .tc) => StableHlo.after lines.flatten (fun b => m (c, b)) (Proc.devRef .tc b) from funext fun c => funext fun b => V_eq m c b]
  exact Pipeline.hmainP_prefixes pcfgs 0 defs₀ 𝒱₀ m main lines lines_sub lines_fresh main_chain

/-- The program's arguments. -/
abbrev args : List (Ref sig .tc) := [main_arg0, main_arg1, main_arg2, main_arg3, main_arg4, main_arg5, main_arg6]

set_option maxHeartbeats 1600000 in
/-- No host line writes an argument. -/
theorem V_arg (c : Dev nD) (b : Ref sig .tc) (hb : b ∈ args) : V m c b = m ((c : Thread nD τ).loc b) := by
  refine (V_eq m c b).trans (StableHlo.after_of_forall_not_mem (b := Proc.devRef .tc b) _ _ (List.forall_iff_forall_mem.mp ?_))
  simp only [List.mem_cons, List.not_mem_nil, or_false] at hb
  simp only [lines, hostOps0, hostOps0_1, hostOps0_2, hostOps0_3, hostOps0_4, hostOps0_5, hostOps0_6, hostOps0_7, hostOps0_8,
    List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  rcases hb with rfl | rfl | rfl | rfl | rfl | rfl | rfl
  all_goals
    repeat' apply And.intro
    all_goals exact StableHlo.devRef_ne_of_ne (by decide)

/-- The two tables' contents when the grid starts. -/
def tbl : pre0.Contents (Elt F) := fun j => V m (0 : Dev nD) (pre0.ref j)

/-- There is one device, so every device's tables are those. -/
theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)
/-- The tables as contents the grid runs at, -/
abbrev adm (hO : Ok m) : (pcfg0 (F := F)).Adm := ⟨tbl m, hO⟩
/-- and the grid at them. -/
abbrev cfgM (hO : Ok m) : Pipeline.Cfg sig Λ₀ := cfg0 (adm m hO)

/-- The table of experts, as the body is handed it. -/
abbrev tbM0 : Memref sig .tc .smem S296 .i32 := Memref.whole main_arg0
/-- The number of used blocks, as the body is handed it. -/
abbrev tbM1 : Memref sig .tc .smem S1 .i32 := Memref.whole main_arg1

/-- The contents of a table's buffer. -/
abbrev TbBuf (c : Dev nD) {S : Shape} {e : EltTy} (M : Memref sig .tc .smem S e) : Type := Buf (Elt F) (M.view.loc (c : Thread nD τ))
/-- A table's buffer held, for reading, at given contents. -/
abbrev tbPt (c : Dev nD) {S : Shape} {e : EltTy} (M : Memref sig .tc .smem S e) (f : TbBuf (F := F) c M) : sProp 𝕄 :=
  M.view.loc (c : Thread nD τ) ↦{fullShare.right} f

/-- The tables the grid hands the body, one by one. -/
theorem PhiT_eq (c : Dev nD) :
    (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a grid point. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The scratch that holds the gate and up weights. -/
abbrev scM0 : Memref sig .tc .vmem S1024x2048 .bf16 := Memref.whole cc0_scratch0
/-- The scratch that holds the down weights. -/
abbrev scM1 : Memref sig .tc .vmem S1024x1024 .bf16 := Memref.whole cc0_scratch1

/-- What the grid hands the body beside windows and tables: the two scratches and the generator's register. -/
theorem PhiA_eq (c : Dev nD) :
    (Pipeline.ΦA spec0 c : sProp 𝕄)
      = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel2Ideal.Experts

end
-- ==== Proof.ExpertsRun.lean ====
/- One point of the experts' grid: what the body leaves in its output block and in its two scratches. -/
module

public import proofs.«01_k».proof.Proof.Gen.Kernel2Ideal.Launch
public import proofs.«01_k».proof.Proof.Gen.Kernel2Ideal.Skeleton
public import Idealize.ShloMosaic.Lib.Pipeline.FrameBody
public import proofs.«01_k».proof.Proof.ExpertsHost
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The columns of the gate and up weights `w`, tile by tile through the reordering `p`, as the body stores them. -/
def pieces (w : Vec F S1x1024x2048 .f32) (p : Vec F S256x256 .bf16) : List (View.Piece (Elt F) S1024x2048 .bf16) :=
  [⟨Rect.unit (s := S1024x2048) ![0, 1792] S1024x256.size inb_S1024x2048_S1024x256_0_1792,
      k0_pay1 (k0_pay5 p) (View.ld w (Rect.unit (s := S1x1024x2048) ![0, 0, 1792] S1x1024x256.size inb_S1x1024x2048_S1x1024x256_0_0_1792))⟩,
   ⟨Rect.unit (s := S1024x2048) ![0, 1536] S1024x256.size inb_S1024x2048_S1024x256_0_1536,
      k0_pay12 (k0_pay5 p) (View.ld w (Rect.unit (s := S1x1024x2048) ![0, 0, 1536] S1x1024x256.size inb_S1x1024x2048_S1x1024x256_0_0_1536))⟩,
   ⟨Rect.unit (s := S1024x2048) ![0, 1280] S1024x256.size inb_S1024x2048_S1024x256_0_1280,
      k0_pay11 (k0_pay5 p) (View.ld w (Rect.unit (s := S1x1024x2048) ![0, 0, 1280] S1x1024x256.size inb_S1x1024x2048_S1x1024x256_0_0_1280))⟩,
   ⟨Rect.unit (s := S1024x2048) ![0, 1024] S1024x256.size inb_S1024x2048_S1024x256_0_1024,
      k0_pay10 (k0_pay5 p) (View.ld w (Rect.unit (s := S1x1024x2048) ![0, 0, 1024] S1x1024x256.size inb_S1x1024x2048_S1x1024x256_0_0_1024))⟩,
   ⟨Rect.unit (s := S1024x2048) ![0, 768] S1024x256.size inb_S1024x2048_S1024x256_0_768,
      k0_pay9 (k0_pay5 p) (View.ld w (Rect.unit (s := S1x1024x2048) ![0, 0, 768] S1x1024x256.size inb_S1x1024x2048_S1x1024x256_0_0_768))⟩,
   ⟨Rect.unit (s := S1024x2048) ![0, 512] S1024x256.size inb_S1024x2048_S1024x256_0_512,
      k0_pay8 p (View.ld w (Rect.unit (s := S1x1024x2048) ![0, 0, 512] S1x1024x256.size inb_S1x1024x2048_S1x1024x256_0_0_512))⟩,
   ⟨Rect.unit (s := S1024x2048) ![0, 256] S1024x256.size inb_S1024x2048_S1024x256_0_256,
      k0_pay7 p (View.ld w (Rect.unit (s := S1x1024x2048) ![0, 0, 256] S1x1024x256.size inb_S1x1024x2048_S1x1024x256_0_0_256))⟩,
   ⟨Rect.unit (s := S1024x2048) ![0, 0] S1024x256.size inb_S1024x2048_S1024x256_0_0,
      k0_pay6 p (View.ld w (Rect.unit (s := S1x1024x2048) ![0, 0, 0] S1x1024x256.size inb_S1x1024x2048_S1x1024x256_0_0_0))⟩]

/-- The eight tiles fill the scratch. -/
theorem pieces_cover (w : Vec F S1x1024x2048 .f32) (p : Vec F S256x256 .bf16) (y : S1024x2048.Idx) :
    ∃ q ∈ pieces w p, y ∈ q.1.set :=
  View.cover_of_tiledL (pieces w p) S1024x256.size (by sl_kernel_rfl) y

/-- The gate and up weights as the body keeps them: gates and ups of a tile side by side. -/
def guBlock (w : Vec F S1x1024x2048 .f32) (p : Vec F S256x256 .bf16) : Vec F S1024x2048 .bf16 := View.canon (pieces w p)

/-- What the body stores for a used block: rows `x`, gate and up weights `g` and biases `b`, down weights `d` and biases `e`. -/
def outUsed (x : Vec F S512x1024 .bf16) (g : Vec F S1024x2048 .bf16) (b : Vec F S1x1x2048 .f32) (d : Vec F S1024x1024 .bf16)
    (e : Vec F S1x1x1024 .f32) : Vec F S512x1024 .bf16 :=
  k0_pay2 (k0_pay14 x g b) (k0_pay15 x g b) (k0_pay18 (k0_pay13 x g b) (k0_pay16 x g b) k0_pay17) (k0_pay19 (k0_pay13 x g b))
    (k0_pay20 (k0_pay13 x g b)) (k0_pay21 (k0_pay13 x g b)) (k0_pay22 (k0_pay13 x g b)) (k0_pay23 (k0_pay13 x g b))
    (k0_pay24 (k0_pay13 x g b)) k0_pay25 d e

/-- The number of used blocks, as the body reads it. -/
abbrev nuWord (c : Dev nD) (xt1 : TbBuf (F := F) c tbM1) : BitVec 32 :=
  View.readAt (Elt F) tbM1.view (Rect.unit (s := S1) ![0] S1.size inb_S1_S1_0).toLoadRect xt1 (Shape.Idx.first (numel1_S1.symm ▸ Nat.one_pos))
/-- This block's expert, as the body reads it. -/
abbrev beWord (c : Dev nD) (i : grid0.Coords) (xt0 : TbBuf (F := F) c tbM0) : BitVec 32 :=
  View.readAt (Elt F) tbM0.view (Rect.unit (s := S296) (k0_off1 i) S1.size (k0_off1_inb i)).toLoadRect xt0 (Shape.Idx.first (numel1_S1.symm ▸ Nat.one_pos))
/-- The expert of the block before, as the body reads it. -/
abbrev bePrev (c : Dev nD) (i : grid0.Coords) (xt0 : TbBuf (F := F) c tbM0) : BitVec 32 :=
  View.readAt (Elt F) tbM0.view (Rect.unit (s := S296) (k0_off2 i) S1.size (k0_off2_inb i)).toLoadRect xt0 (Shape.Idx.first (numel1_S1.symm ▸ Nat.one_pos))

/-- The condition under which the body stores new weights into its scratches. -/
abbrev fresh (i : grid0.Coords) (n b b' : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne b b')))) 0#32

/-- A load of a whole buffer reads its contents. -/
theorem load_whole {sp : Space} {s : Shape} {e : EltTy} {M : Memref sig .tc sp s e} (h : M.IsWhole) {off : Fin s.rank → ℕ}
    (inb : ∀ a, off a + s.size a ≤ s.size a) (x : s.Idx → Elt F e) :
    M.view.readAt (Elt F) (Rect.unit off s.size inb).toLoadRect (h.unread x) = x := by
  rw [View.readAt_full, h.read_unread]

/-- A load of a part of a whole buffer reads that part of its contents. -/
theorem load_part {sp : Space} {s : Shape} {e : EltTy} {M : Memref sig .tc sp s e} (h : M.IsWhole) (r : Rect s) (x : s.Idx → Elt F e) :
    M.view.readAt (Elt F) r.toLoadRect (h.unread x) = View.ld x r := by
  rw [View.readAt_eq_ld, h.read_unread]

/-- The rows a used block's store leaves, from what the body's loads read. -/
theorem out_stored (M : Memref sig .tc .vmem S512x1024 .bf16) (f : M.view.ty.Contents (Elt F)) (inb : ∀ a, (![0, 0] : Fin 2 → ℕ) a + S512x1024.size a ≤ S512x1024.size a)
    {x x' : Vec F S512x1024 .bf16} {g g' : Vec F S1024x2048 .bf16} {b b' : Vec F S1x1x2048 .f32} {d d' : Vec F S1024x1024 .bf16} {e e' : Vec F S1x1x1024 .f32}
    (hx : x' = x) (hg : g' = g) (hb : b' = b) (hd : d' = d) (he : e' = e) :
    M.view.read (Elt F) (M.view.writes (Elt F) f [⟨Rect.unit (s := S512x1024) ![0, 0] S512x1024.size inb, outUsed x' g' b' d' e'⟩]) = outUsed x g b d e := by
  subst hx hg hb hd he
  exact View.read_writes_full _ _ _ _ _

set_option maxHeartbeats 2000000 in
/-- An unused block: the body stores zeros. -/
theorem run_unused (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x256 .bf16) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x1024 .bf16) (x1 : Vec F S1x1024x2048 .f32) (x2 : Vec F S1x1x2048 .f32) (x3 : Vec F S1x1024x1024 .f32) (x4 : Vec F S1x1x1024 .f32) (x5 : Vec F S256x256 .bf16) (xt0 : TbBuf (F := F) c tbM0) (xt1 : TbBuf (F := F) c tbM1)
    (h1 : ¬fresh i (nuWord c xt1) (beWord c i xt0) (bePrev c i xt0) = 1#1) (h2 : ¬k0_cond2 i (nuWord c xt1) = 1#1) (h3 : k0_cond3 i (nuWord c xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ ((∃ d, owns (c : Thread nD τ) arg10 fullShare d) ∗ (∃ d, owns (c : Thread nD τ) arg11 fullShare d)) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (k0_pay3 (F := F)) ∗ ((∃ d, owns (c : Thread nD τ) arg10 fullShare d) ∗ (∃ d, owns (c : Thread nD τ) arg11 fullShare d)) ∗ tbPt c tbM0 xt0 ∗ tbPt c tbM1 xt1) -∗ K ⟨⟩))
      ⊢ wp frame (wpE (defs₀ (F := F)) Variants.none c none) E (cc0_moe_experts i tbM0 (Memref.isWhole_whole _) tbM1 (Memref.isWhole_whole _) arg3 harg3 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨⟨%ds0, %fs0, -, HS0⟩, ⟨%ds1, %fs1, -, HS1⟩⟩, HT0, HT1, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro; exact View.read_writes_full _ _ _ _ _
  isplitl [HS0 HS1]
  · isplitl [HS0]
    · iexists _, fs0; isplitr; · ipureintro; rfl
      iexact HS0
    · iexists _, fs1; isplitr; · ipureintro; rfl
      iexact HS1
  isplitl [HT0]; · iexact HT0
  iexact HT1

end Cert.Kernel2Ideal.Experts

end
-- ==== Proof.ExpertsKept.lean ====
/- A point of the experts' grid that keeps the weights of the point before. -/
module

public import proofs.«01_k».proof.Proof.Gen.Kernel2Ideal.Launch
public import proofs.«01_k».proof.Proof.Gen.Kernel2Ideal.Skeleton
public import Idealize.ShloMosaic.Lib.Pipeline.FrameBody
public import proofs.«01_k».proof.Proof.ExpertsRun
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- A used block of the same expert as the block before: the body reads its scratches and stores the block's rows. -/
theorem run_kept (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x256 .bf16) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x1024 .bf16) (x1 : Vec F S1x1024x2048 .f32) (x2 : Vec F S1x1x2048 .f32) (x3 : Vec F S1x1024x1024 .f32) (x4 : Vec F S1x1x1024 .f32) (x5 : Vec F S256x256 .bf16) (xt0 : TbBuf (F := F) c tbM0) (xt1 : TbBuf (F := F) c tbM1) (g : Vec F S1024x2048 .bf16) (d : Vec F S1024x1024 .bf16)
    (h1 : ¬fresh i (nuWord c xt1) (beWord c i xt0) (bePrev c i xt0) = 1#1) (h2 : k0_cond2 i (nuWord c xt1) = 1#1) (h3 : ¬k0_cond3 i (nuWord c xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (owns (c : Thread nD τ) arg10 fullShare g ∗ owns (c : Thread nD τ) arg11 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outUsed x0 g x2 d x4) ∗ (owns (c : Thread nD τ) arg10 fullShare g ∗ owns (c : Thread nD τ) arg11 fullShare d) ∗ tbPt c tbM0 xt0 ∗ tbPt c tbM1 xt1) -∗ K ⟨⟩))
      ⊢ wp frame (wpE (defs₀ (F := F)) Variants.none c none) E (cc0_moe_experts i tbM0 (Memref.isWhole_whole _) tbM1 (Memref.isWhole_whole _) arg3 harg3 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨⟨%fs0, %hs0, HS0⟩, ⟨%fs1, %hs1, HS1⟩⟩, HT0, HT1, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro; exact out_stored arg9 _ _ (load_whole harg3 _ _) ((View.readAt_full _ _ _).trans hs0) (load_whole harg5 _ _) ((View.readAt_full _ _ _).trans hs1) (load_whole harg7 _ _)
  isplitl [HS0 HS1]
  · isplitl [HS0]
    · iexists _; isplitr; swap; · iexact HS0
      ipureintro; exact hs0
    · iexists _; isplitr; swap; · iexact HS1
      ipureintro; exact hs1
  isplitl [HT0]; · iexact HT0
  iexact HT1

end Cert.Kernel2Ideal.Experts

end
-- ==== Proof.ExpertsFresh.lean ====
/- A point of the experts' grid that loads new weights. -/
module

public import proofs.«01_k».proof.Proof.Gen.Kernel2Ideal.Launch
public import proofs.«01_k».proof.Proof.Gen.Kernel2Ideal.Skeleton
public import Idealize.ShloMosaic.Lib.Pipeline.FrameBody
public import proofs.«01_k».proof.Proof.ExpertsKept
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A load of the whole scratch after the eight stores reads the weights they hold. -/
theorem filled (M : Memref sig .tc .vmem S1024x2048 .bf16) (inb : ∀ a, (![0, 0] : Fin 2 → ℕ) a + S1024x2048.size a ≤ S1024x2048.size a)
    {w w' : Vec F S1x1024x2048 .f32} {p p' : Vec F S256x256 .bf16} (hw : w' = w) (hp : p' = p) :
    M.view.readCov (pieces w' p') (Rect.unit (s := S1024x2048) ![0, 0] S1024x2048.size inb).toLoadRect = guBlock w p := by
  subst hw hp
  exact (View.readAt_full _ _ _).trans (View.read_writes_junk_eq_canon _ _)

/-- The scratch after the eight stores holds those weights. -/
theorem filled_read (M : Memref sig .tc .vmem S1024x2048 .bf16) (f : M.view.ty.Contents (Elt F))
    {w w' : Vec F S1x1024x2048 .f32} {p p' : Vec F S256x256 .bf16} (hw : w' = w) (hp : p' = p) :
    M.view.read (Elt F) (M.view.writes (Elt F) f (pieces w' p')) = guBlock w p := by
  subst hw hp
  exact View.read_writes_eq_canon _ _ _ (pieces_cover _ _)

set_option maxHeartbeats 2000000 in
/-- A used block whose expert the block before did not have: the body fills both scratches and stores the block's rows. -/
theorem run_fresh (c : Dev nD) (i : grid0.Coords) (arg3 : Memref sig .tc .vmem S512x1024 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x256 .bf16) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x0 : Vec F S512x1024 .bf16) (x1 : Vec F S1x1024x2048 .f32) (x2 : Vec F S1x1x2048 .f32) (x3 : Vec F S1x1024x1024 .f32) (x4 : Vec F S1x1x1024 .f32) (x5 : Vec F S256x256 .bf16) (xt0 : TbBuf (F := F) c tbM0) (xt1 : TbBuf (F := F) c tbM1)
    (h1 : fresh i (nuWord c xt1) (beWord c i xt0) (bePrev c i xt0) = 1#1) (h2 : k0_cond2 i (nuWord c xt1) = 1#1) (h3 : ¬k0_cond3 i (nuWord c xt1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ ((∃ d, owns (c : Thread nD τ) arg10 fullShare d) ∗ (∃ d, owns (c : Thread nD τ) arg11 fullShare d)) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outUsed x0 (guBlock x1 x5) x2 (k0_pay4 x3) x4) ∗ (owns (c : Thread nD τ) arg10 fullShare (guBlock x1 x5) ∗ owns (c : Thread nD τ) arg11 fullShare (k0_pay4 x3)) ∗ tbPt c tbM0 xt0 ∗ tbPt c tbM1 xt1) -∗ K ⟨⟩))
      ⊢ wp frame (wpE (defs₀ (F := F)) Variants.none c none) E (cc0_moe_experts i tbM0 (Memref.isWhole_whole _) tbM1 (Memref.isWhole_whole _) arg3 harg3 arg4 harg4 arg5 harg5 arg6 harg6 arg7 harg7 arg8 harg8 arg9 harg9 arg10 harg10 arg11 harg11) K := by
  simp only [cc0_moe_experts_eq_skeleton]; unfold cc0_moe_experts_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨⟨%ds0, %fs0, -, HS0⟩, ⟨%ds1, %fs1, -, HS1⟩⟩, HT0, HT1, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro; exact out_stored arg9 _ _ (load_whole harg3 _ _) (filled arg10 _ (harg4.read_unread x1) (load_whole harg8 _ x5)) (load_whole harg5 _ _) ((View.readCov_full _ _ _ _ _).trans (congrArg k0_pay4 (load_whole harg6 _ _))) (load_whole harg7 _ _)
  isplitl [HS0 HS1]
  · isplitl [HS0]
    · iexists _; isplitr; swap; · iexact HS0
      ipureintro; exact filled_read arg10 _ (harg4.read_unread x1) (load_whole harg8 inb_S256x256_S256x256_0_0 x5)
    · iexists _; isplitr; swap; · iexact HS1
      ipureintro; exact (View.read_writes_full _ _ _ _ _).trans (congrArg k0_pay4 (load_whole harg6 _ _))
  isplitl [HT0]; · iexact HT0
  iexact HT1

end Cert.Kernel2Ideal.Experts

end
-- ==== Proof.ExpertsWords.lean ====
module

public import proofs.«01_k».proof.Proof.Gen.Kernel2Ideal.Launch
public import proofs.«01_k».proof.Proof.Gen.Kernel2Ideal.Skeleton
public import Idealize.ShloMosaic.Lib.Pipeline.FrameBody
public import proofs.«01_k».proof.Proof.ExpertsFresh
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (hO : Ok m) (c : Dev nD)

/-- The grid has one axis, whose coordinate is the point's number. -/
theorem coord_val : ∀ t : Fin grid0.N, ((grid0.coords t) 0).val = t.val := by decide +kernel

/-- A bit made of a truth value is set exactly when it is true. -/
theorem ofBool_iff : ∀ b : Bool, BitVec.ofBool b = 1#1 ↔ b = true := by decide

/-- A used block is one whose number is below the number of used blocks. -/
theorem used_iff (i : grid0.Coords) (n : BitVec 32) :
    k0_cond2 i n = 1#1 ↔ Scalar.cmpi .slt (BitVec.ofNat 32 (i 0).val) n = 1#1 := by
  have key : ∀ a : BitVec 1, Scalar.cmpi .ne (Scalar.extui a : BitVec 32) 0#32 = 1#1 ↔ a = 1#1 := by decide
  exact key _

/-- The body stores zeros exactly in the unused blocks. -/
theorem zeros_iff (i : grid0.Coords) (n : BitVec 32) : k0_cond3 i n = 1#1 ↔ ¬k0_cond2 i n = 1#1 := by
  have key : ∀ a : BitVec 1, Scalar.cmpi .ne (Scalar.extui (Scalar.xori a 1#1) : BitVec 32) 0#32 = 1#1
      ↔ ¬Scalar.cmpi .ne (Scalar.extui a : BitVec 32) 0#32 = 1#1 := by decide
  exact key _

/-- New weights are stored only in used blocks. -/
theorem used_of_fresh (i : grid0.Coords) (n b b' : BitVec 32) (h : fresh i n b b' = 1#1) : k0_cond2 i n = 1#1 := by
  rw [used_iff]
  revert h
  unfold fresh
  generalize Scalar.cmpi .slt (BitVec.ofNat 32 (i 0).val) n = a
  generalize Scalar.cmpi .eq (BitVec.ofNat 32 (i 0).val) 0#32 = b₁
  generalize Scalar.cmpi .ne b b' = b₂
  revert a b₁ b₂; decide

/-- A used block that keeps the weights is not the first, and its expert is the one of the block before. -/
theorem kept_of_not_fresh (i : grid0.Coords) (n b b' : BitVec 32) (hu : k0_cond2 i n = 1#1) (h : ¬fresh i n b b' = 1#1) :
    (i 0).val ≠ 0 ∧ b = b' := by
  rw [used_iff] at hu
  have key : ∀ a b₁ b₂ : BitVec 1, a = 1#1 → ¬Scalar.cmpi .ne (Scalar.extui (Scalar.andi a (Scalar.ori b₁ b₂)) : BitVec 32) 0#32 = 1#1 →
      b₁ = 0#1 ∧ b₂ = 0#1 := by decide
  obtain ⟨h₁, h₂⟩ := key _ _ _ hu h
  constructor
  · intro h0
    rw [h0] at h₁
    exact absurd h₁ (by decide)
  · by_contra hne
    have : Scalar.cmpi .ne b b' = 1#1 := (ofBool_iff _).mpr (bne_iff_ne.mpr hne)
    rw [this] at h₂
    exact absurd h₂ (by decide)

/-- The block before a used block is used. -/
theorem used_before (i i' : grid0.Coords) (n : BitVec 32) (h : (i' 0).val ≤ (i 0).val) (hu : k0_cond2 i n = 1#1) :
    k0_cond2 i' n = 1#1 := by
  rw [used_iff] at hu ⊢
  have h1 : (i 0).val < 296 := (i 0).isLt
  have e : ∀ k : ℕ, k < 296 → (BitVec.ofNat 32 k).toInt = k := fun k hk => by
    rw [BitVec.toInt_eq_toNat_of_lt (by rw [BitVec.toNat_ofNat]; omega), BitVec.toNat_ofNat]; omega
  have hs : ∀ k : ℕ, k < 296 → (Scalar.cmpi .slt (BitVec.ofNat 32 k) n = 1#1 ↔ (k : ℤ) < n.toInt) := fun k hk => by
    rw [← e k hk]; exact (ofBool_iff _).trans BitVec.slt_iff_toInt_lt
  rw [hs _ h1] at hu
  rw [hs _ (by omega)]
  omega

/-- The expert the body reads for the block before, at a point that is not the first. -/
theorem bePrev_eq (i i' : grid0.Coords) (h : (i 0).val = (i' 0).val + 1) (xt0 : TbBuf (F := F) c tbM0) :
    bePrev c i xt0 = beWord c i' xt0 := by
  have e : k0_off2 i = k0_off1 i' := by
    have h1 : (i 0).val < 296 := (i 0).isLt
    have : ∀ k : ℕ, k + 1 < 296 → (Scalar.indexCast (Scalar.maxsi (Scalar.subi (BitVec.ofNat 32 (k + 1)) 1#32) 0#32)).toNat
        = (Scalar.indexCast (BitVec.ofNat 32 k)).toNat := fun k hk => by
      have : ∀ k : Fin 295, (Scalar.indexCast (Scalar.maxsi (Scalar.subi (BitVec.ofNat 32 (k.val + 1)) 1#32) 0#32)).toNat
        = (Scalar.indexCast (BitVec.ofNat 32 k.val)).toNat := by decide +kernel
      exact this ⟨k, by omega⟩
    unfold k0_off2 k0_off1
    rw [h]
    dsimp only
    rw [this _ (by omega)]
  have key : ∀ (o o' : Fin 1 → ℕ) (h : ∀ a, o a + S1.size a ≤ S296.size a) (h' : ∀ a, o' a + S1.size a ≤ S296.size a), o = o' →
      View.readAt (Elt F) tbM0.view (Rect.unit (s := S296) o S1.size h).toLoadRect xt0 (Shape.Idx.first (numel1_S1.symm ▸ Nat.one_pos))
        = View.readAt (Elt F) tbM0.view (Rect.unit (s := S296) o' S1.size h').toLoadRect xt0 (Shape.Idx.first (numel1_S1.symm ▸ Nat.one_pos)) := by
    rintro o _ h h' rfl; rfl
  exact key _ _ _ _ e

/-- The block of a window of weights is the one its expert names. -/
theorem index_1 (i : grid0.Coords) : cc0_transform_1 k0_off1_inb numel1_S1 (tbl m) i = ![(beWord c i (tbl m 0)).toNat, 0, 0] := by
  exact congrArg (fun b : BitVec 32 => ![b.toNat, 0, 0]) (BitVec.zero_add (beWord c i (tbl m 0)))
/-- The four windows' maps name the same block. -/
theorem index_2 (i : grid0.Coords) : cc0_transform_2 k0_off1_inb numel1_S1 (tbl m) i = ![(beWord c i (tbl m 0)).toNat, 0, 0] :=
  index_1 m c i
theorem index_3 (i : grid0.Coords) : cc0_transform_3 k0_off1_inb numel1_S1 (tbl m) i = ![(beWord c i (tbl m 0)).toNat, 0, 0] :=
  index_1 m c i
theorem index_4 (i : grid0.Coords) : cc0_transform_4 k0_off1_inb numel1_S1 (tbl m) i = ![(beWord c i (tbl m 0)).toNat, 0, 0] :=
  index_1 m c i

/-- The gate and up weights of a point's block, in the array of all experts' weights. -/
theorem iblk_1 (t : Fin (cfgM m hO).N) (y : S1x1024x2048.Idx) (z : S128x1024x2048.Idx)
    (h0 : (z 0).val = (beWord c (grid0.coords t) (tbl m 0)).toNat) (h1 : z 1 = y 1) (h2 : z 2 = y 2) :
    (iblk m hO c 1 t : Vec F S1x1024x2048 .f32) y = (V m c main_v0 : Vec F S128x1024x2048 .f32) z := by
  have hi := index_1 m c (grid0.coords t)
  refine congrArg (V m c main_v0 : Vec F S128x1024x2048 .f32) (funext fun a => Fin.ext ?_)
  show cc0_transform_1 k0_off1_inb numel1_S1 (tbl m) (grid0.coords t) a * S1x1024x2048.size a + 1 * (y a).val = (z a).val
  rw [hi]
  have hy : (y 0).val < 1 := (y 0).isLt
  fin_cases a
  · show (beWord c (grid0.coords t) (tbl m 0)).toNat * 1 + 1 * (y 0).val = (z 0).val; omega
  · show 0 * 1024 + 1 * (y 1).val = (z 1).val; rw [h1]; omega
  · show 0 * 2048 + 1 * (y 2).val = (z 2).val; rw [h2]; omega

/-- A point's gate and up biases, in the array of all experts' biases. -/
theorem iblk_2 (t : Fin (cfgM m hO).N) (y : S1x1x2048.Idx) (z : S128x1x2048.Idx)
    (h0 : (z 0).val = (beWord c (grid0.coords t) (tbl m 0)).toNat) (h2 : z 2 = y 2) :
    (iblk m hO c 2 t : Vec F S1x1x2048 .f32) y = (V m c main_v3 : Vec F S128x1x2048 .f32) z := by
  have hi := index_2 m c (grid0.coords t)
  refine congrArg (V m c main_v3 : Vec F S128x1x2048 .f32) (funext fun a => Fin.ext ?_)
  show cc0_transform_2 k0_off1_inb numel1_S1 (tbl m) (grid0.coords t) a * S1x1x2048.size a + 1 * (y a).val = (z a).val
  rw [hi]
  have hy : (y 0).val < 1 := (y 0).isLt
  have hy1 : (y 1).val < 1 := (y 1).isLt
  have hz1 : (z 1).val < 1 := (z 1).isLt
  fin_cases a
  · show (beWord c (grid0.coords t) (tbl m 0)).toNat * 1 + 1 * (y 0).val = (z 0).val; omega
  · show 0 * 1 + 1 * (y 1).val = (z 1).val; omega
  · show 0 * 2048 + 1 * (y 2).val = (z 2).val; rw [h2]; omega

/-- A point's down weights, in the array of all experts' weights. -/
theorem iblk_3 (t : Fin (cfgM m hO).N) (y : S1x1024x1024.Idx) (z : S128x1024x1024.Idx)
    (h0 : (z 0).val = (beWord c (grid0.coords t) (tbl m 0)).toNat) (h1 : z 1 = y 1) (h2 : z 2 = y 2) :
    (iblk m hO c 3 t : Vec F S1x1024x1024 .f32) y = (V m c main_v4 : Vec F S128x1024x1024 .f32) z := by
  have hi := index_3 m c (grid0.coords t)
  refine congrArg (V m c main_v4 : Vec F S128x1024x1024 .f32) (funext fun a => Fin.ext ?_)
  show cc0_transform_3 k0_off1_inb numel1_S1 (tbl m) (grid0.coords t) a * S1x1024x1024.size a + 1 * (y a).val = (z a).val
  rw [hi]
  have hy : (y 0).val < 1 := (y 0).isLt
  fin_cases a
  · show (beWord c (grid0.coords t) (tbl m 0)).toNat * 1 + 1 * (y 0).val = (z 0).val; omega
  · show 0 * 1024 + 1 * (y 1).val = (z 1).val; rw [h1]; omega
  · show 0 * 1024 + 1 * (y 2).val = (z 2).val; rw [h2]; omega

/-- A point's down biases, in the array of all experts' biases. -/
theorem iblk_4 (t : Fin (cfgM m hO).N) (y : S1x1x1024.Idx) (z : S128x1x1024.Idx)
    (h0 : (z 0).val = (beWord c (grid0.coords t) (tbl m 0)).toNat) (h2 : z 2 = y 2) :
    (iblk m hO c 4 t : Vec F S1x1x1024 .f32) y = (V m c main_v5 : Vec F S128x1x1024 .f32) z := by
  have hi := index_4 m c (grid0.coords t)
  refine congrArg (V m c main_v5 : Vec F S128x1x1024 .f32) (funext fun a => Fin.ext ?_)
  show cc0_transform_4 k0_off1_inb numel1_S1 (tbl m) (grid0.coords t) a * S1x1x1024.size a + 1 * (y a).val = (z a).val
  rw [hi]
  have hy : (y 0).val < 1 := (y 0).isLt
  have hy1 : (y 1).val < 1 := (y 1).isLt
  have hz1 : (z 1).val < 1 := (z 1).isLt
  fin_cases a
  · show (beWord c (grid0.coords t) (tbl m 0)).toNat * 1 + 1 * (y 0).val = (z 0).val; omega
  · show 0 * 1 + 1 * (y 1).val = (z 1).val; omega
  · show 0 * 1024 + 1 * (y 2).val = (z 2).val; rw [h2]; omega

/-- The block of the reordering is the whole array, at every point. -/
theorem iblk_5 (t : Fin (cfgM m hO).N) : (iblk m hO c 5 t : Vec F S256x256 .bf16) = (V m c main_v21 : Vec F S256x256 .bf16) := by
  refine funext fun (y : S256x256.Idx) => ?_
  refine congrArg (V m c main_v21 : Vec F S256x256 .bf16) (funext fun a => Fin.ext ?_)
  show cc0_transform_5 (grid0.coords t) a * S256x256.size a + 1 * (y a).val = (y a).val
  fin_cases a
  · show 0 * 256 + 1 * (y 0).val = (y 0).val; omega
  · show 0 * 256 + 1 * (y 1).val = (y 1).val; omega

/-- A point's rows, in the array of all rows. -/
theorem iblk_0 (t : Fin (cfgM m hO).N) (y : S512x1024.Idx) (z : S151552x1024.Idx)
    (h0 : (z 0).val = t.val * 512 + (y 0).val) (h1 : z 1 = y 1) :
    (iblk m hO c 0 t : Vec F S512x1024 .bf16) y = (V m c main_arg2 : Vec F S151552x1024 .bf16) z := by
  refine congrArg (V m c main_arg2 : Vec F S151552x1024 .bf16) (funext fun a => Fin.ext ?_)
  show cc0_transform_0 (grid0.coords t) a * S512x1024.size a + 1 * (y a).val = (z a).val
  fin_cases a
  · show (BitVec.ofNat 32 ((grid0.coords t) 0).val).toNat * 512 + 1 * (y 0).val = (z 0).val
    rw [coord_val, h0, BitVec.toNat_ofNat, Nat.mod_eq_of_lt (lt_trans (lt_of_lt_of_eq t.isLt N_0) (by decide))]; omega
  · show 0 * 1024 + 1 * (y 1).val = (z 1).val; rw [h1]; omega

/-- The expert named at a point is one of the array's. -/
theorem be_lt (hO : Ok m) (i : grid0.Coords) : (beWord c i (tbl m 0)).toNat < 128 := by
  obtain ⟨h, -⟩ := hO.1 i
  have h := h 0
  rw [index_1 m c i] at h
  have h : ((beWord c i (tbl m 0)).toNat + 1) * 1 ≤ 128 := h
  omega

/-- The gate and up weights of expert `b`. -/
def guOf (b : Fin 128) : Vec F S1x1024x2048 .f32 := fun y => (V m c main_v0 : Vec F S128x1024x2048 .f32) (ix3 b (y 1) (y 2))
/-- The down weights of expert `b`. -/
def dnOf (b : Fin 128) : Vec F S1x1024x1024 .f32 := fun y => (V m c main_v4 : Vec F S128x1024x1024 .f32) (ix3 b (y 1) (y 2))

/-- The expert of a block. -/
def expert (i : grid0.Coords) : Fin 128 := ⟨(beWord c i (tbl m 0)).toNat, be_lt m c hO i⟩

/-- A point sees its expert's gate and up weights, -/
theorem gu_eq (t : Fin (cfgM m hO).N) : iblk m hO c 1 t = guOf m c (expert m hO c (grid0.coords t)) :=
  funext fun (y : S1x1024x2048.Idx) => iblk_1 m hO c t y (ix3 (expert m hO c (grid0.coords t)) (y 1) (y 2)) rfl rfl rfl

/-- and its expert's down weights. -/
theorem dn_eq (t : Fin (cfgM m hO).N) : iblk m hO c 3 t = dnOf m c (expert m hO c (grid0.coords t)) :=
  funext fun (y : S1x1024x1024.Idx) => iblk_3 m hO c t y (ix3 (expert m hO c (grid0.coords t)) (y 1) (y 2)) rfl rfl rfl

/-- Equal words name equal experts. -/
theorem expert_congr (i i' : grid0.Coords) (h : beWord c i (tbl m 0) = beWord c i' (tbl m 0)) : expert m hO c i = expert m hO c i' :=
  Fin.ext (by show (beWord c i (tbl m 0)).toNat = (beWord c i' (tbl m 0)).toNat; rw [h])

end Cert.Kernel2Ideal.Experts

end
-- ==== Proof.ExpertsData.lean ====
module

public import proofs.«01_k».proof.Proof.Gen.Kernel2Ideal.Launch
public import proofs.«01_k».proof.Proof.Gen.Kernel2Ideal.Skeleton
public import Idealize.ShloMosaic.Lib.Pipeline.FrameBody
public import proofs.«01_k».proof.Proof.ExpertsWords
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg) (hO : Ok m) (c : Dev nD)

/-- The two scratches at anything. -/
abbrev anyS (c : Dev nD) : sProp 𝕄 :=
  iprop((∃ d, owns (c : Thread nD τ) scM0 fullShare d) ∗ (∃ d, owns (c : Thread nD τ) scM1 fullShare d))

/-- The two scratches holding gate and up weights `w`, reordered by `p`, and down weights `d`. -/
abbrev keptAt (c : Dev nD) (w : Vec F S1x1024x2048 .f32) (p : Vec F S256x256 .bf16) (d : Vec F S1x1024x1024 .f32) : sProp 𝕄 :=
  iprop(owns (c : Thread nD τ) scM0 fullShare (guBlock w p) ∗ owns (c : Thread nD τ) scM1 fullShare (k0_pay4 d))

/-- Whatever the scratches hold, they hold something. -/
theorem any_of_kept (w : Vec F S1x1024x2048 .f32) (p : Vec F S256x256 .bf16) (d : Vec F S1x1024x1024 .f32) :
    keptAt c w p d ⊢ (anyS c : sProp 𝕄) := by
  iintro ⟨H0, H1⟩
  isplitl [H0]; · iexists _; iexact H0
  iexists _; iexact H1

/-- The block is used. -/
abbrev Used (t : Fin (cfgM m hO).N) : Prop := k0_cond2 (grid0.coords t) (nuWord c (tbl m 1)) = 1#1

/-- The scratches after a point: at the point's weights if the block is used. -/
def scrAfter (t : Fin (cfgM m hO).N) : sProp 𝕄 :=
  if Used m hO c t then keptAt c (iblk m hO c 1 t) (iblk m hO c 5 t) (iblk m hO c 3 t) else anyS c

/-- The scratches before point `n`. -/
def scr : (n : ℕ) → n ≤ (cfgM m hO).N → sProp 𝕄
  | 0, _ => anyS c
  | n + 1, hn => scrAfter m hO c ⟨n, hn⟩

/-- After any point the scratches hold something. -/
theorem any_of_after (t : Fin (cfgM m hO).N) : scrAfter m hO c t ⊢ anyS c := by
  unfold scrAfter
  split
  · exact any_of_kept c _ _ _
  · exact .rfl

/-- Before any point the scratches hold something. -/
theorem any_of_scr : ∀ (n : ℕ) (h : n ≤ (cfgM m hO).N), scr m hO c n h ⊢ anyS c
  | 0, _ => .rfl
  | n + 1, hn => any_of_after m hO c ⟨n, hn⟩

/-- What a point leaves in its output block. -/
def outBlk (t : Fin (cfgM m hO).N) : Vec F S512x1024 .bf16 :=
  if Used m hO c t then
    outUsed (iblk m hO c 0 t) (guBlock (iblk m hO c 1 t) (iblk m hO c 5 t)) (iblk m hO c 2 t) (k0_pay4 (iblk m hO c 3 t)) (iblk m hO c 4 t)
  else k0_pay3

/-- What holds between points: the scratches, the generator's register, the tables. -/
def Phi (n : ℕ) (h : n ≤ (cfgM m hO).N) : sProp 𝕄 :=
  iprop((scr m hO c n h ∗ (∃ r, prngReg c r)) ∗ Pipeline.ΦT pre0 (tbl m) c)

/-- The grid's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outBlk m hO c t
  Φ t := Phi m hO c t.val (Nat.le_of_lt_succ t.isLt)
  q _ := fullShare
  owed _ := 0

/-- The arrays are what the host lines leave. -/
theorem A_eq (w : Fin (cfgM m hO).W) : (dats m hO 0 c).A w = V m c (Pipeline.arrRef spec0 w) := by dsimp only [dats]

/-- What holds before a point. -/
theorem Phi_castSucc (t : Fin (cfgM m hO).N) : (dats m hO 0 c).Φ t.castSucc = Phi m hO c t.val (Nat.le_of_lt t.isLt) := by
  dsimp only [dats]; exact Pipeline.Dat.Φ_castSucc (Phi m hO c) t

/-- Every input window is left at its block, -/
theorem after_in (w : Fin (cfgM m hO).W) (hw : w ≠ 6) (t : Fin (cfgM m hO).N) : (dats m hO 0 c).after w t = iblk m hO c w t := by
  fin_cases w <;> first | rfl | exact absurd rfl hw
/-- and the output window at the point's result. -/
theorem after_6 (t : Fin (cfgM m hO).N) : (dats m hO 0 c).after 6 t = outBlk m hO c t := by dsimp only [dats]; try rfl

/-- Every input window holds its block at every point. -/
theorem before_in (w : Fin (cfgM m hO).W) (hw : w ≠ 6) (t : Fin (cfgM m hO).N) (d) : (dats m hO 0 c).before w t d = iblk m hO c w t := by
  have ha := after_in m hO c w hw
  have hA := A_eq m hO c w
  fin_cases w <;> first
    | exact absurd rfl hw
    | exact ((dats m hO 0 c).before_in_eq_fetched _ rfl (fun _ => rfl) (fun _ _ _ => rfl)
        (fun t => by rw [ha]; unfold Dat.blockOf iblk; rw [hA]; try rfl) t d).trans
        (by unfold Dat.fetched Dat.blockOf iblk; rw [hA]; try rfl)

/-- One of the two conditions on storing the output holds. -/
theorem stored (i : grid0.Coords) (n : BitVec 32) : (!(k0_cond2 i n == 1#1) && !(k0_cond3 i n == 1#1)) = false := by
  have h := zeros_iff i n
  by_cases h2 : k0_cond2 i n = 1#1
  · simp [h2]
  · have h3 := h.mpr h2
    simp [h3]

/-- No window is idle at any point. -/
theorem live (w : Fin (cfgM m hO).W) (t : Fin (cfgM m hO).N) : (cfgM m hO).idle w (grid0.coords t) = false := by
  fin_cases w
  · rfl
  · rfl
  · rfl
  · rfl
  · rfl
  · rfl
  · exact stored _ _

/-- The windows' buffers at a point. -/
abbrev ms_0 (t : Fin (cfgM m hO).N) : Memref sig .tc .vmem S512x1024 .bf16 := spec0_0.stage ((cfgM m hO).slots t 0)
abbrev ms_1 (t : Fin (cfgM m hO).N) : Memref sig .tc .vmem S1x1024x2048 .f32 := spec0_1.stage ((cfgM m hO).slots t 1)
abbrev ms_2 (t : Fin (cfgM m hO).N) : Memref sig .tc .vmem S1x1x2048 .f32 := spec0_2.stage ((cfgM m hO).slots t 2)
abbrev ms_3 (t : Fin (cfgM m hO).N) : Memref sig .tc .vmem S1x1024x1024 .f32 := spec0_3.stage ((cfgM m hO).slots t 3)
abbrev ms_4 (t : Fin (cfgM m hO).N) : Memref sig .tc .vmem S1x1x1024 .f32 := spec0_4.stage ((cfgM m hO).slots t 4)
abbrev ms_5 (t : Fin (cfgM m hO).N) : Memref sig .tc .vmem S256x256 .bf16 := spec0_5.stage ((cfgM m hO).slots t 5)
abbrev ms_6 (t : Fin (cfgM m hO).N) : Memref sig .tc .vmem S512x1024 .bf16 := spec0_6.stage ((cfgM m hO).slots t 6)

/-- What the body hands back of a window. -/
theorem leaves (w : Fin (cfgM m hO).W) (t : Fin (cfgM m hO).N) :
    (dats m hO 0 c).leavesExact w t
      = owns (c : Thread nD τ) (((cfgM m hO).win w).stage ((cfgM m hO).slots t w)) fullShare ((dats m hO 0 c).after w t) := by
  unfold Dat.leavesExact; rw [live m hO w t]; try rfl

end Cert.Kernel2Ideal.Experts

end
-- ==== Proof.ExpertsBody.lean ====
module

public import proofs.«01_k».proof.Proof.Gen.Kernel2Ideal.Launch
public import proofs.«01_k».proof.Proof.Gen.Kernel2Ideal.Skeleton
public import Idealize.ShloMosaic.Lib.Pipeline.FrameBody
public import proofs.«01_k».proof.Proof.ExpertsData
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg) (hO : Ok m) (c : Dev nD)

/-- The body's row at a point, on the staging buffers the pipeline's slots name. -/
abbrev bodyRow (t : Fin (cfgM m hO).N) : Prog (TpuEff nD τ sig (Elt F) Λ₀ .tc) PUnit :=
  cc0_moe_experts (grid0.coords t) tbM0 (Memref.isWhole_whole _) tbM1 (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) scM0 (Memref.isWhole_whole _) scM1 (Memref.isWhole_whole _)

/-- What the body is called with at a point, -/
def bodyPre (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d))
    ∗ (∃ d, owns (c : Thread nD τ) (ms_6 m hO t) fullShare ((dats m hO 0 c).before 6 t d)))

/-- and what it returns. -/
def bodyPost (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ (dats m hO 0 c).leavesExact 4 t ∗ (dats m hO 0 c).leavesExact 5 t
    ∗ (dats m hO 0 c).leavesExact 6 t)

/-- The input blocks of a point, held. -/
abbrev ins (t : Fin (cfgM m hO).N) (R : sProp 𝕄) : sProp 𝕄 :=
  iprop(owns (c : Thread nD τ) (ms_0 m hO t) fullShare (iblk m hO c 0 t) ∗ owns (c : Thread nD τ) (ms_1 m hO t) fullShare (iblk m hO c 1 t)
    ∗ owns (c : Thread nD τ) (ms_2 m hO t) fullShare (iblk m hO c 2 t) ∗ owns (c : Thread nD τ) (ms_3 m hO t) fullShare (iblk m hO c 3 t)
    ∗ owns (c : Thread nD τ) (ms_4 m hO t) fullShare (iblk m hO c 4 t) ∗ owns (c : Thread nD τ) (ms_5 m hO t) fullShare (iblk m hO c 5 t) ∗ R)

/-- A run of the body at a point, from scratches `P` to scratches `P'`, that stores `out`. -/
def RunsTo (t : Fin (cfgM m hO).N) (P P' : sProp 𝕄) (out : Vec F S512x1024 .bf16) : Prop :=
  ∀ (E : Set ℕ) (K : PUnit → sProp 𝕄),
    ins m hO c t iprop((∃ d, owns (c : Thread nD τ) (ms_6 m hO t) fullShare d) ∗ P ∗ tbPt c tbM0 (tbl m 0) ∗ tbPt c tbM1 (tbl m 1)
      ∗ (ins m hO c t iprop(owns (c : Thread nD τ) (ms_6 m hO t) fullShare out ∗ P' ∗ tbPt c tbM0 (tbl m 0) ∗ tbPt c tbM1 (tbl m 1)) -∗ K ⟨⟩))
    ⊢ wp frame (wpE (defs₀ (F := F)) Variants.none c none) E (bodyRow m hO t) K

set_option maxHeartbeats 1600000 in
/-- A run of the body between the scratches the invariant names proves the point's obligation. -/
theorem sound_of (t : Fin (cfgM m hO).N) {P P' : sProp 𝕄} {out : Vec F S512x1024 .bf16} (h : RunsTo m hO c t P P' out)
    (hP : scr m hO c t.val (Nat.le_of_lt t.isLt) ⊢ P) (hP' : P' ⊢ scrAfter m hO c t) (ho : outBlk m hO c t = out) :
    bodyPre m hO c t ⊢ wp frame (wpE (defs₀ (F := F)) Variants.none c none) Set.univ (bodyRow m hO t) (fun _ => bodyPost m hO c t) := by
  have hb := fun (w : Fin (cfgM m hO).W) (hw : w ≠ 6) d => before_in m hO c w hw t d
  have e0 := hb 0 (by show (0 : Fin 7) ≠ 6; decide)
  have e1 := hb 1 (by show (1 : Fin 7) ≠ 6; decide)
  have e2 := hb 2 (by show (2 : Fin 7) ≠ 6; decide)
  have e3 := hb 3 (by show (3 : Fin 7) ≠ 6; decide)
  have e4 := hb 4 (by show (4 : Fin 7) ≠ 6; decide)
  have e5 := hb 5 (by show (5 : Fin 7) ≠ 6; decide)
  unfold bodyPre bodyPost
  simp only [e0, e1, e2, e3, e4, e5]
  rw [show (dats m hO 0 c).owesAt () t.succ = (dats m hO 0 c).owesAt () t.castSucc from rfl]
  rw [show (dats m hO 0 c).Φ t.succ = iprop((scrAfter m hO c t ∗ (∃ r, prngReg c r)) ∗ Pipeline.ΦT pre0 (tbl m) c) from rfl,
    Phi_castSucc m hO c t]
  unfold Phi
  rw [PhiT_eq]
  rw [leaves, leaves, leaves, leaves, leaves, leaves, leaves, after_6, ho]
  rw [after_in m hO c 0 (by show (0 : Fin 7) ≠ 6; decide), after_in m hO c 1 (by show (1 : Fin 7) ≠ 6; decide),
    after_in m hO c 2 (by show (2 : Fin 7) ≠ 6; decide), after_in m hO c 3 (by show (3 : Fin 7) ≠ 6; decide),
    after_in m hO c 4 (by show (4 : Fin 7) ≠ 6; decide), after_in m hO c 5 (by show (5 : Fin 7) ≠ 6; decide)]
  iintro ⟨⟨⟨HS, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  iapply (h Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iapply hP; iexact HS
  isplitl [HT0]; · iexact HT0
  isplitl [HT1]; · iexact HT1
  iintro ⟨H0, H1, H2, H3, H4, H5, H6, HS, HT0, HT1⟩
  isplitl [HS Hg HT0 HT1]
  · isplitl [HS Hg]
    · isplitl [HS]
      · iapply hP'; iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The scratches before a point that keeps the weights hold the point's weights. -/
theorem kept_before (t : Fin (cfgM m hO).N) (hu : Used m hO c t)
    (hf : ¬fresh (grid0.coords t) (nuWord c (tbl m 1)) (beWord c (grid0.coords t) (tbl m 0)) (bePrev c (grid0.coords t) (tbl m 0)) = 1#1) :
    scr m hO c t.val (Nat.le_of_lt t.isLt) ⊢ keptAt c (iblk m hO c 1 t) (iblk m hO c 5 t) (iblk m hO c 3 t) := by
  obtain ⟨h0, hb⟩ := kept_of_not_fresh _ _ _ _ hu hf
  rw [coord_val] at h0
  obtain ⟨n, hn⟩ : ∃ n, t.val = n + 1 := ⟨t.val - 1, by omega⟩
  have hlt : n < (cfgM m hO).N := by have := t.isLt; omega
  let t' : Fin (cfgM m hO).N := ⟨n, hlt⟩
  have hc : ((grid0.coords t) 0).val = ((grid0.coords t') 0).val + 1 := by
    rw [coord_val, coord_val]; exact hn
  have hu' : Used m hO c t' := used_before _ _ _ (by omega) hu
  have hb := hb.trans (bePrev_eq c _ _ hc _)
  have hx := expert_congr m hO c _ _ hb
  have hs : scr m hO c t.val (Nat.le_of_lt t.isLt) = scrAfter m hO c t' := by
    have : ∀ k (hk : k ≤ (cfgM m hO).N) (e : k = n + 1), scr m hO c k hk = scrAfter m hO c t' := by
      rintro k hk rfl; rfl
    exact this _ _ hn
  rw [hs]
  unfold scrAfter
  rw [if_pos hu']
  have e1 : (iblk m hO c 1 t' : Vec F S1x1024x2048 .f32) = iblk m hO c 1 t :=
    (gu_eq m hO c t').trans ((congrArg (guOf m c) hx.symm).trans (gu_eq m hO c t).symm)
  have e3 : (iblk m hO c 3 t' : Vec F S1x1024x1024 .f32) = iblk m hO c 3 t :=
    (dn_eq m hO c t').trans ((congrArg (dnOf m c) hx.symm).trans (dn_eq m hO c t).symm)
  have e5 : (iblk m hO c 5 t' : Vec F S256x256 .bf16) = iblk m hO c 5 t := (iblk_5 m hO c t').trans (iblk_5 m hO c t).symm
  exact Entails.of_eq (congr (congr (congrArg (keptAt (F := F) c) e1) e5) e3)

/-- The body's obligation at every point. -/
theorem sound_body (t : Fin (cfgM m hO).N) :
    bodyPre m hO c t ⊢ wp frame (wpE (defs₀ (F := F)) Variants.none c none) Set.univ (bodyRow m hO t) (fun _ => bodyPost m hO c t) := by
  by_cases hu : Used m hO c t
  · have h3 : ¬k0_cond3 (grid0.coords t) (nuWord c (tbl m 1)) = 1#1 := fun h => (zeros_iff _ _).mp h hu
    have ho : outBlk m hO c t = _ := if_pos hu
    have hS : scrAfter m hO c t = _ := if_pos hu
    by_cases hf : fresh (grid0.coords t) (nuWord c (tbl m 1)) (beWord c (grid0.coords t) (tbl m 0)) (bePrev c (grid0.coords t) (tbl m 0)) = 1#1
    · exact sound_of m hO c t
        (fun E K => run_fresh c (grid0.coords t) _ _ _ _ _ _ _ _ _ _ _ _ _ _ _ _ _ _ (iblk m hO c 0 t) (iblk m hO c 1 t) (iblk m hO c 2 t)
          (iblk m hO c 3 t) (iblk m hO c 4 t) (iblk m hO c 5 t) (tbl m 0) (tbl m 1) hf hu h3 E K)
        (any_of_scr m hO c _ _) (Entails.of_eq hS.symm) ho
    · exact sound_of m hO c t
        (fun E K => run_kept c (grid0.coords t) _ _ _ _ _ _ _ _ _ _ _ _ _ _ _ _ _ _ (iblk m hO c 0 t) (iblk m hO c 1 t) (iblk m hO c 2 t)
          (iblk m hO c 3 t) (iblk m hO c 4 t) (iblk m hO c 5 t) (tbl m 0) (tbl m 1) _ _ hf hu h3 E K)
        (kept_before m hO c t hu hf) (Entails.of_eq hS.symm) ho
  · have h3 : k0_cond3 (grid0.coords t) (nuWord c (tbl m 1)) = 1#1 := (zeros_iff _ _).mpr hu
    have ho : outBlk m hO c t = _ := if_neg hu
    have hS : scrAfter m hO c t = _ := if_neg hu
    exact sound_of m hO c t
      (fun E K => run_unused c (grid0.coords t) _ _ _ _ _ _ _ _ _ _ _ _ _ _ _ _ _ _ (iblk m hO c 0 t) (iblk m hO c 1 t) (iblk m hO c 2 t)
        (iblk m hO c 3 t) (iblk m hO c 4 t) (iblk m hO c 5 t) (tbl m 0) (tbl m 1) (fun h => hu (used_of_fresh _ _ _ _ h)) hu h3 E K)
      (any_of_scr m hO c _ _) (Entails.of_eq hS.symm) ho

/-- The pipeline's obligation of the body, point by point. -/
theorem body_obligation : BodyObligation (dats m hO 0 c) (defs₀ (F := F)) Variants.none () Set.univ := fun t => by
  have hr : defs₀ (F := F) .tc (cfgM m hO).body ((cfgM m hO).bodyArgs t ((cfgM m hO).slots t)) = bodyRow m hO t := by
    unfold defs₀; rw [Defs.onTc_tc]
  rw [bigSep_W0, bigSep_W0, hr]
  exact triple_restated (sound_body m hO c t) rfl .rfl fun _ => .rfl

/-- What the launch hands over is the invariant before the first point. -/
theorem start : iprop(Pipeline.ΦA spec0 c ∗ Pipeline.ΦT pre0 (tbl m) c) ⊢ (dats m hO 0 c).Φ 0 := by
  rw [show (dats m hO 0 c).Φ 0 = Phi m hO c 0 (Nat.zero_le _) from rfl, PhiA_eq]
  exact Entails.refl _

/-- After the last point the invariant gives the scratches back. -/
theorem finish : (dats m hO 0 c).Φ (Fin.last (cfgM m hO).N) ⊢ Pipeline.ΦA spec0 c := by
  rw [show (dats m hO 0 c).Φ (Fin.last (cfgM m hO).N) = Phi m hO c (cfgM m hO).N le_rfl from rfl, PhiA_eq]
  unfold Phi
  iintro ⟨⟨HS, Hg⟩, -⟩
  isplitl [HS]
  · iapply any_of_scr m hO c _ _; iexact HS
  iexact Hg

set_option backward.isDefEq.respectTransparency.types false in
/-- The launch ends, with every array of the pipeline at what its writebacks leave, every other buffer as the host
    left it, and every semaphore at zero. -/
theorem launched : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := start m hO) (hout := finish m hO)

/-- An argument that no window reads ends as it began. -/
theorem rest_kept {r} (h : Pipeline.FramePost (Pipeline.pin pcfgs fun _ => adm m hO) (dats m hO) 0 (V m) r)
    (b : Ref sig .tc) (hb : b ∈ args) (hr : b ∈ Pipeline.restRefs sig spec0) :
    r.2.mem ((c.tc : Thread nD τ).loc b) = m ((c.tc : Thread nD τ).loc b) :=
  ((h c).2 b hr).trans (V_arg m c b hb)

/-- The rows, which the first window reads, end as they began. -/
theorem rows_kept {r} (h : Pipeline.FramePost (Pipeline.pin pcfgs fun _ => adm m hO) (dats m hO) 0 (V m) r) :
    r.2.mem ((c.tc : Thread nD τ).loc main_arg2) = m ((c.tc : Thread nD τ).loc main_arg2) :=
  ((h c).1 0).trans (((dats m hO 0 c).arrAt_in 0 rfl _).trans ((A_eq m hO c 0).trans (V_arg m c main_arg2 (by decide))))

/-- The launch ends with its arguments unchanged and every semaphore at zero. -/
theorem quiescent (ρ) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨rest_kept m hO c h.1 main_arg0 (by decide) (by decide), rest_kept m hO c h.1 main_arg1 (by decide) (by decide),
      rows_kept m hO c h.1, rest_kept m hO c h.1 main_arg3 (by decide) (by decide),
      rest_kept m hO c h.1 main_arg4 (by decide) (by decide), rest_kept m hO c h.1 main_arg5 (by decide) (by decide),
      rest_kept m hO c h.1 main_arg6 (by decide) (by decide)⟩, h.2⟩) (launched m ρ hO)

end Cert.Kernel2Ideal.Experts

end
-- ==== Proof.ExpertsRange.lean ====
module

public import proofs.«01_k».proof.Proof.Gen.Kernel2Ideal.Launch
public import proofs.«01_k».proof.Proof.Gen.Kernel2Ideal.Skeleton
public import Idealize.ShloMosaic.Lib.Pipeline.FrameBody
public import proofs.«01_k».proof.Proof.ExpertsBody
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (c : Dev nD)

/-- A point's expert, read from the table of experts. -/
theorem beWord_eq (i : grid0.Coords) (k : Fin 296) (hk : k.val = (i 0).val) :
    beWord c i (tbl m 0) = (m ((c : Thread nD τ).loc main_arg0) : IVec S296 32) (ix1 k) := by
  have e : (tbl m 0 : IVec S296 32) = (m ((c : Thread nD τ).loc main_arg0) : IVec S296 32) :=
    (V_pre m c 0).symm.trans (V_arg m c main_arg0 (by decide))
  refine Eq.trans ?_ (congrFun e (ix1 k))
  refine congrArg (tbl m 0 : IVec S296 32) (funext fun a => Fin.ext ?_)
  show k0_off1 i a + 1 * 0 = (ix1 k a).val
  fin_cases a
  show (BitVec.ofNat 32 (i 0).val).toNat + 1 * 0 = k.val
  have h1 : (i 0).val < 296 := (i 0).isLt
  rw [BitVec.toNat_ofNat, hk]
  omega

/-- Where the table names experts that exist, every block the tables name lies inside its array. -/
theorem ok_of_range (h : ∀ k : Fin 296, ((m ((c : Thread nD τ).loc main_arg0) : IVec S296 32) (ix1 k)).toNat < 128) : Ok m := by
  have hb : ∀ i : grid0.Coords, (beWord c i (tbl m 0)).toNat < 128 := fun i => by
    rw [beWord_eq m c i ⟨(i 0).val, (i 0).isLt⟩ rfl]; exact h _
  refine ⟨fun i => ⟨fun a => ?_, .inl rfl⟩, fun i => ⟨fun a => ?_, .inl rfl⟩, fun i => ⟨fun a => ?_, .inl rfl⟩, fun i => ⟨fun a => ?_, .inl rfl⟩⟩
  all_goals
    first
      | rw [index_1 m c i]
      | rw [index_2 m c i]
      | rw [index_3 m c i]
      | rw [index_4 m c i]
    have := hb i
    fin_cases a
    · show ((beWord c i (tbl m 0)).toNat + 1) * 1 ≤ 128; omega
    · exact of_decide_eq_true rfl
    · exact of_decide_eq_true rfl

end Cert.Kernel2Ideal.Experts

end
-- ==== Proof.ExpertsAct.lean ====
/- What the experts' body computes for a used block, entry by entry, on extended reals. -/
module

public import proofs.«01_k».proof.Proof.PrintedRange
public import Idealize.ShloMosaic.Lib.Pointwise
public import Idealize.ShloMosaic.PureOps.Ideal.Laws
public import Idealize.ShloMosaic.Lib.Pipeline.Value

@[expose] public section

set_option maxRecDepth 16384

noncomputable section

namespace Cert.Kernel2Ideal.Experts

open Cert.Kernel2Ideal Cert.Kernel2Ideal.Gen
open Idealize.ShloMosaic Idealize.SL.Sem

/-- The clipped gated unit: the gate `g` bounded above, times its sigmoid, times one more than the clipped `u`. -/
def swiglu (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + Ideal.ofBits .f32 0x3F800000#32)

/-- A slice of 128 columns reads the columns from its offset on. -/
theorem slice_apply (G : FVec Ideal S512x2048 .f32) (o : ℕ) (h : S512x2048.Slices ![0, o] S512x128) (r : Fin 512) (l : Fin 128)
    (ho : o + l.val < 2048) : extractStridedSlice S512x128 ![0, o] G h (ix2 r l) = G (ix2 r ⟨o + l.val, ho⟩) :=
  congrArg G (funext fun a => Fin.ext (by fin_cases a; · exact Nat.zero_add _
                                          · rfl))

/-- The columns of a tile lie inside. -/
theorem slices (k : Fin 16) : S512x2048.Slices ![0, 128 * k.val] S512x128 := by fin_cases k <;> decide

/-- One tile of activations: 128 gates and the 128 ups beside them. -/
def tile (G : FVec Ideal S512x2048 .f32) (T : Fin 8) : FVec Ideal S512x128 .bf16 :=
  let g := minimumf (extractStridedSlice S512x128 ![0, 128 * (2 * T.val)] G (slices ⟨2 * T.val, by omega⟩)) (broadcast S512x128 (Scalar.ofBits .f32 0x40E00000#32))
  let u := minimumf (broadcast S512x128 (Scalar.ofBits .f32 0x40E00000#32)) (maximumf (broadcast S512x128 (Scalar.ofBits .f32 0xC0E00000#32))
    (extractStridedSlice S512x128 ![0, 128 * (2 * T.val + 1)] G (slices ⟨2 * T.val + 1, by omega⟩)))
  truncf .bf16 (mulf (mulf g (logistic (mulf (broadcast S512x128 (Scalar.ofBits .f32 0x3FD9DB23#32)) g)))
    (addf u (broadcast S512x128 (Scalar.ofBits .f32 0x3F800000#32)))) bitsLt_bf16_f32

/-- A tile's entry is the gated unit of its gate and its up. -/
theorem tile_apply (G : FVec Ideal S512x2048 .f32) (T : Fin 8) (r : Fin 512) (l : Fin 128) :
    tile G T (ix2 r l) = swiglu (G (ix2 r ⟨128 * (2 * T.val) + l.val, by omega⟩)) (G (ix2 r ⟨128 * (2 * T.val + 1) + l.val, by omega⟩)) :=
  congrArg₂ swiglu (slice_apply G _ (slices ⟨2 * T.val, by omega⟩) r l _) (slice_apply G _ (slices ⟨2 * T.val + 1, by omega⟩) r l _)

/-- The eight tiles laid side by side. -/
def acts (G : FVec Ideal S512x2048 .f32) : FVec Ideal S512x1024 .bf16 :=
  concatenate S512x1024 1 (List.ofFn fun T : Fin 8 => (⟨S512x128, tile G T⟩ : (s : Shape) × (s.Idx → Ideal .bf16)))
    concatenates_S512x128_S512x128_S512x128_S512x128_S512x128_S512x128_S512x128_S512x128_S512x1024_d1

/-- An activation is an entry of the tile its column lies in. -/
theorem acts_apply (G : FVec Ideal S512x2048 .f32) (r : Fin 512) (j : Fin 1024) :
    acts G (ix2 r j) = tile G ⟨j.val / 128, by omega⟩ (ix2 r ⟨j.val % 128, by omega⟩) :=
  concatenate_ofFn_apply 1 (fun T : Fin 8 => tile G T)
    concatenates_S512x128_S512x128_S512x128_S512x128_S512x128_S512x128_S512x128_S512x128_S512x1024_d1
    rfl 128 rfl (ix2 r j) ⟨j.val / 128, by omega⟩ rfl (ix2 r ⟨j.val % 128, by omega⟩) rfl
    (fun b hb => by fin_cases b; · rfl
                    · exact absurd rfl hb)

/-- The rows times the gate and up weights, plus the biases. -/
theorem lin_apply (x : Vec Ideal S512x1024 .bf16) (g : Vec Ideal S1024x2048 .bf16) (b : Vec Ideal S1x1x2048 .f32) (r : Fin 512) (f : Fin 2048) :
    k0_pay13 x g b (ix2 r f) = (∑ k : Fin 1024, x (ix2 r k) * g (ix2 k f) : EReal) + b (ix3 0 0 f) := by
  pointwise [k0_pay13]

/-- What the body does with the activations: times the down weights, plus the biases. -/
def down (A : FVec Ideal S512x1024 .bf16) (d : FVec Ideal S1024x1024 .bf16) (e : FVec Ideal S1x1x1024 .f32) : FVec Ideal S512x1024 .bf16 :=
  truncf .bf16 (addf (matmul dot_S512x1024_S1024x1024_S512x1024_1_0_0_1_n_n none A d (constant S512x1024 .f32 0x00000000#32))
    (broadcastTo S512x1024 (shapeCast S1x1024 e shapeCasts_S1x1x1024_S1x1024) broadcasts_S1x1024_S512x1024)) bitsLt_bf16_f32

/-- The same, entry by entry. -/
theorem down_apply (A : FVec Ideal S512x1024 .bf16) (d : Vec Ideal S1024x1024 .bf16) (e : Vec Ideal S1x1x1024 .f32) (r : Fin 512) (q : Fin 1024) :
    down A d e (ix2 r q) = (∑ j : Fin 1024, A (ix2 r j) * d (ix2 j q) : EReal) + e (ix3 0 0 q) := by
  pointwise [down]

/-- A used block's rows are the activations' product with the down weights. -/
theorem outUsed_eq (x : Vec Ideal S512x1024 .bf16) (g : Vec Ideal S1024x2048 .bf16) (b : Vec Ideal S1x1x2048 .f32) (d : Vec Ideal S1024x1024 .bf16)
    (e : Vec Ideal S1x1x1024 .f32) : outUsed x g b d e = down (acts (k0_pay13 x g b)) d e := rfl

/-- The gates of a tile come from even columns and the ups from odd ones: the column each of the reordered columns was. -/
def colOf (f : Fin 2048) : Fin 2048 :=
  ⟨256 * (f.val / 256) + (if f.val % 256 < 128 then 2 * (f.val % 256) else 2 * (f.val % 256 - 128) + 1), by split_ifs <;> omega⟩

/-- A used block's entry, where the weights and the biases are reordered ones. -/
theorem outUsed_apply (x : Vec Ideal S512x1024 .bf16) (g : Vec Ideal S1024x2048 .bf16) (b : Vec Ideal S1x1x2048 .f32) (d : Vec Ideal S1024x1024 .bf16)
    (e : Vec Ideal S1x1x1024 .f32) (w : Fin 1024 → Fin 2048 → EReal) (b' : Fin 2048 → EReal)
    (hg : ∀ k f, g (ix2 k f) = w k (colOf f)) (hb : ∀ f, b (ix3 0 0 f) = b' (colOf f)) (r : Fin 512) (q : Fin 1024) :
    outUsed x g b d e (ix2 r q) = (∑ j : Fin 1024,
      swiglu ((∑ k : Fin 1024, x (ix2 r k) * w k ⟨2 * j.val, by omega⟩) + b' ⟨2 * j.val, by omega⟩)
        ((∑ k : Fin 1024, x (ix2 r k) * w k ⟨2 * j.val + 1, by omega⟩) + b' ⟨2 * j.val + 1, by omega⟩) * d (ix2 j q) : EReal) + e (ix3 0 0 q) := by
  rw [outUsed_eq, down_apply]
  congr 1
  refine Finset.sum_congr rfl fun j _ => ?_
  rw [acts_apply, tile_apply, lin_apply, lin_apply]
  simp only [hg, hb]
  have e0 : ∀ h, colOf ⟨128 * (2 * (j.val / 128)) + j.val % 128, h⟩ = ⟨2 * j.val, by omega⟩ := fun h => Fin.ext (by
    simp only [colOf]; split_ifs <;> omega)
  have e1 : ∀ h, colOf ⟨128 * (2 * (j.val / 128) + 1) + j.val % 128, h⟩ = ⟨2 * j.val + 1, by omega⟩ := fun h => Fin.ext (by
    simp only [colOf]; split_ifs <;> omega)
  simp only [e0, e1]

end Cert.Kernel2Ideal.Experts

end
-- ==== Proof.ExpertsTiles.lean ====
/- The body's reordering of the gate and up weights, entry by entry, on extended reals. -/
module

public import proofs.«01_k».proof.Proof.ExpertsAct

@[expose] public section

set_option maxRecDepth 16384

noncomputable section

namespace Cert.Kernel2Ideal.Experts

open Cert.Kernel2Ideal Cert.Kernel2Ideal.Gen
open Idealize.ShloMosaic Idealize.SL.Sem

/-- Where every write agrees on an index and some write holds it, the writes leave the value agreed on. -/
theorem canon_agree {Val : EltTy → Type} {s : Shape} {e : EltTy} [∀ e, Nonempty (Val e)] (y : s.Idx) (v : Val e) :
    ∀ L : List (View.Piece Val s e), (∃ p ∈ L, y ∈ p.1.set) → (∀ p ∈ L, ∀ x, p.1.emb x = y → p.2 x = v) → View.canon L y = v
  | [], h, _ => by obtain ⟨_, hm, _⟩ := h; exact absurd hm List.not_mem_nil
  | ⟨r, w⟩ :: L, h, ha => by
    by_cases hy : ∃ x, r.emb x = y
    · obtain ⟨x, rfl⟩ := hy
      rw [View.canon_cons_emb]
      exact ha _ List.mem_cons_self x rfl
    · have hn : y ∉ r.set := fun h => hy (by
        obtain ⟨x, -, hx⟩ := Finset.mem_map.mp ((Rect.map_emb_univ r).symm ▸ h : y ∈ Finset.univ.map r.emb); exact ⟨x, hx⟩)
      rw [View.canon_cons_of_not_mem ⟨r, w⟩ L hn]
      refine canon_agree y v L ?_ fun p hp => ha p (List.mem_cons_of_mem _ hp)
      obtain ⟨p, hm, hy'⟩ := h
      rcases List.mem_cons.mp hm with rfl | hm
      · exact absurd hy' hn
      · exact ⟨p, hm, hy'⟩

/-- The place the reordering gives a column of a tile: even ones first, odd ones behind. -/
def dest (i : Fin 256) : Fin 256 := if i.val % 2 = 0 then ⟨i.val / 2, by omega⟩ else ⟨128 + i.val / 2, by omega⟩

/-- The column of a tile that the reordering puts at a place. -/
def src (l : Fin 256) : Fin 256 := if h : l.val < 128 then ⟨2 * l.val, by omega⟩ else ⟨2 * (l.val - 128) + 1, by omega⟩

/-- The same as numbers. -/
theorem src_val (v : ℕ) (hv : v < 256) : (src ⟨v, hv⟩).val = if v < 128 then 2 * v else 2 * (v - 128) + 1 := by
  unfold src; split_ifs <;> rfl

/-- The two undo each other. -/
theorem dest_iff (i l : Fin 256) : dest i = l ↔ i = src l := by
  unfold dest src
  rw [Fin.ext_iff, Fin.ext_iff]
  split_ifs <;> simp only [] <;> omega

/-- A table of zeros and ones that reorders. -/
def Reorders (p : Vec Ideal S256x256 .bf16) : Prop := ∀ i l : Fin 256, p (ix2 i l) = if dest i = l then (1 : EReal) else 0

/-- A tile times the table reads the column the reordering names. -/
theorem tile_product (p : Vec Ideal S256x256 .bf16) (hp : Reorders p) (w : Vec Ideal S1x1024x256 .f32) (k : Fin 1024) (l : Fin 256) :
    k0_pay6 p w (ix2 k l) = w (ix3 0 k (src l)) := by
  have e : k0_pay6 p w (ix2 k l) = (∑ j : Fin 256, w (ix3 0 k j) * p (ix2 j l) : EReal) := by
    pointwise [k0_pay6, k0_pay5]
  rw [e, Finset.sum_eq_single (src l)]
  · rw [hp, if_pos ((dest_iff _ _).mpr rfl), mul_one]
  · intro j _ hj
    rw [hp, if_neg (fun h => hj ((dest_iff _ _).mp h)), mul_zero]
  · exact fun h => absurd (Finset.mem_univ _) h

/-- What a tile's store leaves at a place of the scratch. -/
theorem piece_apply (p : Vec Ideal S256x256 .bf16) (hp : Reorders p) (w : Vec Ideal S1x1024x2048 .f32) (T : Fin 8) (o : ℕ) (ho : o = 256 * T.val)
    (h : ∀ a, (![0, o] : Fin 2 → ℕ) a + S1024x256.size a ≤ S1024x2048.size a)
    (h' : ∀ a, (![0, 0, o] : Fin 3 → ℕ) a + S1x1024x256.size a ≤ S1x1024x2048.size a) (k : Fin 1024) (f : Fin 2048)
    (x : S1024x256.Idx) (hx : (Rect.unit (s := S1024x2048) ![0, o] S1024x256.size h).emb x = ix2 k f) :
    k0_pay6 p (View.ld w (Rect.unit (s := S1x1024x2048) ![0, 0, o] S1x1024x256.size h')) x = w (ix3 0 k (colOf f)) := by
  have h0 : 0 + 1 * (x 0).val = k.val := congrArg (fun z : S1024x2048.Idx => (z 0).val) hx
  have h1 : o + 1 * (x 1).val = f.val := congrArg (fun z : S1024x2048.Idx => (z 1).val) hx
  have hx0 : (x 0).val < 1024 := (x 0).isLt
  have hx1 : (x 1).val < 256 := (x 1).isLt
  have e : x = ix2 (⟨(x 0).val, hx0⟩ : Fin 1024) (⟨(x 1).val, hx1⟩ : Fin 256) := funext fun a => by fin_cases a <;> rfl
  rw [e, tile_product p hp]
  refine congrArg w (funext fun a => Fin.ext ?_)
  fin_cases a
  · rfl
  · show 0 + 1 * (x 0).val = k.val; exact h0
  · show o + 1 * (src ⟨(x 1).val, hx1⟩).val = (colOf f).val
    rw [src_val]
    show o + 1 * _ = 256 * (f.val / 256) + (if f.val % 256 < 128 then 2 * (f.val % 256) else 2 * (f.val % 256 - 128) + 1)
    clear e hx hx0
    generalize (x 1).val = v at *
    split_ifs <;> omega

/-- The scratch holds the weights with their columns reordered. -/
theorem guBlock_apply (p : Vec Ideal S256x256 .bf16) (hp : Reorders p) (w : Vec Ideal S1x1024x2048 .f32) (k : Fin 1024) (f : Fin 2048) :
    guBlock w p (ix2 k f) = w (ix3 0 k (colOf f)) := by
  refine canon_agree (ix2 k f) _ (pieces w p) (pieces_cover w p _) fun q hq x hx => ?_
  simp only [pieces, List.mem_cons, List.not_mem_nil, or_false] at hq
  rcases hq with rfl | rfl | rfl | rfl | rfl | rfl | rfl | rfl
  · exact piece_apply p hp w 7 1792 rfl inb_S1024x2048_S1024x256_0_1792 inb_S1x1024x2048_S1x1024x256_0_0_1792 k f x hx
  · exact piece_apply p hp w 6 1536 rfl inb_S1024x2048_S1024x256_0_1536 inb_S1x1024x2048_S1x1024x256_0_0_1536 k f x hx
  · exact piece_apply p hp w 5 1280 rfl inb_S1024x2048_S1024x256_0_1280 inb_S1x1024x2048_S1x1024x256_0_0_1280 k f x hx
  · exact piece_apply p hp w 4 1024 rfl inb_S1024x2048_S1024x256_0_1024 inb_S1x1024x2048_S1x1024x256_0_0_1024 k f x hx
  · exact piece_apply p hp w 3 768 rfl inb_S1024x2048_S1024x256_0_768 inb_S1x1024x2048_S1x1024x256_0_0_768 k f x hx
  · exact piece_apply p hp w 2 512 rfl inb_S1024x2048_S1024x256_0_512 inb_S1x1024x2048_S1x1024x256_0_0_512 k f x hx
  · exact piece_apply p hp w 1 256 rfl inb_S1024x2048_S1024x256_0_256 inb_S1x1024x2048_S1x1024x256_0_0_256 k f x hx
  · exact piece_apply p hp w 0 0 rfl inb_S1024x2048_S1024x256_0_0 inb_S1x1024x2048_S1x1024x256_0_0_0 k f x hx

/-- The down weights are kept as they are. -/
theorem dnBlock_apply (w : Vec Ideal S1x1024x1024 .f32) (j q : Fin 1024) : k0_pay4 w (ix2 j q) = w (ix3 0 j q) := by
  pointwise [k0_pay4]

end Cert.Kernel2Ideal.Experts

end
-- ==== Proof.ExpertsTables.lean ====
/- What the host lines before the experts' grid leave in the arrays that the grid's windows read. -/
module

public import proofs.«01_k».proof.Proof.ExpertsTiles
public import Idealize.ShloMosaic.Lib.Claim

@[expose] public section

set_option maxRecDepth 16384

noncomputable section

namespace Cert.Kernel2Ideal.Experts

open Cert.Kernel2Ideal Cert.Kernel2Ideal.Gen
open Idealize.ShloMosaic Idealize.ShloMosaic.TcCoe Idealize.SL.Sem

/-- One number at every place of 256. -/
abbrev every (x : IVec S_ 32) : IVec S256 32 := broadcastInDim S256 ![] bcast_S_S256 x

/-- The divisor, with one in the place of nought. -/
def divisor : IVec S_ 32 := select (cmpi .eq (constantI S_ 32 2#32) (constantI S_ 32 0#32)) (constantI S_ 32 1#32) (constantI S_ 32 2#32)

/-- The columns' numbers modulo 2, as the host computes them. -/
def parity : IVec S256 32 :=
  let r := Host.remsi (iotaInDim S256 32 0) (every divisor)
  select (andi (cmpi .ne (cmpi .slt r (every (constantI S_ 32 0#32)))
      (broadcastInDim S256 ![] bcast_S_S256 (cmpi .slt divisor (constantI S_ 32 0#32)))) (cmpi .ne r (every (constantI S_ 32 0#32))))
    (addi r (every divisor)) r

/-- The columns' numbers divided by 2 and rounded down, as the host computes them. -/
def halves : IVec S256 32 :=
  let q := Host.divsi (iotaInDim S256 32 0) (every (constantI S_ 32 2#32))
  select (andi (cmpi .ne (signi (iotaInDim S256 32 0)) (every (signi (constantI S_ 32 2#32))))
      (cmpi .ne (Host.remsi (iotaInDim S256 32 0) (every (constantI S_ 32 2#32))) (every (constantI S_ 32 0#32))))
    (subi q (every (constantI S_ 32 1#32))) q

/-- The places the columns go to, as the host computes them. -/
def places : IVec S256 32 :=
  select (cmpi .eq parity (every (constantI S_ 32 0#32))) halves (addi (every (constantI S_ 32 128#32)) halves)

/-- The places as the reordering has them. -/
theorem places_apply (i : Fin 256) : places (ix1 i) = BitVec.ofNat 32 (dest i).val := by
  have : ∀ i : Fin 256, places (ix1 i) = BitVec.ofNat 32 (dest i).val := by decide +kernel
  exact this i

variable (m : (ℓ : Loc nD τ sig) → Buf (Elt Ideal) ℓ) (c : Dev nD)

set_option maxHeartbeats 4000000 in
/-- The table of zeros and ones that the grid reads. -/
theorem table_eq : (V m c main_v21 : Vec Ideal S256x256 .bf16) =
    (uitofp .bf16 (cmpi .eq (broadcastInDim S256x256 ![0, 1] bcast_S256x1_S256x256_0_1 (broadcastInDim S256x1 ![0] bcast_S256_S256x1_0 places))
      (broadcastInDim S256x256 ![0, 1] bcast_S1x256_S256x256_0_1 (broadcastInDim S1x256 ![1] bcast_S256_S1x256_1 (iotaInDim S256 32 0)))) : FVec Ideal S256x256 .bf16) := by
  refine (V_eq m c main_v21).trans ?_
  simp only [lines, hostOps0, hostOps0_1, hostOps0_2, hostOps0_3, hostOps0_4, hostOps0_5, hostOps0_6, hostOps0_7, hostOps0_8, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

set_option maxHeartbeats 4000000 in
/-- The gate and up weights of all the experts in one array. -/
theorem gates_eq : (V m c main_v0 : Vec Ideal S128x1024x2048 .f32) =
    shapeCast S128x1024x2048 (m ((c : Thread nD τ).loc main_arg3) : FVec Ideal S4x32x1024x2048 .f32) shapeCasts_S4x32x1024x2048_S128x1024x2048 := by
  refine (V_eq m c main_v0).trans ?_
  simp only [lines, hostOps0, hostOps0_1, hostOps0_2, hostOps0_3, hostOps0_4, hostOps0_5, hostOps0_6, hostOps0_7, hostOps0_8, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

set_option maxHeartbeats 4000000 in
/-- The gate and up biases of all the experts, each 256 columns reordered. -/
theorem biases_eq : (V m c main_v3 : Vec Ideal S128x1x2048 .f32) =
    shapeCast S128x1x2048 (transpose S128x8x2x128 [0, 1, 3, 2]
      (shapeCast S128x8x128x2 (m ((c : Thread nD τ).loc main_arg4) : FVec Ideal S4x32x2048 .f32) shapeCasts_S4x32x2048_S128x8x128x2)
      transposes_S128x8x128x2_S128x8x2x128_0_1_3_2) shapeCasts_S128x8x2x128_S128x1x2048 := by
  refine (V_eq m c main_v3).trans ?_
  simp only [lines, hostOps0, hostOps0_1, hostOps0_2, hostOps0_3, hostOps0_4, hostOps0_5, hostOps0_6, hostOps0_7, hostOps0_8, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

set_option maxHeartbeats 4000000 in
/-- The down weights of all the experts in one array. -/
theorem downs_eq : (V m c main_v4 : Vec Ideal S128x1024x1024 .f32) =
    shapeCast S128x1024x1024 (m ((c : Thread nD τ).loc main_arg5) : FVec Ideal S4x32x1024x1024 .f32) shapeCasts_S4x32x1024x1024_S128x1024x1024 := by
  refine (V_eq m c main_v4).trans ?_
  simp only [lines, hostOps0, hostOps0_1, hostOps0_2, hostOps0_3, hostOps0_4, hostOps0_5, hostOps0_6, hostOps0_7, hostOps0_8, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

set_option maxHeartbeats 4000000 in
/-- The down biases of all the experts in one array. -/
theorem offsets_eq : (V m c main_v5 : Vec Ideal S128x1x1024 .f32) =
    shapeCast S128x1x1024 (m ((c : Thread nD τ).loc main_arg6) : FVec Ideal S4x32x1024 .f32) shapeCasts_S4x32x1024_S128x1x1024 := by
  refine (V_eq m c main_v5).trans ?_
  simp only [lines, hostOps0, hostOps0_1, hostOps0_2, hostOps0_3, hostOps0_4, hostOps0_5, hostOps0_6, hostOps0_7, hostOps0_8, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

end Cert.Kernel2Ideal.Experts

end
-- ==== Proof.ExpertsSpec.lean ====
/- The experts' layer, row by row, and the arrays of weights and biases read at an expert's entries. -/
module

public import proofs.«01_k».proof.Proof.ExpertsTables

@[expose] public section

set_option maxRecDepth 16384

noncomputable section

namespace Cert.Kernel2Ideal.Experts

open Cert.Kernel2Ideal Cert.Kernel2Ideal.Gen
open Idealize.ShloMosaic Idealize.ShloMosaic.TcCoe Idealize.SL.Sem

/-- A row times the gate and up weights, plus the biases, at one of the 2048 columns. -/
def lin (x : Fin 1024 → EReal) (w : Fin 1024 → Fin 2048 → EReal) (b : Fin 2048 → EReal) (f : Fin 2048) : EReal := (∑ k, x k * w k f) + b f

/-- An expert's answer to a row: the gated units of the even and the odd columns, times the down weights, plus the biases. -/
def mlp (x : Fin 1024 → EReal) (w : Fin 1024 → Fin 2048 → EReal) (b : Fin 2048 → EReal) (d : Fin 1024 → Fin 1024 → EReal) (e : Fin 1024 → EReal)
    (q : Fin 1024) : EReal :=
  (∑ j : Fin 1024, swiglu (lin x w b ⟨2 * j.val, by omega⟩) (lin x w b ⟨2 * j.val + 1, by omega⟩) * d j q) + e q

/-- The layer an expert's number lies in. -/
def layer (v : ℕ) : Fin 4 := ⟨v / 32 % 4, Nat.mod_lt _ (by decide)⟩

/-- An expert's number within its layer. -/
def member (v : ℕ) : Fin 32 := ⟨v % 32, Nat.mod_lt _ (by decide)⟩

/-- The block a row lies in. -/
def blockOf (r : Fin 151552) : Fin 296 := ⟨r.val / 512, by omega⟩

/-- A row's answer: that of its block's expert, or zero where the block is not used. -/
def answer (be : IVec S296 32) (nu : IVec S1 32) (xs : FVec Ideal S151552x1024 .bf16) (wgu : FVec Ideal S4x32x1024x2048 .f32)
    (bgu : FVec Ideal S4x32x2048 .f32) (wd : FVec Ideal S4x32x1024x1024 .f32) (bd : FVec Ideal S4x32x1024 .f32) (r : Fin 151552) (q : Fin 1024) : EReal :=
  let v := (be (ix1 (blockOf r))).toNat
  if Scalar.cmpi .slt (BitVec.ofNat 32 (blockOf r).val) (nu (ix1 0)) = 1#1 then
    mlp (fun k => xs (ix2 r k)) (fun k f => wgu (ix4 (layer v) (member v) k f)) (fun f => bgu (ix3 (layer v) (member v) f))
      (fun j q => wd (ix4 (layer v) (member v) j q)) (fun q => bd (ix3 (layer v) (member v) q)) q
  else 0

/-- All the rows' answers. -/
def answers (be : IVec S296 32) (nu : IVec S1 32) (xs : FVec Ideal S151552x1024 .bf16) (wgu : FVec Ideal S4x32x1024x2048 .f32)
    (bgu : FVec Ideal S4x32x2048 .f32) (wd : FVec Ideal S4x32x1024x1024 .f32) (bd : FVec Ideal S4x32x1024 .f32) : FVec Ideal S151552x1024 .bf16 :=
  fun i => answer be nu xs wgu bgu wd bd (i 0) (i 1)

variable (m : (ℓ : Loc nD τ sig) → Buf (Elt Ideal) ℓ) (c : Dev nD)

/-- An expert's gate and up weights. -/
theorem gates_at (e : Fin 128) (k : Fin 1024) (f : Fin 2048) : (V m c main_v0 : Vec Ideal S128x1024x2048 .f32) (ix3 e k f) =
    (m ((c : Thread nD τ).loc main_arg3) : FVec Ideal S4x32x1024x2048 .f32) (ix4 (layer e.val) (member e.val) k f) := by
  rw [gates_eq]
  refine shapeCast_apply (s := S4x32x1024x2048) _ _ _ _ ?_
  rw [Shape.rowMajor_val_four, Shape.rowMajor_val_three]
  show (((e.val / 32 % 4) * 32 + e.val % 32) * 1024 + k.val) * 2048 + f.val = (e.val * 1024 + k.val) * 2048 + f.val
  omega

/-- An expert's down weights. -/
theorem downs_at (e : Fin 128) (j q : Fin 1024) : (V m c main_v4 : Vec Ideal S128x1024x1024 .f32) (ix3 e j q) =
    (m ((c : Thread nD τ).loc main_arg5) : FVec Ideal S4x32x1024x1024 .f32) (ix4 (layer e.val) (member e.val) j q) := by
  rw [downs_eq]
  refine shapeCast_apply (s := S4x32x1024x1024) _ _ _ _ ?_
  rw [Shape.rowMajor_val_four, Shape.rowMajor_val_three]
  show (((e.val / 32 % 4) * 32 + e.val % 32) * 1024 + j.val) * 1024 + q.val = (e.val * 1024 + j.val) * 1024 + q.val
  omega

/-- An expert's down biases. -/
theorem offsets_at (e : Fin 128) (q : Fin 1024) : (V m c main_v5 : Vec Ideal S128x1x1024 .f32) (ix3 e 0 q) =
    (m ((c : Thread nD τ).loc main_arg6) : FVec Ideal S4x32x1024 .f32) (ix3 (layer e.val) (member e.val) q) := by
  rw [offsets_eq]
  refine shapeCast_apply (s := S4x32x1024) _ _ _ _ ?_
  rw [Shape.rowMajor_val_three, Shape.rowMajor_val_three]
  show ((e.val / 32 % 4) * 32 + e.val % 32) * 1024 + q.val = (e.val * 1 + 0) * 1024 + q.val
  omega

/-- An expert's gate and up biases, in the order of the reordered columns. -/
theorem biases_at (e : Fin 128) (f : Fin 2048) : (V m c main_v3 : Vec Ideal S128x1x2048 .f32) (ix3 e 0 f) =
    (m ((c : Thread nD τ).loc main_arg4) : FVec Ideal S4x32x2048 .f32) (ix3 (layer e.val) (member e.val) (colOf f)) := by
  rw [biases_eq]
  refine (shapeCast_apply _ _ _ (ix4 e (⟨f.val / 256, by omega⟩ : Fin 8) (⟨f.val % 256 / 128, by omega⟩ : Fin 2) (⟨f.val % 128, by omega⟩ : Fin 128)) ?_).trans
    ((transpose_apply _ _ _ _ (ix4 e (⟨f.val / 256, by omega⟩ : Fin 8) (⟨f.val % 128, by omega⟩ : Fin 128) (⟨f.val % 256 / 128, by omega⟩ : Fin 2)) ?_).trans
      (shapeCast_apply (s := S4x32x2048) _ _ _ _ ?_))
  · rw [Shape.rowMajor_val_four, Shape.rowMajor_val_three]
    show ((e.val * 8 + f.val / 256) * 2 + f.val % 256 / 128) * 128 + f.val % 128 = (e.val * 1 + 0) * 2048 + f.val
    omega
  · exact fun b => by fin_cases b <;> rfl
  · rw [Shape.rowMajor_val_four, Shape.rowMajor_val_three]
    show ((e.val / 32 % 4) * 32 + e.val % 32) * 2048 + (256 * (f.val / 256) + (if f.val % 256 < 128 then 2 * (f.val % 256) else 2 * (f.val % 256 - 128) + 1))
      = ((e.val * 8 + f.val / 256) * 128 + f.val % 128) * 2 + f.val % 256 / 128
    split_ifs <;> omega

/-- A bit read as a number is one when it is set. -/
theorem bit_value : ∀ b : BitVec 1, (FloatOps.uitofp .bf16 b : Ideal .bf16) = if b = 1#1 then (1 : EReal) else 0 := by
  intro b
  have h : b = 0#1 ∨ b = 1#1 := by revert b; decide
  rcases h with rfl | rfl
  · rw [if_neg (by decide)]; show ((0 : ℕ) : EReal) = 0; exact Nat.cast_zero
  · rw [if_pos rfl]; show ((1 : ℕ) : EReal) = 1; exact Nat.cast_one

/-- The table that the grid reads reorders a tile's columns. -/
theorem reorders : Reorders (V m c main_v21) := by
  intro i l
  rw [table_eq]
  refine (bit_value (Scalar.cmpi .eq (places (ix1 i)) (BitVec.ofNat 32 l.val))).trans ?_
  rw [places_apply]
  have key : (Scalar.cmpi .eq (BitVec.ofNat 32 (dest i).val) (BitVec.ofNat 32 l.val) = 1#1) ↔ dest i = l := by
    rw [show Scalar.cmpi .eq (BitVec.ofNat 32 (dest i).val) (BitVec.ofNat 32 l.val) = BitVec.ofBool (BitVec.ofNat 32 (dest i).val == BitVec.ofNat 32 l.val) from rfl,
      ofBool_iff, beq_iff_eq]
    constructor
    · intro h
      have h := congrArg BitVec.toNat h
      rw [BitVec.toNat_ofNat, BitVec.toNat_ofNat, Nat.mod_eq_of_lt (by omega), Nat.mod_eq_of_lt (by omega)] at h
      exact Fin.ext h
    · rintro rfl; rfl
  simp only [key]

end Cert.Kernel2Ideal.Experts

end
-- ==== Proof.ExpertsOut.lean ====
/- The experts' grid as a whole: every block's answers, and the array they fill. -/
module

public import proofs.«01_k».proof.Proof.ExpertsSpec
public import Idealize.ShloMosaic.Lib.Pipeline.ValueKit
public import Idealize.ShloMosaic.Lib.Pipeline.Covers

@[expose] public section

set_option maxRecDepth 16384

noncomputable section

namespace Cert.Kernel2Ideal.Experts

open Cert.Kernel2Ideal Cert.Kernel2Ideal.Gen
open Idealize.ShloMosaic Idealize.ShloMosaic.TcCoe Idealize.SL.Sem

variable (m : (ℓ : Loc nD τ sig) → Buf (Elt Ideal) ℓ) (hO : Ok m) (c : Dev nD)

/-- The blocks' experts. -/
abbrev experts : IVec S296 32 := m ((c : Thread nD τ).loc main_arg0)
/-- The number of used blocks. -/
abbrev blocks : IVec S1 32 := m ((c : Thread nD τ).loc main_arg1)
/-- The routed rows. -/
abbrev rows : FVec Ideal S151552x1024 .bf16 := m ((c : Thread nD τ).loc main_arg2)
/-- The gate and up weights. -/
abbrev gates : FVec Ideal S4x32x1024x2048 .f32 := m ((c : Thread nD τ).loc main_arg3)
/-- The gate and up biases. -/
abbrev biases : FVec Ideal S4x32x2048 .f32 := m ((c : Thread nD τ).loc main_arg4)
/-- The down weights. -/
abbrev downs : FVec Ideal S4x32x1024x1024 .f32 := m ((c : Thread nD τ).loc main_arg5)
/-- The down biases. -/
abbrev offsets : FVec Ideal S4x32x1024 .f32 := m ((c : Thread nD τ).loc main_arg6)

/-- The number of used blocks that the body reads is the argument's. -/
theorem nuWord_eq : nuWord c (tbl m 1) = blocks m c (ix1 0) := by
  have e : (tbl m 1 : IVec S1 32) = blocks m c := (V_pre m c 1).symm.trans (V_arg m c main_arg1 (by decide))
  refine Eq.trans ?_ (congrFun e (ix1 0))
  refine congrArg (tbl m 1 : IVec S1 32) (funext fun a => Fin.ext ?_)
  fin_cases a; rfl

/-- A point's block holds its rows' answers. -/
theorem outBlk_apply (t : Fin (cfgM m hO).N) (r : Fin 512) (q : Fin 1024) (R : Fin 151552) (hR : R.val = t.val * 512 + r.val) :
    outBlk m hO c t (ix2 r q) = answer (experts m c) (blocks m c) (rows m c) (gates m c) (biases m c) (downs m c) (offsets m c) R q := by
  have hbv : (blockOf R).val = ((grid0.coords t) 0).val := by rw [coord_val]; show R.val / 512 = t.val; omega
  have hw : beWord c (grid0.coords t) (tbl m 0) = experts m c (ix1 (blockOf R)) := beWord_eq m c (grid0.coords t) (blockOf R) hbv
  have hu : Used m hO c t ↔ Scalar.cmpi .slt (BitVec.ofNat 32 (blockOf R).val) (blocks m c (ix1 0)) = 1#1 := by
    rw [hbv, ← nuWord_eq]; exact used_iff (grid0.coords t) (nuWord c (tbl m 1))
  have hlt : (experts m c (ix1 (blockOf R))).toNat < 128 := hw ▸ be_lt m c hO (grid0.coords t)
  have hx : ∀ k : Fin 1024, (iblk m hO c 0 t : Vec Ideal S512x1024 .bf16) (ix2 r k) = rows m c (ix2 R k) := fun k =>
    (iblk_0 m hO c t (ix2 r k) (ix2 R k) hR rfl).trans (congrFun (V_arg m c main_arg2 (by decide)) (ix2 R k))
  have hd : ∀ j : Fin 1024, k0_pay4 (iblk m hO c 3 t : Vec Ideal S1x1024x1024 .f32) (ix2 j q)
      = downs m c (ix4 (layer (experts m c (ix1 (blockOf R))).toNat) (member (experts m c (ix1 (blockOf R))).toNat) j q) := fun j =>
    (dnBlock_apply _ j q).trans ((iblk_3 m hO c t (ix3 0 j q) (ix3 ⟨_, hlt⟩ j q) (congrArg BitVec.toNat hw).symm rfl rfl).trans (downs_at m c ⟨_, hlt⟩ j q))
  have he : (iblk m hO c 4 t : Vec Ideal S1x1x1024 .f32) (ix3 0 0 q)
      = offsets m c (ix3 (layer (experts m c (ix1 (blockOf R))).toNat) (member (experts m c (ix1 (blockOf R))).toNat) q) :=
    (iblk_4 m hO c t (ix3 0 0 q) (ix3 ⟨_, hlt⟩ 0 q) (congrArg BitVec.toNat hw).symm rfl).trans (offsets_at m c ⟨_, hlt⟩ q)
  unfold outBlk answer
  by_cases hU : Used m hO c t
  · rw [if_pos hU]
    dsimp only
    rw [if_pos (hu.mp hU)]
    refine (outUsed_apply _ _ _ _ _
      (fun k f => gates m c (ix4 (layer (experts m c (ix1 (blockOf R))).toNat) (member (experts m c (ix1 (blockOf R))).toNat) k f))
      (fun f => biases m c (ix3 (layer (experts m c (ix1 (blockOf R))).toNat) (member (experts m c (ix1 (blockOf R))).toNat) f)) ?_ ?_ r q).trans ?_
    · intro k f
      refine (guBlock_apply (iblk m hO c 5 t) (fun i l => (congrFun (iblk_5 m hO c t) (ix2 i l)).trans (reorders m c i l)) (iblk m hO c 1 t) k f).trans ?_
      exact (iblk_1 m hO c t (ix3 0 k (colOf f)) (ix3 ⟨_, hlt⟩ k (colOf f)) (congrArg BitVec.toNat hw).symm rfl rfl).trans (gates_at m c ⟨_, hlt⟩ k (colOf f))
    · intro f
      exact (iblk_2 m hO c t (ix3 0 0 f) (ix3 ⟨_, hlt⟩ 0 f) (congrArg BitVec.toNat hw).symm rfl).trans (biases_at m c ⟨_, hlt⟩ f)
    · simp only [hx, hd, he]
      rfl
  · rw [if_neg hU]
    dsimp only
    rw [if_neg fun h => hU (hu.mpr h)]
    exact Ideal.ofBits_zero_bf16

/-- The result's blocks cover its array. -/
theorem covers : ((cfgM m hO).win 6).Covers :=
  ((cfgM m hO).win 6).covers_of_index_surj rfl (fun a => match a with
      | ⟨0, _⟩ => (by decide : 0 < 512)
      | ⟨1, _⟩ => (by decide : 0 < 1024)) fun β => by
    have h0 : (β ⟨0, Nat.zero_lt_two⟩).val < 296 := lt_of_lt_of_eq (β ⟨0, Nat.zero_lt_two⟩).isLt (by show (151552 + 512 - 1) / 512 = 296; decide)
    have h1 : (β ⟨1, Nat.one_lt_two⟩).val < 1 := lt_of_lt_of_eq (β ⟨1, Nat.one_lt_two⟩).isLt (by show (1024 + 1024 - 1) / 1024 = 1; decide)
    refine ⟨⟨(β ⟨0, Nat.zero_lt_two⟩).val, lt_of_lt_of_eq h0 N_0.symm⟩, fun a => ?_⟩
    match a with
    | ⟨0, _⟩ =>
      show (BitVec.ofNat 32 ((grid0.coords _) 0).val).toNat = (β ⟨0, Nat.zero_lt_two⟩).val
      rw [coord_val, BitVec.toNat_ofNat, Nat.mod_eq_of_lt (lt_trans h0 (by decide))]
    | ⟨1, _⟩ => show 0 = (β ⟨1, Nat.one_lt_two⟩).val; omega

/-- A point's block lies at its rows of the result array. -/
theorem emb_out (t : Fin (cfgM m hO).N) (r : Fin 512) (q : Fin 1024) (R : Fin 151552) (hR : R.val = t.val * 512 + r.val) :
    ((((cfgM m hO).win 6).blk t).view.emb (ix2 r q : S512x1024.Idx) : S151552x1024.Idx) = ix2 R q :=
  funext fun a => Fin.ext (by
    have ht : t.val < 296 := lt_of_lt_of_eq t.isLt N_0
    fin_cases a
    · show (BitVec.ofNat 32 ((grid0.coords t) 0).val).toNat * 512 + 1 * r.val = R.val
      rw [coord_val, BitVec.toNat_ofNat, Nat.mod_eq_of_lt (lt_trans ht (by decide))]; omega
    · show 0 * 1024 + 1 * q.val = q.val; omega)

/-- What a point leaves at its output window is its part of all the rows' answers. -/
theorem after_apply (t : Fin (cfgM m hO).N) (y : S512x1024.Idx) : ((dats m hO 0 c).after 6 t : Vec Ideal S512x1024 .bf16) y
    = answers (experts m c) (blocks m c) (rows m c) (gates m c) (biases m c) (downs m c) (offsets m c)
      ((((cfgM m hO).win 6).blk t).view.emb y : S151552x1024.Idx) := by
  have ht : t.val < 296 := lt_of_lt_of_eq t.isLt N_0
  obtain ⟨r, q, rfl⟩ : ∃ (r : Fin 512) (q : Fin 1024), y = ix2 r q := ⟨y 0, y 1, funext fun a => by fin_cases a <;> rfl⟩
  refine (congrFun (after_6 m hO c t) (ix2 r q)).trans ((outBlk_apply m hO c t r q ⟨t.val * 512 + r.val, by omega⟩ rfl).trans ?_)
  rw [emb_out m hO t r q ⟨t.val * 512 + r.val, by omega⟩ rfl]
  rfl

/-- After the grid the result array holds all the rows' answers. -/
theorem out_whole : (dats m hO 0 c).arrAt 6 (cfgM m hO).N
    = answers (experts m c) (blocks m c) (rows m c) (gates m c) (biases m c) (downs m c) (offsets m c) :=
  (dats m hO 0 c).arrAt_eq_of_covers 6 _ (covers m hO) fun t _ y => after_apply m hO c t y

include hO in
/-- The kernel's run with its result array read: all the rows' answers, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v22)
        = answers (experts m c) (blocks m c) (rows m c) (gates m c) (biases m c) (downs m c) (offsets m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 6).trans (out_whole m hO c),
      rest_kept m hO c h.1 main_arg0 (by decide) (by decide), rest_kept m hO c h.1 main_arg1 (by decide) (by decide),
      rows_kept m hO c h.1, rest_kept m hO c h.1 main_arg3 (by decide) (by decide),
      rest_kept m hO c h.1 main_arg4 (by decide) (by decide), rest_kept m hO c h.1 main_arg5 (by decide) (by decide),
      rest_kept m hO c h.1 main_arg6 (by decide) (by decide)⟩) (launched m ρ hO)

end Cert.Kernel2Ideal.Experts

end
-- ==== Proof.ExpertsRef.lean ====
/- The experts' reference, read down to the layer's rows. -/
module

public import proofs.«01_k».proof.Proof.ExpertsOut
public import proofs.«01_k».proof.Proof.Gen.Reference2Ideal.Read

@[expose] public section

set_option maxRecDepth 16384

noncomputable section

namespace Cert.Reference2Ideal.Experts

open Cert.Reference2Ideal Cert.Reference2Ideal.Gen Cert.Reference2Ideal.Read
open Cert.Kernel2Ideal.Experts (swiglu lin mlp layer member blockOf answer answers)
open Idealize.ShloMosaic Idealize.SL.Sem

/-- A gather reads its operand at the index whose coordinates are the slice's start plus the place in the slice. -/
theorem gather_at {α : Type} {s si t : Shape} (d : GatherDims s si t) (x : s.Idx → α) (idx : IVec si 32) (j : t.Idx) (k : s.Idx)
    (h : ∀ a, d.start j idx a + d.batchCoord j a + d.offCoord j a = (k a).val) : Host.gather d x idx j = x k := by
  unfold Host.gather
  exact congrArg x (funext fun a => Fin.ext (h a))

/-- An expert's number is not negative, so the reference's wrap-around leaves it as it is. -/
theorem wrap (x : BitVec 32) (h : x.toNat < 128) : Scalar.select (IntOp.cmpi .slt x 0#32) (IntOp.addi x 128#32) x = x := by
  have h0 : IntOp.cmpi .slt x 0#32 = BitVec.ofBool (x.slt 0#32) := rfl
  have h1 : x.slt 0#32 = false := by
    rw [BitVec.slt_eq_decide, decide_eq_false_iff_not, BitVec.toInt_eq_toNat_of_lt (by omega)]
    simp
  rw [h0, h1]
  rfl

/-- A start index that names a row keeps it when it is clamped. -/
theorem clamp (x : BitVec 32) (e : Fin 128) (h : x.toNat = e.val) : min x.toInt.toNat (128 - 1) = e.val := by
  rw [BitVec.toInt_eq_toNat_of_lt (by omega)]
  simp only [Int.toNat_natCast]
  omega

variable (x0 : IVec S296 32) (x1 : IVec S1 32) (x2 : FVec Ideal S151552x1024 .bf16) (x3 : FVec Ideal S4x32x1024x2048 .f32)
  (x4 : FVec Ideal S4x32x2048 .f32) (x5 : FVec Ideal S4x32x1024x1024 .f32) (x6 : FVec Ideal S4x32x1024 .f32)

/-- The start index of each of the four gathers is the block's expert. -/
theorem starts (b : Fin 296) (h : (x0 (ix1 b)).toNat < 128) :
    val_main_v8 (F := Ideal) x0 (ix2 b 0) = x0 (ix1 b) ∧ val_main_v16 (F := Ideal) x0 (ix2 b 0) = x0 (ix1 b)
      ∧ val_main_v24 (F := Ideal) x0 (ix2 b 0) = x0 (ix1 b) ∧ val_main_v32 (F := Ideal) x0 (ix2 b 0) = x0 (ix1 b) := by
  have e : ∀ i : S296.Idx, i = ix1 b → Scalar.select (IntOp.cmpi .slt (x0 i) 0#32) (IntOp.addi (x0 i) 128#32) (x0 i) = x0 (ix1 b) := by
    rintro i rfl; exact wrap _ h
  refine ⟨?_, ?_, ?_, ?_⟩
  · rw [val_main_v8_apply, val_main_v7_apply, val_main_v4_apply, val_main_v6_apply, val_main_v3_apply, val_main_v5_apply]
    exact e _ (funext fun a => by fin_cases a; rfl)
  · rw [val_main_v16_apply, val_main_v15_apply, val_main_v12_apply, val_main_v14_apply, val_main_v11_apply, val_main_v13_apply]
    exact e _ (funext fun a => by fin_cases a; rfl)
  · rw [val_main_v24_apply, val_main_v23_apply, val_main_v20_apply, val_main_v22_apply, val_main_v19_apply, val_main_v21_apply]
    exact e _ (funext fun a => by fin_cases a; rfl)
  · rw [val_main_v32_apply, val_main_v31_apply, val_main_v28_apply, val_main_v30_apply, val_main_v27_apply, val_main_v29_apply]
    exact e _ (funext fun a => by fin_cases a; rfl)

variable (b : Fin 296) (h : (x0 (ix1 b)).toNat < 128)
include h

/-- The block's gate and up weights. -/
theorem gates_apply (k : Fin 1024) (f : Fin 2048) : val_main_v9 (F := Ideal) x0 x3 (ix3 b k f)
    = x3 (ix4 (layer (x0 (ix1 b)).toNat) (member (x0 (ix1 b)).toNat) k f) := by
  unfold val_main_v9
  refine (gather_at _ _ _ _ (ix3 (⟨(x0 (ix1 b)).toNat, h⟩ : Fin 128) k f) fun a => ?_).trans ?_
  · match a with
    | ⟨0, _⟩ =>
      refine Eq.trans ?_ (clamp (val_main_v8 (F := Ideal) x0 (ix2 b 0)) ⟨_, h⟩ (congrArg BitVec.toNat (starts x0 b h).1))
      refine congrArg (fun i => min (val_main_v8 (F := Ideal) x0 i).toInt.toNat (128 - 1)) (funext fun a => Fin.ext ?_)
      fin_cases a <;> rfl
    | ⟨1, _⟩ => exact Nat.zero_add _
    | ⟨2, _⟩ => exact Nat.zero_add _
  · unfold val_main_v2
    refine shapeCast_apply _ _ _ _ ?_
    rw [Shape.rowMajor_val_four, Shape.rowMajor_val_three]
    show ((((x0 (ix1 b)).toNat / 32 % 4) * 32 + (x0 (ix1 b)).toNat % 32) * 1024 + k.val) * 2048 + f.val = ((x0 (ix1 b)).toNat * 1024 + k.val) * 2048 + f.val
    omega

/-- The block's gate and up biases. -/
theorem biases_apply (f : Fin 2048) : val_main_v17 (F := Ideal) x0 x4 (ix2 b f)
    = x4 (ix3 (layer (x0 (ix1 b)).toNat) (member (x0 (ix1 b)).toNat) f) := by
  unfold val_main_v17
  refine (gather_at _ _ _ _ (ix2 (⟨(x0 (ix1 b)).toNat, h⟩ : Fin 128) f) fun a => ?_).trans ?_
  · match a with
    | ⟨0, _⟩ =>
      refine Eq.trans ?_ (clamp (val_main_v16 (F := Ideal) x0 (ix2 b 0)) ⟨_, h⟩ (congrArg BitVec.toNat (starts x0 b h).2.1))
      refine congrArg (fun i => min (val_main_v16 (F := Ideal) x0 i).toInt.toNat (128 - 1)) (funext fun a => Fin.ext ?_)
      fin_cases a <;> rfl
    | ⟨1, _⟩ => exact Nat.zero_add _
  · unfold val_main_v10
    refine shapeCast_apply _ _ _ _ ?_
    rw [Shape.rowMajor_val_three, Shape.rowMajor_val_two]
    show (((x0 (ix1 b)).toNat / 32 % 4) * 32 + (x0 (ix1 b)).toNat % 32) * 2048 + f.val = (x0 (ix1 b)).toNat * 2048 + f.val
    omega

/-- The block's down weights. -/
theorem downs_apply (j q : Fin 1024) : val_main_v25 (F := Ideal) x0 x5 (ix3 b j q)
    = x5 (ix4 (layer (x0 (ix1 b)).toNat) (member (x0 (ix1 b)).toNat) j q) := by
  unfold val_main_v25
  refine (gather_at _ _ _ _ (ix3 (⟨(x0 (ix1 b)).toNat, h⟩ : Fin 128) j q) fun a => ?_).trans ?_
  · match a with
    | ⟨0, _⟩ =>
      refine Eq.trans ?_ (clamp (val_main_v24 (F := Ideal) x0 (ix2 b 0)) ⟨_, h⟩ (congrArg BitVec.toNat (starts x0 b h).2.2.1))
      refine congrArg (fun i => min (val_main_v24 (F := Ideal) x0 i).toInt.toNat (128 - 1)) (funext fun a => Fin.ext ?_)
      fin_cases a <;> rfl
    | ⟨1, _⟩ => exact Nat.zero_add _
    | ⟨2, _⟩ => exact Nat.zero_add _
  · unfold val_main_v18
    refine shapeCast_apply _ _ _ _ ?_
    rw [Shape.rowMajor_val_four, Shape.rowMajor_val_three]
    show ((((x0 (ix1 b)).toNat / 32 % 4) * 32 + (x0 (ix1 b)).toNat % 32) * 1024 + j.val) * 1024 + q.val = ((x0 (ix1 b)).toNat * 1024 + j.val) * 1024 + q.val
    omega

/-- The block's down biases. -/
theorem offsets_apply (q : Fin 1024) : val_main_v33 (F := Ideal) x0 x6 (ix2 b q)
    = x6 (ix3 (layer (x0 (ix1 b)).toNat) (member (x0 (ix1 b)).toNat) q) := by
  unfold val_main_v33
  refine (gather_at _ _ _ _ (ix2 (⟨(x0 (ix1 b)).toNat, h⟩ : Fin 128) q) fun a => ?_).trans ?_
  · match a with
    | ⟨0, _⟩ =>
      refine Eq.trans ?_ (clamp (val_main_v32 (F := Ideal) x0 (ix2 b 0)) ⟨_, h⟩ (congrArg BitVec.toNat (starts x0 b h).2.2.2))
      refine congrArg (fun i => min (val_main_v32 (F := Ideal) x0 i).toInt.toNat (128 - 1)) (funext fun a => Fin.ext ?_)
      fin_cases a <;> rfl
    | ⟨1, _⟩ => exact Nat.zero_add _
  · unfold val_main_v26
    refine shapeCast_apply _ _ _ _ ?_
    rw [Shape.rowMajor_val_three, Shape.rowMajor_val_two]
    show (((x0 (ix1 b)).toNat / 32 % 4) * 32 + (x0 (ix1 b)).toNat % 32) * 1024 + q.val = (x0 (ix1 b)).toNat * 1024 + q.val
    omega

/-- A block's rows times its gate and up weights, plus the biases. -/
theorem lin_apply (r : Fin 512) (R : Fin 151552) (hR : R.val = b.val * 512 + r.val) (f : Fin 2048) :
    val_main_v37 (F := Ideal) x0 x2 x3 x4 (ix3 b r f) = lin (fun k => x2 (ix2 R k))
      (fun k f => x3 (ix4 (layer (x0 (ix1 b)).toNat) (member (x0 (ix1 b)).toNat) k f))
      (fun f => x4 (ix3 (layer (x0 (ix1 b)).toNat) (member (x0 (ix1 b)).toNat) f)) f := by
  have hx : ∀ k : Fin 1024, val_main_v1 (F := Ideal) x2 (ix3 b r k) = x2 (ix2 R k) := fun k => by
    unfold val_main_v1
    refine (shapeCast_apply _ _ _ (ix2 R k) ?_).trans rfl
    rw [Shape.rowMajor_val_three, Shape.rowMajor_val_two]
    show R.val * 1024 + k.val = (b.val * 512 + r.val) * 1024 + k.val
    omega
  rw [val_main_v37_apply, val_main_v34_apply, val_main_v36_apply, val_main_v35_apply]
  refine congrArg₂ (fun s t : EReal => s + t) (Finset.sum_congr rfl fun k _ => congrArg₂ (fun s t : EReal => s * t) ?_ ?_) ?_
  · refine Eq.trans (congrArg _ ?_) (hx k)
    funext a; fin_cases a <;> rfl
  · refine Eq.trans (congrArg _ ?_) (gates_apply x0 x3 b h k f)
    funext a; fin_cases a <;> rfl
  · refine Eq.trans (congrArg _ ?_) (biases_apply x0 x4 b h f)
    funext a; fin_cases a <;> rfl

/-- A block's activations. -/
theorem act_apply (r : Fin 512) (R : Fin 151552) (hR : R.val = b.val * 512 + r.val) (j : Fin 1024) :
    val_main_v54 (F := Ideal) x0 x2 x3 x4 (ix3 b r j) = swiglu
      (lin (fun k => x2 (ix2 R k)) (fun k f => x3 (ix4 (layer (x0 (ix1 b)).toNat) (member (x0 (ix1 b)).toNat) k f))
        (fun f => x4 (ix3 (layer (x0 (ix1 b)).toNat) (member (x0 (ix1 b)).toNat) f)) ⟨2 * j.val, by omega⟩)
      (lin (fun k => x2 (ix2 R k)) (fun k f => x3 (ix4 (layer (x0 (ix1 b)).toNat) (member (x0 (ix1 b)).toNat) k f))
        (fun f => x4 (ix3 (layer (x0 (ix1 b)).toNat) (member (x0 (ix1 b)).toNat) f)) ⟨2 * j.val + 1, by omega⟩) := by
  have hg : val_main_v38 (F := Ideal) x0 x2 x3 x4 (ix3 b r j) = val_main_v37 (F := Ideal) x0 x2 x3 x4 (ix3 b r ⟨2 * j.val, by omega⟩) := by
    unfold val_main_v38
    generalize val_main_v37 (F := Ideal) x0 x2 x3 x4 = y
    refine congrArg y (funext fun a => Fin.ext ?_)
    fin_cases a
    · show 0 + 1 * b.val = b.val; omega
    · show 0 + 1 * r.val = r.val; omega
    · show 0 + 2 * j.val = 2 * j.val; omega
  have hu : val_main_v41 (F := Ideal) x0 x2 x3 x4 (ix3 b r j) = val_main_v37 (F := Ideal) x0 x2 x3 x4 (ix3 b r ⟨2 * j.val + 1, by omega⟩) := by
    unfold val_main_v41
    generalize val_main_v37 (F := Ideal) x0 x2 x3 x4 = y
    refine congrArg y (funext fun a => Fin.ext ?_)
    fin_cases a
    · show 0 + 1 * b.val = b.val; omega
    · show 0 + 1 * r.val = r.val; omega
    · show 1 + 2 * j.val = 2 * j.val + 1; omega
  rw [lin_apply x0 x2 x3 x4 b h r R hR] at hg hu
  have e40 : val_main_v40 (F := Ideal) x0 x2 x3 x4 (ix3 b r j) = min (val_main_v38 (F := Ideal) x0 x2 x3 x4 (ix3 b r j)) (Ideal.ofBits .f32 0x40E00000#32) := by
    rw [val_main_v40_apply, val_main_v39_apply]; rfl
  have e42 : val_main_v42 (F := Ideal) x0 x2 x3 x4 (ix3 b r j)
      = min (Ideal.ofBits .f32 0x40E00000#32) (max (Ideal.ofBits .f32 0xC0E00000#32) (val_main_v41 (F := Ideal) x0 x2 x3 x4 (ix3 b r j))) := by
    rw [val_main_v42_apply, val_main_call0_v4_apply, val_main_call0_v2_apply, val_main_call0_v1_apply]; rfl
  have e50 : val_main_v50 (F := Ideal) x0 x2 x3 x4 (ix3 b r j)
      = Ideal.logistic (Ideal.ofBits .f32 0x3FD9DB23#32 * val_main_v40 (F := Ideal) x0 x2 x3 x4 (ix3 b r j)) := by
    rw [val_main_v50_apply, val_main_v49_apply, val_main_v48_apply, val_main_v47_apply, val_main_v46_apply, val_main_v45_apply, val_main_v44_apply, val_main_v43_apply,
      Ideal.logistic, ← Ideal.ofBits_one_f32]
    rfl
  rw [val_main_v54_apply, val_main_v51_apply, val_main_v53_apply, val_main_v52_apply, e42, e50, e40, hg, hu]
  rfl

/-- A block's rows after both products. -/
theorem mlp_apply (r : Fin 512) (R : Fin 151552) (hR : R.val = b.val * 512 + r.val) (q : Fin 1024) :
    val_main_v58 (F := Ideal) x0 x2 x3 x4 x5 x6 (ix3 b r q) = mlp (fun k => x2 (ix2 R k))
      (fun k f => x3 (ix4 (layer (x0 (ix1 b)).toNat) (member (x0 (ix1 b)).toNat) k f))
      (fun f => x4 (ix3 (layer (x0 (ix1 b)).toNat) (member (x0 (ix1 b)).toNat) f))
      (fun j q => x5 (ix4 (layer (x0 (ix1 b)).toNat) (member (x0 (ix1 b)).toNat) j q))
      (fun q => x6 (ix3 (layer (x0 (ix1 b)).toNat) (member (x0 (ix1 b)).toNat) q)) q := by
  rw [val_main_v58_apply, val_main_v55_apply, val_main_v57_apply, val_main_v56_apply]
  refine congrArg₂ (fun s t : EReal => s + t) (Finset.sum_congr rfl fun j _ => congrArg₂ (fun s t : EReal => s * t) ?_ ?_) ?_
  · refine Eq.trans (congrArg _ ?_) (act_apply x0 x2 x3 x4 b h r R hR j)
    funext a; fin_cases a <;> rfl
  · refine Eq.trans (congrArg _ ?_) (downs_apply x0 x5 b h j q)
    funext a; fin_cases a <;> rfl
  · refine Eq.trans (congrArg _ ?_) (offsets_apply x0 x6 b h q)
    funext a; fin_cases a <;> rfl

omit h in
/-- Whether a block is used. -/
theorem used_apply (r : Fin 512) (q : Fin 1024) : val_main_call1_v1 (F := Ideal) x1 (ix3 b r q)
    = Scalar.cmpi .slt (BitVec.ofNat 32 b.val) (x1 (ix1 0)) := by
  rw [val_main_call1_v1_apply, val_main_v63_apply, val_main_v62_apply, val_main_v60_apply, val_main_v59_apply]
  have e : ∀ i, val_main_v61 (F := Ideal) x1 i = x1 (ix1 0) := fun i => by
    unfold val_main_v61
    refine congrArg x1 (funext fun a => ?_)
    fin_cases a
    exact Subsingleton.elim (α := Fin 1) _ _
  rw [e]
  rfl

omit h in
/-- The reference's result holds all the rows' answers. -/
theorem result (ha : ∀ b : Fin 296, (x0 (ix1 b)).toNat < 128) :
    val_main_v66 (F := Ideal) x0 x1 x2 x3 x4 x5 x6 = answers x0 x1 x2 x3 x4 x5 x6 := by
  funext i
  obtain ⟨R, q, rfl⟩ : ∃ (R : Fin 151552) (q : Fin 1024), i = ix2 R q := ⟨i 0, i 1, funext fun a => by fin_cases a <;> rfl⟩
  have hR : R.val = (blockOf R).val * 512 + R.val % 512 := by show R.val = R.val / 512 * 512 + R.val % 512; omega
  have hi : idx_main_v65 (ix2 R q) = ix3 (blockOf R) (⟨R.val % 512, Nat.mod_lt _ (by decide)⟩ : Fin 512) q := funext fun a => Fin.ext (by
    fin_cases a
    · show (R.val * 1024 + q.val) / 524288 = R.val / 512; omega
    · show (R.val * 1024 + q.val) / 1024 % 512 = R.val % 512; omega
    · show (R.val * 1024 + q.val) % 1024 = q.val; omega)
  rw [val_main_v66_apply, val_main_v65_apply, hi, val_main_v64_apply, used_apply, mlp_apply x0 x2 x3 x4 x5 x6 (blockOf R) (ha _) _ R hR q,
    val_main_call1_v2_apply]
  refine Eq.trans ?_ (show _ = answer x0 x1 x2 x3 x4 x5 x6 R q from rfl)
  unfold answer Scalar.select
  by_cases hc : Scalar.cmpi .slt (BitVec.ofNat 32 (blockOf R).val) (x1 (ix1 0)) = 1#1
  · rw [if_pos hc]; exact if_pos hc
  · dsimp only
    rw [if_neg hc]
    exact (if_neg hc).trans Ideal.ofBits_zero_f32

end Cert.Reference2Ideal.Experts

end
-- ==== Proof.Samples.lean ====
/- The rows of the four samples' tokens: where a row lies in its sample, and how a block of rows tells the image's tokens
   from the context's. -/
module

public import proofs.«01_k».proof.Proof.ExpertsRef

@[expose] public section

set_option maxRecDepth 16384

noncomputable section

namespace Cert.Samples

open Idealize.ShloMosaic Idealize.SL.Sem

/-- The sample a row belongs to. -/
def sample (R : Fin 33792) : Fin 4 := ⟨R.val / 8448, by omega⟩

/-- The token's position in its sample. -/
def place (R : Fin 33792) : Fin 8448 := ⟨R.val % 8448, by omega⟩

/-- Whether a row is one of the context's tokens, which follow the image's. -/
def Ctx (R : Fin 33792) : Prop := 8192 ≤ (place R).val

instance (R : Fin 33792) : Decidable (Ctx R) := inferInstanceAs (Decidable (8192 ≤ (place R).val))

/-- The row of the modulation table a token takes: `i` for the image's tokens, `i + 8` for the context's. -/
def pick (mod : Fin 4 → Fin 16 → Fin 1024 → EReal) (i : Fin 8) (R : Fin 33792) (q : Fin 1024) : EReal :=
  if Ctx R then mod (sample R) ⟨i.val + 8, by omega⟩ q else mod (sample R) ⟨i.val, by omega⟩ q

/-- The block's number within its sample, as the body computes it from the block's word. -/
def tileWord (a : BitVec 32) : BitVec 32 :=
  Scalar.select (Scalar.andi (Scalar.xori (Scalar.cmpi .slt (Scalar.remsi a (Scalar.select (Scalar.cmpi .eq 11#32 0#32) 1#32 11#32)) 0#32)
      (Scalar.cmpi .slt (Scalar.select (Scalar.cmpi .eq 11#32 0#32) 1#32 11#32) 0#32))
      (Scalar.cmpi .ne (Scalar.remsi a (Scalar.select (Scalar.cmpi .eq 11#32 0#32) 1#32 11#32)) 0#32))
    (Scalar.addi (Scalar.remsi a (Scalar.select (Scalar.cmpi .eq 11#32 0#32) 1#32 11#32)) (Scalar.select (Scalar.cmpi .eq 11#32 0#32) 1#32 11#32))
    (Scalar.remsi a (Scalar.select (Scalar.cmpi .eq 11#32 0#32) 1#32 11#32))

/-- It is the block's number modulo the eleven blocks of a sample. -/
theorem tileWord_eq : ∀ t : Fin 44, tileWord (BitVec.ofNat 32 t.val) = BitVec.ofNat 32 (t.val % 11) := by decide +kernel

/-- The test a block's row makes tells the context's tokens. -/
theorem test_eq (t : Fin 44) (r : Fin 768) (R : Fin 33792) (hR : R.val = t.val * 768 + r.val) :
    Scalar.cmpi .sge (Scalar.addi (Scalar.muli (tileWord (BitVec.ofNat 32 t.val)) 768#32) (BitVec.ofNat 32 r.val)) 8192#32
      = if Ctx R then 1#1 else 0#1 := by
  rw [tileWord_eq]
  have hm : t.val % 11 < 11 := Nat.mod_lt _ (by decide)
  have hw : Scalar.addi (Scalar.muli (BitVec.ofNat 32 (t.val % 11)) 768#32) (BitVec.ofNat 32 r.val) = BitVec.ofNat 32 (t.val % 11 * 768 + r.val) := by
    apply BitVec.eq_of_toNat_eq
    show (BitVec.ofNat 32 (t.val % 11) * 768#32 + BitVec.ofNat 32 r.val).toNat = _
    simp only [BitVec.toNat_add, BitVec.toNat_mul, BitVec.toNat_ofNat]
    omega
  have hc : Ctx R ↔ 8192 ≤ t.val % 11 * 768 + r.val := by
    show 8192 ≤ R.val % 8448 ↔ _
    rw [hR]; omega
  rw [hw]
  have hs : (BitVec.sle 8192#32 (BitVec.ofNat 32 (t.val % 11 * 768 + r.val))) = decide (8192 ≤ t.val % 11 * 768 + r.val) := by
    rw [BitVec.sle_eq_decide, BitVec.toInt_eq_toNat_of_lt (by simp), BitVec.toInt_eq_toNat_of_lt (by simp only [BitVec.toNat_ofNat]; omega)]
    simp only [BitVec.toNat_ofNat]
    exact decide_eq_decide.mpr (by omega)
  show BitVec.ofBool (BitVec.sle 8192#32 (BitVec.ofNat 32 (t.val % 11 * 768 + r.val))) = _
  rw [hs]
  by_cases h : Ctx R
  · rw [if_pos h, decide_eq_true (hc.mp h)]; rfl
  · rw [if_neg h, decide_eq_false fun e => h (hc.mpr e)]; rfl

end Cert.Samples

end
-- ==== Proof.OutProj.lean ====
/- The output projection with its gated residual (even layers): the body's block, entry by entry. -/
module

public import proofs.«01_k».proof.Proof.Samples
public import proofs.«01_k».proof.Proof.Gen.Kernel4Ideal.Frame
public import Idealize.ShloMosaic.Lib.Pipeline.ValueKit
public import Idealize.ShloMosaic.Lib.Pipeline.Covers

@[expose] public section

set_option maxRecDepth 16384

noncomputable section

namespace Cert.Samples

/-- A token's residual plus its gate times the projection of its two halves. -/
def gated {K : ℕ} (y s : Fin 33792 → Fin K → EReal) (w0 w1 : Fin K → Fin 1024 → EReal) (x : Fin 33792 → Fin 1024 → EReal)
    (mod : Fin 4 → Fin 16 → Fin 1024 → EReal) (R : Fin 33792) (q : Fin 1024) : EReal :=
  x R q + pick mod 2 R q * (∑ k, y R k * w0 k q + ∑ k, s R k * w1 k q)

end Cert.Samples

namespace Cert.Kernel4Ideal.OutProj

open Cert.Kernel4Ideal Cert.Kernel4Ideal.Gen Cert.Samples
open Idealize.ShloMosaic Idealize.ShloMosaic.TcCoe Idealize.SL.Sem

/-- The gated product of a block. -/
theorem pay_apply (i : grid0.Coords) (v : Vec Ideal S1x16x1024 .f32) (a b : Vec Ideal S768x1024 .bf16) (w w' : Vec Ideal S1024x1024 .bf16)
    (r : Fin 768) (q : Fin 1024) :
    k0_pay2 i v a w b w' (ix2 r q)
      = (if Scalar.cmpi .sge (Scalar.addi (Scalar.muli (tileWord (BitVec.ofNat 32 (i 0).val)) 768#32) (BitVec.ofNat 32 r.val)) 8192#32 = 1#1
          then v (ix3 0 10 q) else v (ix3 0 2 q)) * (∑ k : Fin 1024, a (ix2 r k) * w (ix2 k q) + ∑ k : Fin 1024, b (ix2 r k) * w' (ix2 k q)) := by
  pointwise [k0_pay2]
  rfl

/-- The block a point writes, from the blocks it reads. -/
theorem out_apply (i : grid0.Coords) (y s : Vec Ideal S768x1024 .bf16) (w : Vec Ideal S2048x1024 .bf16) (x : Vec Ideal S768x1024 .f32)
    (v : Vec Ideal S1x16x1024 .f32) (r : Fin 768) (q : Fin 1024) :
    out0_5 i y s w x v (ix2 r q) = x (ix2 r q)
      + (if Scalar.cmpi .sge (Scalar.addi (Scalar.muli (tileWord (BitVec.ofNat 32 (i 0).val)) 768#32) (BitVec.ofNat 32 r.val)) 8192#32 = 1#1
          then v (ix3 0 10 q) else v (ix3 0 2 q))
        * (∑ k : Fin 1024, y (ix2 r k) * w (ix2 (⟨k.val, by omega⟩ : Fin 2048) q)
          + ∑ k : Fin 1024, s (ix2 r k) * w (ix2 (⟨1024 + k.val, by omega⟩ : Fin 2048) q)) := by
  have z2 : (![0, 0] : Fin 2 → ℕ) = fun _ => 0 := by decide
  have z3 : (![0, 0, 0] : Fin 3 → ℕ) = fun _ => 0 := by decide
  have h0 : ∀ k : Fin 1024, View.ld w r0_2 (ix2 k q) = w (ix2 (⟨k.val, by omega⟩ : Fin 2048) q) := fun k =>
    congrArg w (funext fun a => Fin.ext (by
      fin_cases a
      · show 0 + 1 * k.val = k.val; omega
      · show 0 + 1 * q.val = q.val; omega))
  have h1 : ∀ k : Fin 1024, View.ld w r0_3 (ix2 k q) = w (ix2 (⟨1024 + k.val, by omega⟩ : Fin 2048) q) := fun k =>
    congrArg w (funext fun a => Fin.ext (by
      fin_cases a
      · show 1024 + 1 * k.val = 1024 + k.val; omega
      · show 0 + 1 * q.val = q.val; omega))
  unfold out0_5
  rw [View.canon_unit_zero z2, View.ld_unit_zero z2, View.ld_unit_zero z3, View.ld_unit_zero z2, View.ld_unit_zero z2]
  show x (ix2 r q) + _ = _
  rw [pay_apply]
  simp only [h0, h1]

/-- The point of a block's number. -/
theorem coord_val : ∀ t : Fin grid0.N, ((grid0.coords t) 0).val = t.val := by decide +kernel

/-- The blocks the windows hold at a point. -/
theorem idx : ∀ t : Fin cfg0.N, win0_0.index t = ![t.val, 0] ∧ win0_1.index t = ![t.val, 0] ∧ win0_2.index t = ![0, 0]
    ∧ win0_3.index t = ![t.val, 0] ∧ win0_4.index t = ![t.val / 11, 0, 0] ∧ win0_5.index t = ![t.val, 0] := by decide +kernel

variable (m : (ℓ : Loc nD τ sig) → Buf (Elt Ideal) ℓ) (c : Dev nD)

/-- The first half of the rows. -/
abbrev ys : FVec Ideal S33792x1024 .bf16 := m ((c : Thread nD τ).loc main_arg0)
/-- The second half of the rows. -/
abbrev ss : FVec Ideal S33792x1024 .bf16 := m ((c : Thread nD τ).loc main_arg1)
/-- The weights. -/
abbrev ws : FVec Ideal S2048x1024 .bf16 := m ((c : Thread nD τ).loc main_arg2)
/-- The residual rows. -/
abbrev xs : FVec Ideal S33792x1024 .f32 := m ((c : Thread nD τ).loc main_arg3)
/-- The modulation table. -/
abbrev mods : FVec Ideal S4x16x1024 .f32 := m ((c : Thread nD τ).loc main_arg4)

/-- The result array as a function of the arguments. -/
def result (y s : FVec Ideal S33792x1024 .bf16) (w : FVec Ideal S2048x1024 .bf16) (x : FVec Ideal S33792x1024 .f32)
    (v : FVec Ideal S4x16x1024 .f32) : FVec Ideal S33792x1024 .f32 := fun j =>
  gated (fun R k => y (ix2 R k)) (fun R k => s (ix2 R k)) (fun k q => w (ix2 (⟨k.val, by omega⟩ : Fin 2048) q))
    (fun k q => w (ix2 (⟨1024 + k.val, by omega⟩ : Fin 2048) q)) (fun R q => x (ix2 R q)) (fun b i q => v (ix3 b i q)) (j 0) (j 1)

variable (t : Fin cfg0.N) (r : Fin 768) (R : Fin 33792) (hR : R.val = t.val * 768 + r.val)

include hR in
/-- The first half's block. -/
theorem blk_y (k : Fin 1024) : (iblk m c 0 t : FVec Ideal S768x1024 .bf16) (ix2 r k) = ys m c (ix2 R k) := by
  have h : t.val * 768 + r.val < 33792 := hR ▸ R.2
  obtain rfl : R = ⟨t.val * 768 + r.val, h⟩ := Fin.ext hR
  blk_ext [iblk, V, idx t]

include hR in
/-- The second half's block. -/
theorem blk_s (k : Fin 1024) : (iblk m c 1 t : FVec Ideal S768x1024 .bf16) (ix2 r k) = ss m c (ix2 R k) := by
  have h : t.val * 768 + r.val < 33792 := hR ▸ R.2
  obtain rfl : R = ⟨t.val * 768 + r.val, h⟩ := Fin.ext hR
  blk_ext [iblk, V, idx t]

/-- The weights' block is all of them. -/
theorem blk_w (k : Fin 2048) (q : Fin 1024) : (iblk m c 2 t : FVec Ideal S2048x1024 .bf16) (ix2 k q) = ws m c (ix2 k q) := by
  blk_ext [iblk, V, idx t]

include hR in
/-- The residual's block. -/
theorem blk_x (q : Fin 1024) : (iblk m c 3 t : FVec Ideal S768x1024 .f32) (ix2 r q) = xs m c (ix2 R q) := by
  have h : t.val * 768 + r.val < 33792 := hR ▸ R.2
  obtain rfl : R = ⟨t.val * 768 + r.val, h⟩ := Fin.ext hR
  blk_ext [iblk, V, idx t]

include hR in
/-- The modulation table's block is the row's sample's. -/
theorem blk_m (i : Fin 16) (q : Fin 1024) : (iblk m c 4 t : FVec Ideal S1x16x1024 .f32) (ix3 0 i q) = mods m c (ix3 (sample R) i q) := by
  have hs : t.val / 11 = (sample R).val := by show _ = R.val / 8448; omega
  generalize sample R = b at hs
  have h : t.val / 11 < 4 := hs ▸ b.2
  obtain rfl : b = ⟨t.val / 11, h⟩ := Fin.ext hs.symm
  blk_ext [iblk, V, idx t]

include hR in
/-- The place of a block's entry in the result. -/
theorem emb_o (q : Fin 1024) : ((win0_5.blk t).view.emb (ix2 r q) : S33792x1024.Idx) = ix2 R q := by
  have h : t.val * 768 + r.val < 33792 := hR ▸ R.2
  obtain rfl : R = ⟨t.val * 768 + r.val, h⟩ := Fin.ext hR
  blk_ext [iblk, V, idx t]

/-- The result's blocks cover its array. -/
theorem covers : (cfg0.win 5).Covers :=
  (cfg0.win 5).covers_of_index_surj rfl (by decide) fun β => by
    have h0 : (β ⟨0, by decide⟩).val < 44 := lt_of_lt_of_eq (β ⟨0, by decide⟩).isLt (by decide : (cfg0.win 5).nblk ⟨0, by decide⟩ = 44)
    have h1 : (β ⟨1, by decide⟩).val < 1 := lt_of_lt_of_eq (β ⟨1, by decide⟩).isLt (by decide : (cfg0.win 5).nblk ⟨1, by decide⟩ = 1)
    refine ⟨⟨_, lt_of_lt_of_eq h0 N_0.symm⟩, fun a => ?_⟩
    refine (congrFun (idx ⟨_, lt_of_lt_of_eq h0 N_0.symm⟩).2.2.2.2.2 a).trans ?_
    match a with
    | ⟨0, _⟩ => rfl
    | ⟨1, _⟩ => show 0 = (β ⟨1, by decide⟩).val; omega

/-- After the grid the result array holds every token's gated residual. -/
theorem out_whole : (dats m 0 c).arrAt 5 cfg0.N = result (ys m c) (ss m c) (ws m c) (xs m c) (mods m c) := by
  refine (dats m 0 c).arrAt_eq_of_covers 5 _ covers fun t hf y => ?_
  blk_simp
  rw [after0_5]
  obtain ⟨r, q, rfl⟩ : ∃ (r : Fin 768) (q : Fin 1024), y = ix2 r q := ⟨y 0, y 1, by blk_ext [iblk, V, idx t]⟩
  have ht : t.val < 44 := lt_of_lt_of_eq t.isLt N_0
  obtain ⟨R, hR⟩ : ∃ R : Fin 33792, R.val = t.val * 768 + r.val := ⟨⟨t.val * 768 + r.val, by omega⟩, rfl⟩
  rw [emb_o t r R hR q]
  refine (out_apply _ (iblk m c 0 t) (iblk m c 1 t) (iblk m c 2 t) (iblk m c 3 t) (iblk m c 4 t) r q).trans ?_
  rw [coord_val t, test_eq ⟨t.val, ht⟩ r R hR, blk_x m c t r R hR, blk_m m c t r R hR, blk_m m c t r R hR]
  simp only [blk_y m c t r R hR, blk_s m c t r R hR, blk_w m c t]
  show _ = gated _ _ _ _ _ _ R q
  unfold gated pick
  by_cases h : Ctx R
  · rw [if_pos h, if_pos h, if_pos rfl]; rfl
  · rw [if_neg h, if_neg h, if_neg (by decide)]; rfl

/-- The kernel's run with its result array read: every token's gated residual, the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = result (ys m c) (ss m c) (ws m c) (xs m c) (mods m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).1 5).trans (out_whole m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Kernel4Ideal.OutProj

end
-- ==== Proof.OutProjRef.lean ====
/- The output projection's reference, entry by entry. -/
module

public import proofs.«01_k».proof.Proof.OutProj
public import proofs.«01_k».proof.Proof.Gen.Reference4Ideal.Read

@[expose] public section

set_option maxRecDepth 16384

noncomputable section

namespace Cert.Reference4Ideal.OutProj

open Cert.Reference4Ideal Cert.Reference4Ideal.Gen Cert.Reference4Ideal.Read Cert.Samples
open Idealize.ShloMosaic Idealize.SL.Sem

variable (y s : FVec Ideal S33792x1024 .bf16) (w : FVec Ideal S2048x1024 .bf16) (x : FVec Ideal S33792x1024 .f32) (v : FVec Ideal S4x16x1024 .f32)

/-- The two halves side by side, on the first half's columns. -/
theorem joined_lo (R : Fin 33792) (k : Fin 1024) : val_main_v0 (F := Ideal) y s (ix2 R (⟨k.val, by omega⟩ : Fin 2048)) = y (ix2 R k) := by
  unfold val_main_v0
  exact concatenate_pair_apply_left 1 y s _ (ix2 R (⟨k.val, by omega⟩ : Fin 2048)) rfl (ix2 R k) fun b => match b with
    | ⟨0, _⟩ => rfl
    | ⟨1, _⟩ => rfl

/-- On the second half's columns. -/
theorem joined_hi (R : Fin 33792) (k : Fin 1024) : val_main_v0 (F := Ideal) y s (ix2 R (⟨1024 + k.val, by omega⟩ : Fin 2048)) = s (ix2 R k) := by
  unfold val_main_v0
  exact concatenate_pair_apply_right 1 y s _ (ix2 R (⟨1024 + k.val, by omega⟩ : Fin 2048)) rfl rfl (ix2 R k) (fun b hb => match b with
    | ⟨0, _⟩ => rfl
    | ⟨1, _⟩ => absurd rfl hb) (Nat.add_comm _ _)

/-- The product, its sum cut at the halves' border. -/
theorem product_apply (R : Fin 33792) (q : Fin 1024) : val_main_v3 (F := Ideal) y s w (ix2 R q)
    = ∑ k : Fin 1024, y (ix2 R k) * w (ix2 (⟨k.val, by omega⟩ : Fin 2048) q)
      + ∑ k : Fin 1024, s (ix2 R k) * w (ix2 (⟨1024 + k.val, by omega⟩ : Fin 2048) q) := by
  have hl : ∀ k, lidx_main_v3 (ix2 R q) k = ix2 R k := fun k => funext fun a => match a with
    | ⟨0, _⟩ => rfl
    | ⟨1, _⟩ => rfl
  have hr : ∀ k, ridx_main_v3 (ix2 R q) k = ix2 k q := fun k => funext fun a => match a with
    | ⟨0, _⟩ => rfl
    | ⟨1, _⟩ => rfl
  rw [val_main_v3_apply]
  simp only [hl, hr]
  rw [Fin.sum_univ_two_halves 1024 1024 rfl]
  refine congrArg₂ (· + ·) (Finset.sum_congr rfl fun k _ => congrArg (· * _) (joined_lo y s R k)) (Finset.sum_congr rfl fun k _ => congrArg (· * _) (joined_hi y s R k))

/-- The row at a sample and a position. -/
theorem idx_in (R : Fin 33792) (q : Fin 1024) : idx_main_v5 (ix3 (sample R) (place R) q) = ix2 R q := funext fun a => by
  have := R.isLt
  have := q.isLt
  match a with
  | ⟨0, _⟩ => exact Fin.ext (by show ((R.val / 8448 * 8448 + R.val % 8448) * 1024 + q.val) / 1024 = R.val; omega)
  | ⟨1, _⟩ => exact Fin.ext (by show ((R.val / 8448 * 8448 + R.val % 8448) * 1024 + q.val) % 1024 = q.val; omega)

/-- The residual on the image's tokens, over any product. -/
def image (P x : FVec Ideal S33792x1024 .f32) (v : FVec Ideal S4x16x1024 .f32) : FVec Ideal S4x8192x1024 .f32 :=
  addf (val_main_v6 (F := Ideal) x) (mulf (val_main_v9 (F := Ideal) v) (val_main_v6 (F := Ideal) P))

/-- The residual on the context's tokens, over any product. -/
def context (P x : FVec Ideal S33792x1024 .f32) (v : FVec Ideal S4x16x1024 .f32) : FVec Ideal S4x256x1024 .f32 :=
  addf (val_main_v12 (F := Ideal) x) (mulf (val_main_v15 (F := Ideal) v) (val_main_v12 (F := Ideal) P))

/-- The two together, row after row. -/
def both (P x : FVec Ideal S33792x1024 .f32) (v : FVec Ideal S4x16x1024 .f32) : FVec Ideal S33792x1024 .f32 :=
  shapeCast S33792x1024 (concatenate S4x8448x1024 1 [⟨S4x8192x1024, image P x v⟩, ⟨S4x256x1024, context P x v⟩]
    concatenates_S4x8192x1024_S4x256x1024_S4x8448x1024_d1) shapeCasts_S4x8448x1024_S33792x1024

variable (P : FVec Ideal S33792x1024 .f32)

/-- Its entries on the image's tokens. -/
theorem image_apply (R : Fin 33792) (q : Fin 1024) (l : Fin 8192) (hl : l.val = (place R).val) :
    image P x v (ix3 (sample R) l q) = x (ix2 R q) + v (ix3 (sample R) 2 q) * P (ix2 R q) := by
  have e : idx_main_v6 (ix3 (sample R) l q) = ix3 (sample R) (place R) q := funext fun a => match a with
    | ⟨0, _⟩ => rfl
    | ⟨1, _⟩ => Fin.ext hl
    | ⟨2, _⟩ => rfl
  have read : ∀ z : FVec Ideal S33792x1024 .f32, val_main_v6 (F := Ideal) z (ix3 (sample R) l q) = z (ix2 R q) := fun z => by
    rw [val_main_v6_apply, e, val_main_v5_apply]
    exact congrArg z (idx_in R q)
  show val_main_v6 (F := Ideal) x _ + val_main_v9 (F := Ideal) v _ * val_main_v6 (F := Ideal) P _ = _
  rw [read x, read P, val_main_v9_apply, val_main_v7_apply]
  refine congrArg (fun i => x (ix2 R q) + v i * P (ix2 R q)) (funext fun a => match a with
    | ⟨0, _⟩ => rfl
    | ⟨1, _⟩ => rfl
    | ⟨2, _⟩ => rfl)

/-- Its entries on the context's tokens. -/
theorem context_apply (R : Fin 33792) (q : Fin 1024) (l : Fin 256) (hl : 8192 + l.val = (place R).val) :
    context P x v (ix3 (sample R) l q) = x (ix2 R q) + v (ix3 (sample R) 10 q) * P (ix2 R q) := by
  have e : idx_main_v12 (ix3 (sample R) l q) = ix3 (sample R) (place R) q := funext fun a => match a with
    | ⟨0, _⟩ => rfl
    | ⟨1, _⟩ => Fin.ext hl
    | ⟨2, _⟩ => rfl
  have read : ∀ z : FVec Ideal S33792x1024 .f32, val_main_v12 (F := Ideal) z (ix3 (sample R) l q) = z (ix2 R q) := fun z => by
    rw [val_main_v12_apply, e, val_main_v5_apply]
    exact congrArg z (idx_in R q)
  show val_main_v12 (F := Ideal) x _ + val_main_v15 (F := Ideal) v _ * val_main_v12 (F := Ideal) P _ = _
  rw [read x, read P, val_main_v15_apply, val_main_v13_apply]
  refine congrArg (fun i => x (ix2 R q) + v i * P (ix2 R q)) (funext fun a => match a with
    | ⟨0, _⟩ => rfl
    | ⟨1, _⟩ => rfl
    | ⟨2, _⟩ => rfl)

/-- Every row's residual takes its gate by its place. -/
theorem both_apply (R : Fin 33792) (q : Fin 1024) :
    both P x v (ix2 R q) = x (ix2 R q) + pick (fun b i q => v (ix3 b i q)) 2 R q * P (ix2 R q) := by
  unfold both
  refine (shapeCast_apply _ _ _ (ix3 (sample R) (place R) q) ?_).trans ?_
  · rw [Shape.rowMajor_val_three, Shape.rowMajor_val_two]
    have := R.isLt
    show (R.val / 8448 * 8448 + R.val % 8448) * 1024 + q.val = R.val * 1024 + q.val
    omega
  unfold pick
  have hp := (place R).isLt
  by_cases h : Ctx R
  · have h' : 8192 ≤ (place R).val := h
    obtain ⟨l, hl⟩ : ∃ l : Fin 256, 8192 + l.val = (place R).val := ⟨⟨(place R).val - 8192, by omega⟩, Nat.add_sub_of_le h'⟩
    rw [if_pos h]
    refine (concatenate_pair_apply_right (s₁ := S4x8192x1024) (s₂ := S4x256x1024) 1 (image P x v) (context P x v) _ (ix3 (sample R) (place R) q) rfl rfl
      (ix3 (sample R) l q) (fun b hb => match b with
        | ⟨0, _⟩ => rfl
        | ⟨1, _⟩ => absurd rfl hb
        | ⟨2, _⟩ => rfl) ((Nat.add_comm _ _).trans hl)).trans ?_
    exact context_apply x v P R q l hl
  · have h' : (place R).val < 8192 := Nat.lt_of_not_le h
    rw [if_neg h]
    refine (concatenate_pair_apply_left (s₁ := S4x8192x1024) (s₂ := S4x256x1024) 1 (image P x v) (context P x v) _ (ix3 (sample R) (place R) q) rfl
      (ix3 (sample R) (⟨(place R).val, h'⟩ : Fin 8192) q) fun b => match b with
        | ⟨0, _⟩ => rfl
        | ⟨1, _⟩ => rfl
        | ⟨2, _⟩ => rfl).trans ?_
    exact image_apply x v P R q _ rfl

/-- The reference's result is every token's gated residual. -/
theorem result : val_main_v19 (F := Ideal) y s w x v = Kernel4Ideal.OutProj.result y s w x v := by
  funext j
  obtain ⟨R, q, rfl⟩ : ∃ (R : Fin 33792) (q : Fin 1024), j = ix2 R q := ⟨j 0, j 1, funext fun a => match a with
    | ⟨0, _⟩ => rfl
    | ⟨1, _⟩ => rfl⟩
  have e : val_main_v19 (F := Ideal) y s w x v = both (val_main_v3 (F := Ideal) y s w) x v := rfl
  rw [e, both_apply, product_apply]
  rfl

end Cert.Reference4Ideal.OutProj

end
-- ==== Proof.EvenProj.lean ====
/- The even layers' input projection: the rows' norm and modulation, and the body's blocks entry by entry. -/
module

public import proofs.«01_k».proof.Proof.OutProjRef
public import proofs.«01_k».proof.Proof.Gen.Kernel3Ideal.Frame
public import Idealize.ShloMosaic.Lib.Pipeline.ReadBack

@[expose] public section

set_option maxRecDepth 16384

noncomputable section

namespace Cert.Samples

open Idealize.ShloMosaic

/-- A row over its root mean square, with the gain. -/
def normed (x g : Fin 1024 → EReal) (q : Fin 1024) : EReal :=
  x q * Ideal.rsqrt (Ideal.div (∑ k, x k * x k) (Ideal.ofBits .f32 0x44800000#32) + Ideal.ofBits .f32 0x358637BD#32) * g q

/-- The same scaled and shifted by the modulation table's rows. -/
def modulated (x : Fin 33792 → Fin 1024 → EReal) (g : Fin 1024 → EReal) (mod : Fin 4 → Fin 16 → Fin 1024 → EReal) (R : Fin 33792) (q : Fin 1024) : EReal :=
  normed (x R) g q * (Ideal.ofBits .f32 0x3F800000#32 + pick mod 1 R q) + pick mod 0 R q

end Cert.Samples

namespace Cert.Kernel3Ideal.EvenProj

open Cert.Kernel3Ideal Cert.Kernel3Ideal.Gen Cert.Samples
open Idealize.ShloMosaic Idealize.ShloMosaic.TcCoe Idealize.SL.Sem

/-- The body's normed rows. -/
theorem norm_apply (x : Vec Ideal S768x1024 .f32) (g : Vec Ideal S1x1024 .f32) (r : Fin 768) (q : Fin 1024) :
    k0_pay4 x g (ix2 r q) = normed (fun k => x (ix2 r k)) (fun k => g (ix2 0 k)) q := by
  pointwise [k0_pay4]
  rfl

/-- The rows the body keeps, from the blocks it reads. -/
def kept (a : BitVec 32) (x : Vec Ideal S768x1024 .f32) (g : Vec Ideal S1x1024 .f32) (v : Vec Ideal S1x16x1024 .f32) : FVec Ideal S768x1024 .bf16 :=
  k0_pay1 (k0_pay3 a) (k0_pay4 x g) (k0_pay5 v) (k0_pay6 a v)

/-- They are modulated by the block's table, by the rows' own test. -/
theorem kept_apply (a : BitVec 32) (x : Vec Ideal S768x1024 .f32) (g : Vec Ideal S1x1024 .f32) (v : Vec Ideal S1x16x1024 .f32) (r : Fin 768) (q : Fin 1024) :
    kept a x g v (ix2 r q) = normed (fun k => x (ix2 r k)) (fun k => g (ix2 0 k)) q
        * (Ideal.ofBits .f32 0x3F800000#32
          + (if Scalar.cmpi .sge (Scalar.addi (Scalar.muli (tileWord a) 768#32) (BitVec.ofNat 32 r.val)) 8192#32 = 1#1
            then v (ix3 0 9 q) else v (ix3 0 1 q)))
      + (if Scalar.cmpi .sge (Scalar.addi (Scalar.muli (tileWord a) 768#32) (BitVec.ofNat 32 r.val)) 8192#32 = 1#1
          then v (ix3 0 8 q) else v (ix3 0 0 q)) := by
  unfold kept
  rw [← norm_apply]
  generalize k0_pay4 x g = n
  pointwise [k0_pay1, k0_pay3, k0_pay5, k0_pay6]
  rfl

/-- The product of the kept rows with a block of the weights. -/
theorem product_apply (h : Vec Ideal S768x1024 .bf16) (w : Vec Ideal S1024x1280 .bf16) (r : Fin 768) (n : Fin 1280) :
    k0_pay2 h w (ix2 r n) = ∑ k : Fin 1024, h (ix2 r k) * w (ix2 k n) := by
  pointwise [k0_pay2]

variable (m : (ℓ : Loc nD τ sig) → Buf (Elt Ideal) ℓ) (c : Dev nD)

/-- The coordinates of a point. -/
theorem coord_row : ∀ t : Fin grid0.N, ((grid0.coords t) 0).val = t.val / 5 := by decide +kernel

/-- The blocks the windows hold at a point. -/
theorem idx : ∀ t : Fin cfg0.N, win0_0.index t = ![t.val / 5, 0] ∧ win0_1.index t = ![0, 0] ∧ win0_2.index t = ![t.val / 55, 0, 0]
    ∧ win0_3.index t = ![0, t.val % 5] ∧ win0_4.index t = ![t.val / 5, t.val % 5] := by decide +kernel

/-- At the first point of a block of rows the body keeps the rows. -/
theorem kept_A (t : Fin cfg0.N) (h : t.val % 5 = 0) : (outsAt0 m c t.val t.isLt).2
    = kept (BitVec.ofNat 32 ((grid0.coords t) 0).val) (iblk m c 0 t) (iblk m c 1 t) (iblk m c 2 t) := by
  rw [outsAt0_A m c t h]
  frame_out
  rfl

/-- And it writes their product. -/
theorem out_A (t : Fin cfg0.N) (h : t.val % 5 = 0) : (outsAt0 m c t.val t.isLt).1
    = k0_pay2 (outsAt0 m c t.val t.isLt).2 (iblk m c 3 t) := by
  rw [kept_A m c t h, outsAt0_A m c t h]
  frame_out
  rfl

/-- At the other points it keeps what it had. -/
theorem kept_B (t : Fin cfg0.N) (h : ¬t.val % 5 = 0) : (outsAt0 m c t.val t.isLt).2
    = (outsAt0 m c (t.val - 1) (Nat.lt_of_le_of_lt (Nat.sub_le _ _) t.isLt)).2 := by
  rw [outsAt0_B m c t h]
  rfl

/-- And it writes the product of that. -/
theorem out_B (t : Fin cfg0.N) (h : ¬t.val % 5 = 0) : (outsAt0 m c t.val t.isLt).1
    = k0_pay2 (outsAt0 m c t.val t.isLt).2 (iblk m c 3 t) := by
  rw [kept_B m c t h, outsAt0_B m c t h]
  frame_out
  simp only [read_unread_whole]

/-- The rows. -/
abbrev xs : FVec Ideal S33792x1024 .f32 := m ((c : Thread nD τ).loc main_arg0)
/-- The gain. -/
abbrev gs : FVec Ideal S1024 .f32 := m ((c : Thread nD τ).loc main_arg1)
/-- The modulation table. -/
abbrev mods : FVec Ideal S4x16x1024 .f32 := m ((c : Thread nD τ).loc main_arg2)
/-- The weights. -/
abbrev ws : FVec Ideal S1024x6400 .bf16 := m ((c : Thread nD τ).loc main_arg3)

/-- The modulated rows as a function of the arguments. -/
def rowsOf (x : FVec Ideal S33792x1024 .f32) (g : FVec Ideal S1024 .f32) (v : FVec Ideal S4x16x1024 .f32) : Fin 33792 → Fin 1024 → EReal :=
  modulated (fun R q => x (ix2 R q)) (fun q => g (ix1 q)) (fun b i q => v (ix3 b i q))

/-- The result array as a function of the arguments. -/
def result (x : FVec Ideal S33792x1024 .f32) (g : FVec Ideal S1024 .f32) (v : FVec Ideal S4x16x1024 .f32) (w : FVec Ideal S1024x6400 .bf16) :
    FVec Ideal S33792x6400 .f32 := fun j => ∑ k : Fin 1024, rowsOf x g v (j 0) k * w (ix2 k (j 1))

/-- The gain as the host line before the grid lays it out. -/
theorem gain_row (q : Fin 1024) : V m c main_v0 (ix2 0 q) = gs m c (ix1 q) := by
  have h : V m c main_v0 = shapeCast S1x1024 (gs m c) shapeCasts_S1024_S1x1024 := by
    unfold V hostOps0
    after_results_simp <;> rfl
  rw [h]
  refine shapeCast_apply (s := S1024) _ _ _ _ ?_
  rw [Shape.rowMajor_val_one, Shape.rowMajor_val_two]
  show q.val = 0 * 1024 + q.val
  omega

variable (t : Fin cfg0.N) (r : Fin 768) (R : Fin 33792) (hR : R.val = t.val / 5 * 768 + r.val)

include hR in
/-- The rows' block. -/
theorem blk_x (k : Fin 1024) : (iblk m c 0 t : FVec Ideal S768x1024 .f32) (ix2 r k) = xs m c (ix2 R k) := by
  have h : t.val / 5 * 768 + r.val < 33792 := hR ▸ R.2
  obtain rfl : R = ⟨t.val / 5 * 768 + r.val, h⟩ := Fin.ext hR
  refine Eq.trans ?_ (congrFun (V_main_arg0 m c) _)
  blk_ext [iblk, idx t]

/-- The gain's block is all of it. -/
theorem blk_g (q : Fin 1024) : (iblk m c 1 t : FVec Ideal S1x1024 .f32) (ix2 0 q) = gs m c (ix1 q) := by
  refine Eq.trans ?_ (gain_row m c q)
  blk_ext [iblk, idx t]

include hR in
/-- The modulation table's block is the row's sample's. -/
theorem blk_m (i : Fin 16) (q : Fin 1024) : (iblk m c 2 t : FVec Ideal S1x16x1024 .f32) (ix3 0 i q) = mods m c (ix3 (sample R) i q) := by
  have hs : t.val / 55 = (sample R).val := by show _ = R.val / 8448; omega
  generalize sample R = b at hs
  have h : t.val / 55 < 4 := hs ▸ b.2
  obtain rfl : b = ⟨t.val / 55, h⟩ := Fin.ext hs.symm
  refine Eq.trans ?_ (congrFun (V_main_arg2 m c) _)
  blk_ext [iblk, idx t]

/-- The weights' block is a stretch of columns. -/
theorem blk_w (k : Fin 1024) (n : Fin 1280) (N : Fin 6400) (hN : N.val = t.val % 5 * 1280 + n.val) :
    (iblk m c 3 t : FVec Ideal S1024x1280 .bf16) (ix2 k n) = ws m c (ix2 k N) := by
  have h : t.val % 5 * 1280 + n.val < 6400 := hN ▸ N.2
  obtain rfl : N = ⟨t.val % 5 * 1280 + n.val, h⟩ := Fin.ext hN
  refine Eq.trans ?_ (congrFun (V_main_arg3 m c) _)
  blk_ext [iblk, idx t]

include hR in
/-- The place of a block's entry in the result. -/
theorem emb_o (n : Fin 1280) (N : Fin 6400) (hN : N.val = t.val % 5 * 1280 + n.val) :
    ((win0_4.blk t).view.emb (ix2 r n) : S33792x6400.Idx) = ix2 R N := by
  have h : t.val / 5 * 768 + r.val < 33792 := hR ▸ R.2
  obtain rfl : R = ⟨t.val / 5 * 768 + r.val, h⟩ := Fin.ext hR
  have h' : t.val % 5 * 1280 + n.val < 6400 := hN ▸ N.2
  obtain rfl : N = ⟨t.val % 5 * 1280 + n.val, h'⟩ := Fin.ext hN
  blk_ext [iblk, idx t]

include hR in
/-- The rows kept at the first point of a block of rows are the modulated ones. -/
theorem kept_first (h : t.val % 5 = 0) (q : Fin 1024) :
    (outsAt0 m c t.val t.isLt).2 (ix2 r q) = rowsOf (xs m c) (gs m c) (mods m c) R q := by
  have ht : t.val < 220 := lt_of_lt_of_eq t.isLt N_0
  rw [kept_A m c t h, kept_apply, coord_row t, test_eq ⟨t.val / 5, by omega⟩ r R hR]
  simp only [blk_x m c t r R hR, blk_g m c t, blk_m m c t r R hR]
  unfold rowsOf modulated pick
  by_cases h : Ctx R
  · rw [if_pos h, if_pos h, if_pos h, if_pos rfl, if_pos rfl]; rfl
  · rw [if_neg h, if_neg h, if_neg h, if_neg (by decide), if_neg (by decide)]; rfl

end Cert.Kernel3Ideal.EvenProj

namespace Cert.Kernel3Ideal.EvenProj

open Cert.Kernel3Ideal Cert.Kernel3Ideal.Gen Cert.Samples
open Idealize.ShloMosaic Idealize.ShloMosaic.TcCoe Idealize.SL.Sem

variable (m : (ℓ : Loc nD τ sig) → Buf (Elt Ideal) ℓ) (c : Dev nD)

/-- And so at every point of that block. -/
theorem kept_rows (n : ℕ) : ∀ (h : n < cfg0.N) (r : Fin 768) (R : Fin 33792), R.val = n / 5 * 768 + r.val → ∀ q : Fin 1024,
    (outsAt0 m c n h).2 (ix2 r q) = rowsOf (xs m c) (gs m c) (mods m c) R q := by
  induction n with
  | zero => exact fun h r R hR q => kept_first m c ⟨0, h⟩ r R hR rfl q
  | succ n ih => exact fun h r R hR q =>
      if h5 : (n + 1) % 5 = 0 then kept_first m c ⟨n + 1, h⟩ r R hR h5 q
      else (congrFun (kept_B m c ⟨n + 1, h⟩ h5) _).trans (ih (Nat.lt_of_succ_lt h) r R (by omega) q)

/-- The block a point writes. -/
theorem out_eq (t : Fin cfg0.N) : (outsAt0 m c t.val t.isLt).1 = k0_pay2 (outsAt0 m c t.val t.isLt).2 (iblk m c 3 t) :=
  if h : t.val % 5 = 0 then out_A m c t h else out_B m c t h

/-- The result's blocks cover its array. -/
theorem covers : (cfg0.win 4).Covers :=
  (cfg0.win 4).covers_of_index_surj rfl (by decide) fun β => by
    have h0 : (β ⟨0, by decide⟩).val < 44 := lt_of_lt_of_eq (β ⟨0, by decide⟩).isLt (by decide : (cfg0.win 4).nblk ⟨0, by decide⟩ = 44)
    have h1 : (β ⟨1, by decide⟩).val < 5 := lt_of_lt_of_eq (β ⟨1, by decide⟩).isLt (by decide : (cfg0.win 4).nblk ⟨1, by decide⟩ = 5)
    have ht : (β ⟨0, by decide⟩).val * 5 + (β ⟨1, by decide⟩).val < cfg0.N := lt_of_lt_of_eq (by omega : _ < 220) N_0.symm
    refine ⟨⟨_, ht⟩, fun a => ?_⟩
    refine (congrFun (idx ⟨_, ht⟩).2.2.2.2 a).trans ?_
    match a with
    | ⟨0, _⟩ => show ((β ⟨0, by decide⟩).val * 5 + (β ⟨1, by decide⟩).val) / 5 = (β ⟨0, by decide⟩).val; omega
    | ⟨1, _⟩ => show ((β ⟨0, by decide⟩).val * 5 + (β ⟨1, by decide⟩).val) % 5 = (β ⟨1, by decide⟩).val; omega

/-- After the grid the result array holds the product of all the modulated rows with all the weights. -/
theorem out_whole : (dats m 0 c).arrAt 4 cfg0.N = result (xs m c) (gs m c) (mods m c) (ws m c) := by
  refine (dats m 0 c).arrAt_eq_of_covers 4 _ covers fun t hf y => ?_
  blk_simp
  rw [after0_4]
  obtain ⟨r, n, rfl⟩ : ∃ (r : Fin 768) (n : Fin 1280), y = ix2 r n := ⟨y 0, y 1, by blk_ext [iblk, idx t]⟩
  have ht : t.val < 220 := lt_of_lt_of_eq t.isLt N_0
  obtain ⟨R, hR⟩ : ∃ R : Fin 33792, R.val = t.val / 5 * 768 + r.val := ⟨⟨t.val / 5 * 768 + r.val, by omega⟩, rfl⟩
  obtain ⟨N, hN⟩ : ∃ N : Fin 6400, N.val = t.val % 5 * 1280 + n.val := ⟨⟨t.val % 5 * 1280 + n.val, by omega⟩, rfl⟩
  rw [emb_o t r R hR n N hN, out_eq]
  refine (product_apply _ (iblk m c 3 t) r n).trans ?_
  exact Finset.sum_congr rfl fun k _ => congrArg₂ (· * ·) (kept_rows m c t.val t.isLt r R hR k) (blk_w m c t k n N hN)

/-- The kernel's run with its result array read: the modulated rows' projection, the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = result (xs m c) (gs m c) (mods m c) (ws m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).1 4).trans (out_whole m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Kernel3Ideal.EvenProj

end
-- ==== Proof.EvenProjRef.lean ====
/- The even layers' input projection's reference, entry by entry. -/
module

public import proofs.«01_k».proof.Proof.EvenProj
public import proofs.«01_k».proof.Proof.Gen.Reference3Ideal.Read

@[expose] public section

set_option maxRecDepth 16384

noncomputable section

namespace Cert.Reference3Ideal.EvenProj

open Cert.Reference3Ideal Cert.Reference3Ideal.Gen Cert.Reference3Ideal.Read Cert.Samples
open Idealize.ShloMosaic Idealize.SL.Sem

variable (x : FVec Ideal S33792x1024 .f32) (g : FVec Ideal S1024 .f32) (v : FVec Ideal S4x16x1024 .f32) (w : FVec Ideal S1024x6400 .bf16)

/-- A row's place in the table of samples and positions. -/
theorem idx_out (R : Fin 33792) (n : Fin 6400) : idx_main_v35 (ix2 R n) = ix3 (sample R) (place R) n := funext fun a => by
  have := R.isLt
  have := n.isLt
  match a with
  | ⟨0, _⟩ => exact Fin.ext (by show (R.val * 6400 + n.val) / 54067200 = R.val / 8448; omega)
  | ⟨1, _⟩ => exact Fin.ext (by show (R.val * 6400 + n.val) / 6400 % 8448 = R.val % 8448; omega)
  | ⟨2, _⟩ => exact Fin.ext (by show (R.val * 6400 + n.val) % 6400 = n.val; omega)

/-- The row at a sample and a position. -/
theorem row_apply (R : Fin 33792) (q : Fin 1024) : val_main_v0 (F := Ideal) x (ix3 (sample R) (place R) q) = x (ix2 R q) := by
  rw [val_main_v0_apply]
  refine congrArg x (funext fun a => ?_)
  have := R.isLt
  have := q.isLt
  match a with
  | ⟨0, _⟩ => exact Fin.ext (by show ((R.val / 8448 * 8448 + R.val % 8448) * 1024 + q.val) / 1024 = R.val; omega)
  | ⟨1, _⟩ => exact Fin.ext (by show ((R.val / 8448 * 8448 + R.val % 8448) * 1024 + q.val) % 1024 = q.val; omega)

/-- The sum of a row's squares. -/
theorem squares_apply (R : Fin 33792) : val_main_v2 (F := Ideal) x (ix2 (sample R) (place R)) = ∑ k : Fin 1024, x (ix2 R k) * x (ix2 R k) := by
  rw [val_main_v2_apply]
  refine (congrArg (· + _) Ideal.ofBits_zero_f32).trans ((zero_add _).trans (Finset.sum_congr rfl fun k _ => ?_))
  have e : idx_main_v2 (ix2 (sample R) (place R)) k = ix3 (sample R) (place R) k := funext fun a => match a with
    | ⟨0, _⟩ => rfl
    | ⟨1, _⟩ => rfl
    | ⟨2, _⟩ => rfl
  rw [e, val_main_v1_apply, row_apply]
  rfl

/-- The normed row. -/
theorem norm_apply (R : Fin 33792) (q : Fin 1024) : val_main_v13 (F := Ideal) x g (ix3 (sample R) (place R) q)
    = normed (fun k => x (ix2 R k)) (fun k => g (ix1 k)) q := by
  have e : idx_main_v3 (idx_main_v9 (ix3 (sample R) (place R) q)) = ix2 (sample R) (place R) := funext fun a => match a with
    | ⟨0, _⟩ => rfl
    | ⟨1, _⟩ => rfl
  have e' : idx_main_v11 (idx_main_v12 (ix3 (sample R) (place R) q)) = ix1 q := funext fun a => match a with
    | ⟨0, _⟩ => rfl
  rw [val_main_v13_apply, val_main_v10_apply, val_main_v9_apply, val_main_v8_apply, val_main_v7_apply, val_main_v5_apply, val_main_v3_apply,
    val_main_v12_apply, val_main_v11_apply, row_apply, e, e', squares_apply]
  rfl

/-- The modulated row on the image's tokens. -/
theorem image_apply (R : Fin 33792) (q : Fin 1024) (l : Fin 8192) (hl : l.val = (place R).val) :
    val_main_v22 (F := Ideal) x g v (ix3 (sample R) l q)
      = normed (fun k => x (ix2 R k)) (fun k => g (ix1 k)) q * (Ideal.ofBits .f32 0x3F800000#32 + v (ix3 (sample R) 1 q)) + v (ix3 (sample R) 0 q) := by
  have e : idx_main_v14 (ix3 (sample R) l q) = ix3 (sample R) (place R) q := funext fun a => match a with
    | ⟨0, _⟩ => rfl
    | ⟨1, _⟩ => Fin.ext hl
    | ⟨2, _⟩ => rfl
  rw [val_main_v22_apply, val_main_v20_apply, val_main_v14_apply, val_main_v19_apply, val_main_v18_apply, val_main_v16_apply,
    val_main_v21_apply, val_main_v15_apply, e, norm_apply]
  refine congrArg₂ (fun i j => normed (fun k => x (ix2 R k)) (fun k => g (ix1 k)) q * (Ideal.ofBits .f32 0x3F800000#32 + v i) + v j)
    (funext fun a => match a with
    | ⟨0, _⟩ => rfl
    | ⟨1, _⟩ => rfl
    | ⟨2, _⟩ => rfl) (funext fun a => match a with
    | ⟨0, _⟩ => rfl
    | ⟨1, _⟩ => rfl
    | ⟨2, _⟩ => rfl)

/-- The modulated row on the context's tokens. -/
theorem context_apply (R : Fin 33792) (q : Fin 1024) (l : Fin 256) (hl : 8192 + l.val = (place R).val) :
    val_main_v31 (F := Ideal) x g v (ix3 (sample R) l q)
      = normed (fun k => x (ix2 R k)) (fun k => g (ix1 k)) q * (Ideal.ofBits .f32 0x3F800000#32 + v (ix3 (sample R) 9 q)) + v (ix3 (sample R) 8 q) := by
  have e : idx_main_v23 (ix3 (sample R) l q) = ix3 (sample R) (place R) q := funext fun a => match a with
    | ⟨0, _⟩ => rfl
    | ⟨1, _⟩ => Fin.ext hl
    | ⟨2, _⟩ => rfl
  rw [val_main_v31_apply, val_main_v29_apply, val_main_v23_apply, val_main_v28_apply, val_main_v27_apply, val_main_v25_apply,
    val_main_v30_apply, val_main_v24_apply, e, norm_apply]
  refine congrArg₂ (fun i j => normed (fun k => x (ix2 R k)) (fun k => g (ix1 k)) q * (Ideal.ofBits .f32 0x3F800000#32 + v i) + v j)
    (funext fun a => match a with
    | ⟨0, _⟩ => rfl
    | ⟨1, _⟩ => rfl
    | ⟨2, _⟩ => rfl) (funext fun a => match a with
    | ⟨0, _⟩ => rfl
    | ⟨1, _⟩ => rfl
    | ⟨2, _⟩ => rfl)

/-- The image's and the context's rows together. -/
theorem rows_apply (R : Fin 33792) (q : Fin 1024) : val_main_v32 (F := Ideal) x g v (ix3 (sample R) (place R) q)
    = Kernel3Ideal.EvenProj.rowsOf x g v R q := by
  unfold Kernel3Ideal.EvenProj.rowsOf modulated pick val_main_v32
  have hp := (place R).isLt
  by_cases h : Ctx R
  · have h' : 8192 ≤ (place R).val := h
    obtain ⟨l, hl⟩ : ∃ l : Fin 256, 8192 + l.val = (place R).val := ⟨⟨(place R).val - 8192, by omega⟩, Nat.add_sub_of_le h'⟩
    rw [if_pos h, if_pos h]
    refine (concatenate_pair_apply_right (s₁ := S4x8192x1024) (s₂ := S4x256x1024) 1 (val_main_v22 (F := Ideal) x g v) (val_main_v31 (F := Ideal) x g v) _ (ix3 (sample R) (place R) q) rfl rfl
      (ix3 (sample R) l q) (fun b hb => match b with
        | ⟨0, _⟩ => rfl
        | ⟨1, _⟩ => absurd rfl hb
        | ⟨2, _⟩ => rfl) ((Nat.add_comm _ _).trans hl)).trans ?_
    exact context_apply x g v R q l hl
  · have h' : (place R).val < 8192 := Nat.lt_of_not_le h
    rw [if_neg h, if_neg h]
    refine (concatenate_pair_apply_left (s₁ := S4x8192x1024) (s₂ := S4x256x1024) 1 (val_main_v22 (F := Ideal) x g v) (val_main_v31 (F := Ideal) x g v) _ (ix3 (sample R) (place R) q) rfl
      (ix3 (sample R) (⟨(place R).val, h'⟩ : Fin 8192) q) fun b => match b with
        | ⟨0, _⟩ => rfl
        | ⟨1, _⟩ => rfl
        | ⟨2, _⟩ => rfl).trans ?_
    exact image_apply x g v R q _ rfl

/-- The reference's result is the modulated rows' projection. -/
theorem result : val_main_v35 (F := Ideal) x g v w = Kernel3Ideal.EvenProj.result x g v w := by
  funext j
  obtain ⟨R, n, rfl⟩ : ∃ (R : Fin 33792) (n : Fin 6400), j = ix2 R n := ⟨j 0, j 1, funext fun a => match a with
    | ⟨0, _⟩ => rfl
    | ⟨1, _⟩ => rfl⟩
  have hl : ∀ k, lidx_main_v34 (ix3 (sample R) (place R) n) k = ix3 (sample R) (place R) k := fun k => funext fun a => match a with
    | ⟨0, _⟩ => rfl
    | ⟨1, _⟩ => rfl
    | ⟨2, _⟩ => rfl
  have hr : ∀ k, ridx_main_v34 (ix3 (sample R) (place R) n) k = ix2 k n := fun k => funext fun a => match a with
    | ⟨0, _⟩ => rfl
    | ⟨1, _⟩ => rfl
  rw [val_main_v35_apply, idx_out, val_main_v34_apply]
  refine Finset.sum_congr rfl fun k _ => ?_
  rw [hl, hr, rows_apply]
  rfl

end Cert.Reference3Ideal.EvenProj

end
-- ==== Proof.OddProj.lean ====
/- The output projection with its gated residual (odd layers): the body's block, entry by entry. -/
module

public import proofs.«01_k».proof.Proof.EvenProjRef
public import proofs.«01_k».proof.Proof.Gen.Kernel5Ideal.Frame
public import Idealize.ShloMosaic.Lib.Pipeline.ValueKit
public import Idealize.ShloMosaic.Lib.Pipeline.Covers

@[expose] public section

set_option maxRecDepth 16384

noncomputable section

namespace Cert.Kernel5Ideal.OddProj

open Cert.Kernel5Ideal Cert.Kernel5Ideal.Gen Cert.Samples
open Idealize.ShloMosaic Idealize.ShloMosaic.TcCoe Idealize.SL.Sem

/-- The gated product of a block. -/
theorem pay_apply (i : grid0.Coords) (v : Vec Ideal S1x16x1024 .f32) (a b : Vec Ideal S768x512 .bf16) (w w' : Vec Ideal S512x1024 .bf16)
    (r : Fin 768) (q : Fin 1024) :
    k0_pay2 i v a w b w' (ix2 r q)
      = (if Scalar.cmpi .sge (Scalar.addi (Scalar.muli (tileWord (BitVec.ofNat 32 (i 0).val)) 768#32) (BitVec.ofNat 32 r.val)) 8192#32 = 1#1
          then v (ix3 0 10 q) else v (ix3 0 2 q)) * (∑ k : Fin 512, a (ix2 r k) * w (ix2 k q) + ∑ k : Fin 512, b (ix2 r k) * w' (ix2 k q)) := by
  pointwise [k0_pay2]
  rfl

/-- The block a point writes, from the blocks it reads. -/
theorem out_apply (i : grid0.Coords) (y s : Vec Ideal S768x512 .bf16) (w : Vec Ideal S1024x1024 .bf16) (x : Vec Ideal S768x1024 .f32)
    (v : Vec Ideal S1x16x1024 .f32) (r : Fin 768) (q : Fin 1024) :
    out0_5 i y s w x v (ix2 r q) = x (ix2 r q)
      + (if Scalar.cmpi .sge (Scalar.addi (Scalar.muli (tileWord (BitVec.ofNat 32 (i 0).val)) 768#32) (BitVec.ofNat 32 r.val)) 8192#32 = 1#1
          then v (ix3 0 10 q) else v (ix3 0 2 q))
        * (∑ k : Fin 512, y (ix2 r k) * w (ix2 (⟨k.val, by omega⟩ : Fin 1024) q)
          + ∑ k : Fin 512, s (ix2 r k) * w (ix2 (⟨512 + k.val, by omega⟩ : Fin 1024) q)) := by
  have z2 : (![0, 0] : Fin 2 → ℕ) = fun _ => 0 := by decide
  have z3 : (![0, 0, 0] : Fin 3 → ℕ) = fun _ => 0 := by decide
  have h0 : ∀ k : Fin 512, View.ld w r0_2 (ix2 k q) = w (ix2 (⟨k.val, by omega⟩ : Fin 1024) q) := fun k =>
    congrArg w (funext fun a => Fin.ext (by
      fin_cases a
      · show 0 + 1 * k.val = k.val; omega
      · show 0 + 1 * q.val = q.val; omega))
  have h1 : ∀ k : Fin 512, View.ld w r0_3 (ix2 k q) = w (ix2 (⟨512 + k.val, by omega⟩ : Fin 1024) q) := fun k =>
    congrArg w (funext fun a => Fin.ext (by
      fin_cases a
      · show 512 + 1 * k.val = 512 + k.val; omega
      · show 0 + 1 * q.val = q.val; omega))
  unfold out0_5
  rw [View.canon_unit_zero z2, View.ld_unit_zero z2, View.ld_unit_zero z3, View.ld_unit_zero z2, View.ld_unit_zero z2]
  show x (ix2 r q) + _ = _
  rw [pay_apply]
  simp only [h0, h1]

/-- The point of a block's number. -/
theorem coord_val : ∀ t : Fin grid0.N, ((grid0.coords t) 0).val = t.val := by decide +kernel

/-- The blocks the windows hold at a point. -/
theorem idx : ∀ t : Fin cfg0.N, win0_0.index t = ![t.val, 0] ∧ win0_1.index t = ![t.val, 0] ∧ win0_2.index t = ![0, 0]
    ∧ win0_3.index t = ![t.val, 0] ∧ win0_4.index t = ![t.val / 11, 0, 0] ∧ win0_5.index t = ![t.val, 0] := by decide +kernel

variable (m : (ℓ : Loc nD τ sig) → Buf (Elt Ideal) ℓ) (c : Dev nD)

/-- The first half of the rows. -/
abbrev ys : FVec Ideal S33792x512 .bf16 := m ((c : Thread nD τ).loc main_arg0)
/-- The second half of the rows. -/
abbrev ss : FVec Ideal S33792x512 .bf16 := m ((c : Thread nD τ).loc main_arg1)
/-- The weights. -/
abbrev ws : FVec Ideal S1024x1024 .bf16 := m ((c : Thread nD τ).loc main_arg2)
/-- The residual rows. -/
abbrev xs : FVec Ideal S33792x1024 .f32 := m ((c : Thread nD τ).loc main_arg3)
/-- The modulation table. -/
abbrev mods : FVec Ideal S4x16x1024 .f32 := m ((c : Thread nD τ).loc main_arg4)

/-- The result array as a function of the arguments. -/
def result (y s : FVec Ideal S33792x512 .bf16) (w : FVec Ideal S1024x1024 .bf16) (x : FVec Ideal S33792x1024 .f32)
    (v : FVec Ideal S4x16x1024 .f32) : FVec Ideal S33792x1024 .f32 := fun j =>
  gated (fun R k => y (ix2 R k)) (fun R k => s (ix2 R k)) (fun k q => w (ix2 (⟨k.val, by omega⟩ : Fin 1024) q))
    (fun k q => w (ix2 (⟨512 + k.val, by omega⟩ : Fin 1024) q)) (fun R q => x (ix2 R q)) (fun b i q => v (ix3 b i q)) (j 0) (j 1)

variable (t : Fin cfg0.N) (r : Fin 768) (R : Fin 33792) (hR : R.val = t.val * 768 + r.val)

include hR in
/-- The first half's block. -/
theorem blk_y (k : Fin 512) : (iblk m c 0 t : FVec Ideal S768x512 .bf16) (ix2 r k) = ys m c (ix2 R k) := by
  have h : t.val * 768 + r.val < 33792 := hR ▸ R.2
  obtain rfl : R = ⟨t.val * 768 + r.val, h⟩ := Fin.ext hR
  blk_ext [iblk, V, idx t]

include hR in
/-- The second half's block. -/
theorem blk_s (k : Fin 512) : (iblk m c 1 t : FVec Ideal S768x512 .bf16) (ix2 r k) = ss m c (ix2 R k) := by
  have h : t.val * 768 + r.val < 33792 := hR ▸ R.2
  obtain rfl : R = ⟨t.val * 768 + r.val, h⟩ := Fin.ext hR
  blk_ext [iblk, V, idx t]

/-- The weights' block is all of them. -/
theorem blk_w (k : Fin 1024) (q : Fin 1024) : (iblk m c 2 t : FVec Ideal S1024x1024 .bf16) (ix2 k q) = ws m c (ix2 k q) := by
  blk_ext [iblk, V, idx t]

include hR in
/-- The residual's block. -/
theorem blk_x (q : Fin 1024) : (iblk m c 3 t : FVec Ideal S768x1024 .f32) (ix2 r q) = xs m c (ix2 R q) := by
  have h : t.val * 768 + r.val < 33792 := hR ▸ R.2
  obtain rfl : R = ⟨t.val * 768 + r.val, h⟩ := Fin.ext hR
  blk_ext [iblk, V, idx t]

include hR in
/-- The modulation table's block is the row's sample's. -/
theorem blk_m (i : Fin 16) (q : Fin 1024) : (iblk m c 4 t : FVec Ideal S1x16x1024 .f32) (ix3 0 i q) = mods m c (ix3 (sample R) i q) := by
  have hs : t.val / 11 = (sample R).val := by show _ = R.val / 8448; omega
  generalize sample R = b at hs
  have h : t.val / 11 < 4 := hs ▸ b.2
  obtain rfl : b = ⟨t.val / 11, h⟩ := Fin.ext hs.symm
  blk_ext [iblk, V, idx t]

include hR in
/-- The place of a block's entry in the result. -/
theorem emb_o (q : Fin 1024) : ((win0_5.blk t).view.emb (ix2 r q) : S33792x1024.Idx) = ix2 R q := by
  have h : t.val * 768 + r.val < 33792 := hR ▸ R.2
  obtain rfl : R = ⟨t.val * 768 + r.val, h⟩ := Fin.ext hR
  blk_ext [iblk, V, idx t]

/-- The result's blocks cover its array. -/
theorem covers : (cfg0.win 5).Covers :=
  (cfg0.win 5).covers_of_index_surj rfl (by decide) fun β => by
    have h0 : (β ⟨0, by decide⟩).val < 44 := lt_of_lt_of_eq (β ⟨0, by decide⟩).isLt (by decide : (cfg0.win 5).nblk ⟨0, by decide⟩ = 44)
    have h1 : (β ⟨1, by decide⟩).val < 1 := lt_of_lt_of_eq (β ⟨1, by decide⟩).isLt (by decide : (cfg0.win 5).nblk ⟨1, by decide⟩ = 1)
    refine ⟨⟨_, lt_of_lt_of_eq h0 N_0.symm⟩, fun a => ?_⟩
    refine (congrFun (idx ⟨_, lt_of_lt_of_eq h0 N_0.symm⟩).2.2.2.2.2 a).trans ?_
    match a with
    | ⟨0, _⟩ => rfl
    | ⟨1, _⟩ => show 0 = (β ⟨1, by decide⟩).val; omega

/-- After the grid the result array holds every token's gated residual. -/
theorem out_whole : (dats m 0 c).arrAt 5 cfg0.N = result (ys m c) (ss m c) (ws m c) (xs m c) (mods m c) := by
  refine (dats m 0 c).arrAt_eq_of_covers 5 _ covers fun t hf y => ?_
  blk_simp
  rw [after0_5]
  obtain ⟨r, q, rfl⟩ : ∃ (r : Fin 768) (q : Fin 1024), y = ix2 r q := ⟨y 0, y 1, by blk_ext [iblk, V, idx t]⟩
  have ht : t.val < 44 := lt_of_lt_of_eq t.isLt N_0
  obtain ⟨R, hR⟩ : ∃ R : Fin 33792, R.val = t.val * 768 + r.val := ⟨⟨t.val * 768 + r.val, by omega⟩, rfl⟩
  rw [emb_o t r R hR q]
  refine (out_apply _ (iblk m c 0 t) (iblk m c 1 t) (iblk m c 2 t) (iblk m c 3 t) (iblk m c 4 t) r q).trans ?_
  rw [coord_val t, test_eq ⟨t.val, ht⟩ r R hR, blk_x m c t r R hR, blk_m m c t r R hR, blk_m m c t r R hR]
  simp only [blk_y m c t r R hR, blk_s m c t r R hR, blk_w m c t]
  show _ = gated _ _ _ _ _ _ R q
  unfold gated pick
  by_cases h : Ctx R
  · rw [if_pos h, if_pos h, if_pos rfl]; rfl
  · rw [if_neg h, if_neg h, if_neg (by decide)]; rfl

/-- The kernel's run with its result array read: every token's gated residual, the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = result (ys m c) (ss m c) (ws m c) (xs m c) (mods m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).1 5).trans (out_whole m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Kernel5Ideal.OddProj

end
-- ==== Proof.OddProjRef.lean ====
/- The odd layers' output projection's reference, entry by entry. -/
module

public import proofs.«01_k».proof.Proof.OddProj
public import proofs.«01_k».proof.Proof.Gen.Reference5Ideal.Read

@[expose] public section

set_option maxRecDepth 16384

noncomputable section

namespace Cert.Reference5Ideal.OddProj

open Cert.Reference5Ideal Cert.Reference5Ideal.Gen Cert.Reference5Ideal.Read Cert.Samples
open Idealize.ShloMosaic Idealize.SL.Sem

variable (y s : FVec Ideal S33792x512 .bf16) (w : FVec Ideal S1024x1024 .bf16) (x : FVec Ideal S33792x1024 .f32) (v : FVec Ideal S4x16x1024 .f32)

/-- The product, its sum cut at the border of the two halves that stand side by side. -/
theorem product_apply (R : Fin 33792) (q : Fin 1024) : val_main_v3 (F := Ideal) y s w (ix2 R q)
    = ∑ k : Fin 512, y (ix2 R k) * w (ix2 (⟨k.val, by omega⟩ : Fin 1024) q)
      + ∑ k : Fin 512, s (ix2 R k) * w (ix2 (⟨512 + k.val, by omega⟩ : Fin 1024) q) := by
  have hl : ∀ k, lidx_main_v3 (ix2 R q) k = ix2 R k := fun k => funext fun a => match a with
    | ⟨0, _⟩ => rfl
    | ⟨1, _⟩ => rfl
  have hr : ∀ k, ridx_main_v3 (ix2 R q) k = ix2 k q := fun k => funext fun a => match a with
    | ⟨0, _⟩ => rfl
    | ⟨1, _⟩ => rfl
  have lo : ∀ k : Fin 512, val_main_v0 (F := Ideal) y s (ix2 R (⟨k.val, by omega⟩ : Fin 1024)) = y (ix2 R k) := fun k =>
    concatenate_pair_apply_left 1 y s _ (ix2 R (⟨k.val, by omega⟩ : Fin 1024)) rfl (ix2 R k) fun b => match b with
      | ⟨0, _⟩ => rfl
      | ⟨1, _⟩ => rfl
  have hi : ∀ k : Fin 512, val_main_v0 (F := Ideal) y s (ix2 R (⟨512 + k.val, by omega⟩ : Fin 1024)) = s (ix2 R k) := fun k =>
    concatenate_pair_apply_right 1 y s _ (ix2 R (⟨512 + k.val, by omega⟩ : Fin 1024)) rfl rfl (ix2 R k) (fun b hb => match b with
      | ⟨0, _⟩ => rfl
      | ⟨1, _⟩ => absurd rfl hb) (Nat.add_comm _ _)
  rw [val_main_v3_apply]
  simp only [hl, hr]
  rw [Fin.sum_univ_two_halves 512 512 rfl]
  exact congrArg₂ (· + ·) (Finset.sum_congr rfl fun k _ => congrArg (· * _) (lo k)) (Finset.sum_congr rfl fun k _ => congrArg (· * _) (hi k))

/-- The reference's result is every token's gated residual; the lines after the product are the even layers'. -/
theorem result : val_main_v19 (F := Ideal) y s w x v = Kernel5Ideal.OddProj.result y s w x v := by
  funext j
  obtain ⟨R, q, rfl⟩ : ∃ (R : Fin 33792) (q : Fin 1024), j = ix2 R q := ⟨j 0, j 1, funext fun a => match a with
    | ⟨0, _⟩ => rfl
    | ⟨1, _⟩ => rfl⟩
  have e : val_main_v19 (F := Ideal) y s w x v = Reference4Ideal.OutProj.both (val_main_v3 (F := Ideal) y s w) x v := rfl
  rw [e, Reference4Ideal.OutProj.both_apply, product_apply]
  rfl

end Cert.Reference5Ideal.OddProj

end
-- ==== Proof.OddIn.lean ====
/- The odd layers' input projection: the body's blocks entry by entry. -/
module

public import proofs.«01_k».proof.Proof.OddProjRef
public import proofs.«01_k».proof.Proof.Gen.Kernel6Ideal.Frame
public import Idealize.ShloMosaic.Lib.Pipeline.ReadBack

@[expose] public section

set_option maxRecDepth 16384

noncomputable section

namespace Cert.Kernel6Ideal.OddIn

open Cert.Kernel6Ideal Cert.Kernel6Ideal.Gen Cert.Samples
open Idealize.ShloMosaic Idealize.ShloMosaic.TcCoe Idealize.SL.Sem

/-- The body's normed rows. -/
theorem norm_apply (x : Vec Ideal S768x1024 .f32) (g : Vec Ideal S1x1024 .f32) (r : Fin 768) (q : Fin 1024) :
    k0_pay7 x g (ix2 r q) = normed (fun k => x (ix2 r k)) (fun k => g (ix2 0 k)) q := by
  pointwise [k0_pay7]
  rfl

/-- The rows the body keeps, from the blocks it reads. -/
def kept (a : BitVec 32) (x : Vec Ideal S768x1024 .f32) (g : Vec Ideal S1x1024 .f32) (v : Vec Ideal S1x16x1024 .f32) : FVec Ideal S768x1024 .bf16 :=
  k0_pay1 (k0_pay6 a) (k0_pay7 x g) (k0_pay8 v) (k0_pay9 a v)

/-- They are modulated by the block's table, by the rows' own test. -/
theorem kept_apply (a : BitVec 32) (x : Vec Ideal S768x1024 .f32) (g : Vec Ideal S1x1024 .f32) (v : Vec Ideal S1x16x1024 .f32) (r : Fin 768) (q : Fin 1024) :
    kept a x g v (ix2 r q) = normed (fun k => x (ix2 r k)) (fun k => g (ix2 0 k)) q
        * (Ideal.ofBits .f32 0x3F800000#32
          + (if Scalar.cmpi .sge (Scalar.addi (Scalar.muli (tileWord a) 768#32) (BitVec.ofNat 32 r.val)) 8192#32 = 1#1
            then v (ix3 0 9 q) else v (ix3 0 1 q)))
      + (if Scalar.cmpi .sge (Scalar.addi (Scalar.muli (tileWord a) 768#32) (BitVec.ofNat 32 r.val)) 8192#32 = 1#1
          then v (ix3 0 8 q) else v (ix3 0 0 q)) := by
  unfold kept
  rw [← norm_apply]
  generalize k0_pay7 x g = n
  pointwise [k0_pay1, k0_pay6, k0_pay8, k0_pay9]
  rfl

/-- The product of the kept rows with a block of the weights. -/
theorem product_apply (h : Vec Ideal S768x1024 .bf16) (w : Vec Ideal S1024x512 .bf16) (r : Fin 768) (n : Fin 512) :
    k0_pay2 h w (ix2 r n) = ∑ k : Fin 1024, h (ix2 r k) * w (ix2 k n) := by
  pointwise [k0_pay2]

/-- A column of the half that holds column `n`. -/
def inHalf (n : Fin 512) (k : Fin 256) : Fin 512 := ⟨n.val / 256 * 256 + k.val, by omega⟩

/-- A block's columns over the means the table of zeros and ones sums, with the gains. -/
theorem over_apply (a : FVec Ideal S768x512 .f32) (s : Vec Ideal S256x256 .bf16) (g : Vec Ideal S1x1x512 .f32) (r : Fin 768) (n : Fin 512) :
    k0_pay10 a s g (ix2 r n) = a (ix2 r n)
      * Ideal.rsqrt ((∑ k : Fin 256, a (ix2 r (inHalf n k)) * a (ix2 r (inHalf n k)) * s (ix2 k (⟨n.val % 256, by omega⟩ : Fin 256)))
          * Ideal.ofBits .f32 0x3C800000#32 + Ideal.ofBits .f32 0x358637BD#32) * g (ix3 0 0 n) := by
  pointwise [k0_pay10]
  by_cases h : n.val < 256
  · rw [dif_pos h]
    have e1 : ∀ k : Fin 256, inHalf n k = ⟨k.val, by omega⟩ := fun k => Fin.ext (by show n.val / 256 * 256 + k.val = k.val; omega)
    have e2 : (⟨n.val % 256, by omega⟩ : Fin 256) = ⟨n.val, h⟩ := Fin.ext (by show n.val % 256 = n.val; omega)
    simp only [e1, e2]
  · rw [dif_neg h]
    have e1 : ∀ k : Fin 256, inHalf n k = ⟨256 + k.val, by omega⟩ := fun k => Fin.ext (by show n.val / 256 * 256 + k.val = 256 + k.val; omega)
    have e2 : (⟨n.val % 256, by omega⟩ : Fin 256) = ⟨n.val - 256, by omega⟩ := Fin.ext (by show n.val % 256 = n.val - 256; omega)
    have e3 : (⟨256 + (n.val - 256), by omega⟩ : Fin 512) = n := Fin.ext (by show 256 + (n.val - 256) = n.val; omega)
    simp only [e1, e2, e3]

/-- The rotated block's entry, from the blocks it is made of. -/
theorem turned_apply (a : FVec Ideal S768x512 .f32) (s : Vec Ideal S256x256 .bf16) (g : Vec Ideal S1x1x512 .f32)
    (cs sa sb : Vec Ideal S768x128 .f32) (r : Fin 768) (n : Fin 512) :
    k0_pay5 (k0_pay11 sb) (k0_pay12 a s g) (k0_pay13 a s g cs sa) (ix2 r n)
      = k0_pay10 a s g (ix2 r n) * cs (ix2 r (⟨n.val % 128, by omega⟩ : Fin 128))
        + k0_pay10 a s g (ix2 r (⟨(n.val + 16) % 512, by omega⟩ : Fin 512)) * sa (ix2 r (⟨n.val % 128, by omega⟩ : Fin 128))
        + k0_pay10 a s g (ix2 r (⟨(n.val + 496) % 512, by omega⟩ : Fin 512)) * sb (ix2 r (⟨n.val % 128, by omega⟩ : Fin 128)) := by
  unfold k0_pay12 k0_pay13
  generalize k0_pay10 a s g = y
  pointwise [k0_pay5, k0_pay11]
  have col : ∀ z : Vec Ideal S768x128 .f32, (if h : n.val < 128 then z (ix2 r ⟨n.val, h⟩) else
      if h : n.val - 128 < 128 then z (ix2 r ⟨n.val - 128, h⟩) else
        if h : n.val - 128 - 128 < 128 then z (ix2 r ⟨n.val - 128 - 128, h⟩) else z (ix2 r ⟨n.val - 128 - 128 - 128, by omega⟩))
      = z (ix2 r ⟨n.val % 128, by omega⟩) := fun z => by
    split_ifs <;> exact congrArg z (congrArg (ix2 r) (Fin.ext (by simp only []; omega)))
  have e1 : (⟨(n.val + 512 - 496) % 512, by omega⟩ : Fin 512) = ⟨(n.val + 16) % 512, by omega⟩ := Fin.ext (by simp only []; omega)
  have e2 : (⟨(n.val + 512 - 16) % 512, by omega⟩ : Fin 512) = ⟨(n.val + 496) % 512, by omega⟩ := Fin.ext (by simp only []; omega)
  rw [← col cs, ← col sa, ← col sb, ← e1, ← e2]

variable (m : (ℓ : Loc nD τ sig) → Buf (Elt Ideal) ℓ) (c : Dev nD)

/-- The coordinates of a point. -/
theorem coord_row : ∀ t : Fin grid0.N, ((grid0.coords t) 0).val = t.val / 6 := by decide +kernel

/-- The blocks the windows hold at a point. -/
theorem idx : ∀ t : Fin cfg0.N, win0_0.index t = ![t.val / 6, 0] ∧ win0_1.index t = ![0, 0] ∧ win0_2.index t = ![t.val / 66, 0, 0]
    ∧ win0_3.index t = ![0, t.val % 6] ∧ win0_4.index t = ![t.val % 6, 0, 0] ∧ win0_5.index t = ![0, 0]
    ∧ win0_6.index t = ![t.val / 6 % 11, 0] ∧ win0_7.index t = ![t.val / 6 % 11, 0] ∧ win0_8.index t = ![t.val / 6 % 11, 0]
    ∧ win0_9.index t = ![t.val / 6, t.val % 6] := by decide +kernel

/-- At the first point of a block of rows the body keeps the rows. -/
theorem kept_A (t : Fin cfg0.N) (h : t.val % 6 = 0) : (outsAt0 m c t.val t.isLt).2
    = kept (BitVec.ofNat 32 ((grid0.coords t) 0).val) (iblk m c 0 t) (iblk m c 1 t) (iblk m c 2 t) := by
  rw [outsAt0_A m c t h (by omega) (by omega) (by omega)]
  frame_out
  rfl

/-- At the other points it keeps what it had. -/
theorem kept_later (t : Fin cfg0.N) (h : ¬t.val % 6 = 0) : (outsAt0 m c t.val t.isLt).2
    = (outsAt0 m c (t.val - 1) (Nat.lt_of_le_of_lt (Nat.sub_le _ _) t.isLt)).2 := by
  by_cases h1 : t.val % 3 = 2
  · rw [outsAt0_C m c t h h1 (by omega) (by omega)]; rfl
  · by_cases h2 : t.val % 6 ≤ 1
    · rw [outsAt0_B m c t h h1 h2 (by omega)]; rfl
    · rw [outsAt0_D m c t h h1 h2 (by omega)]; rfl

/-- A point of the values' columns writes the product. -/
theorem out_plain (t : Fin cfg0.N) (h : t.val % 3 = 2) : (outsAt0 m c t.val t.isLt).1
    = k0_pay3 (outsAt0 m c t.val t.isLt).2 (iblk m c 3 t) := by
  rw [kept_later m c t (by omega), outsAt0_C m c t (by omega) h (by omega) (by omega)]
  frame_out
  simp only [read_unread_whole]

/-- A point of the first queries' and keys' columns writes the product over its means. -/
theorem out_normed (t : Fin cfg0.N) (h : t.val % 6 ≤ 1) : (outsAt0 m c t.val t.isLt).1
    = k0_pay10 (k0_pay2 (outsAt0 m c t.val t.isLt).2 (iblk m c 3 t)) (iblk m c 5 t) (iblk m c 4 t) := by
  by_cases h0 : t.val % 6 = 0
  · rw [kept_A m c t h0, outsAt0_A m c t h0 (by omega) h (by omega)]
    frame_out
    rfl
  · rw [kept_later m c t h0, outsAt0_B m c t h0 (by omega) h (by omega)]
    frame_out
    simp only [read_unread_whole]
    rfl

/-- A point of the other queries' and keys' columns writes the same, turned. -/
theorem out_turned (t : Fin cfg0.N) (h : 3 ≤ t.val % 6 ∧ t.val % 6 ≤ 4) : (outsAt0 m c t.val t.isLt).1
    = k0_pay5 (k0_pay11 (iblk m c 8 t)) (k0_pay12 (k0_pay2 (outsAt0 m c t.val t.isLt).2 (iblk m c 3 t)) (iblk m c 5 t) (iblk m c 4 t))
      (k0_pay13 (k0_pay2 (outsAt0 m c t.val t.isLt).2 (iblk m c 3 t)) (iblk m c 5 t) (iblk m c 4 t) (iblk m c 6 t) (iblk m c 7 t)) := by
  rw [kept_later m c t (by omega), outsAt0_D m c t (by omega) (by omega) (by omega) h]
  frame_out
  simp only [read_unread_whole]

end Cert.Kernel6Ideal.OddIn

end
-- ==== Proof.OddInHost.lean ====
/- The odd layers' input projection: what the host lines before its grid leave in the arrays that the grid's windows read. -/
module

public import proofs.«01_k».proof.Proof.OddIn
public import Idealize.ShloMosaic.Lib.Claim

@[expose] public section

set_option maxRecDepth 16384

noncomputable section

namespace Cert.Kernel6Ideal.OddIn

open Cert.Kernel6Ideal Cert.Kernel6Ideal.Gen Cert.Samples
open Idealize.ShloMosaic Idealize.ShloMosaic.TcCoe Idealize.SL.Sem

variable (m : (ℓ : Loc nD τ sig) → Buf (Elt Ideal) ℓ) (c : Dev nD)

/-- The cosines on the image's tokens. -/
abbrev cosines : FVec Ideal S8192x64 .f32 := m ((c : Thread nD τ).loc main_arg6)
/-- The sines. -/
abbrev sines : FVec Ideal S8192x64 .f32 := m ((c : Thread nD τ).loc main_arg7)
/-- The gains of the first queries and keys. -/
abbrev gains : FVec Ideal S2x64 .f32 := m ((c : Thread nD τ).loc main_arg4)
/-- The gains of the other queries and keys. -/
abbrev gains' : FVec Ideal S2x64 .f32 := m ((c : Thread nD τ).loc main_arg5)

/-- The cosines with a one for every token of the context. -/
def cosAll (x : FVec Ideal S8192x64 .f32) : FVec Ideal S8448x64 .f32 :=
  concatenate S8448x64 0 [⟨S8192x64, x⟩, ⟨S256x64, broadcastInDim S256x64 ![] bcast_S_S256x64 (constant (F := Ideal) S_ .f32 0x3F800000#32)⟩] concatenates_S8192x64_S256x64_S8448x64_d0

/-- The sines with a nought for every token of the context. -/
def sinAll (x : FVec Ideal S8192x64 .f32) : FVec Ideal S8448x64 .f32 :=
  concatenate S8448x64 0 [⟨S8192x64, x⟩, ⟨S256x64, broadcastInDim S256x64 ![] bcast_S_S256x64 (constant (F := Ideal) S_ .f32 0x00000000#32)⟩] concatenates_S8192x64_S256x64_S8448x64_d0

/-- A table of 64 columns twice side by side. -/
def twice (x : FVec Ideal S8448x64 .f32) : FVec Ideal S8448x128 .f32 :=
  shapeCast S8448x128 (broadcastInDim S1x8448x2x64 ![0, 1, 2, 3] bcast_S1x8448x1x64_S1x8448x2x64_0_1_2_3
    (shapeCast S1x8448x1x64 x shapeCasts_S8448x64_S1x8448x1x64)) shapeCasts_S1x8448x2x64_S8448x128

/-- One number at every place of 64. -/
abbrev every (x : IVec S_ 32) : IVec S64 32 := broadcastInDim S64 ![] bcast_S_S64 x

/-- The columns' numbers divided by 16 and rounded down, as the host computes them. -/
def quarters : IVec S64 32 :=
  let q := Host.divsi (iotaInDim S64 32 0) (every (constantI S_ 32 16#32))
  select (andi (cmpi .ne (signi (iotaInDim S64 32 0)) (every (signi (constantI S_ 32 16#32))))
      (cmpi .ne (Host.remsi (iotaInDim S64 32 0) (every (constantI S_ 32 16#32))) (every (constantI S_ 32 0#32))))
    (subi q (every (constantI S_ 32 1#32))) q

/-- The divisor, with one in the place of nought. -/
def divisor : IVec S_ 32 := select (cmpi .eq (constantI S_ 32 2#32) (constantI S_ 32 0#32)) (constantI S_ 32 1#32) (constantI S_ 32 2#32)

/-- Those modulo 2. -/
def parity : IVec S64 32 :=
  let r := Host.remsi quarters (every divisor)
  select (andi (cmpi .ne (cmpi .slt r (every (constantI S_ 32 0#32)))
      (broadcastInDim S64 ![] bcast_S_S64 (cmpi .slt divisor (constantI S_ 32 0#32)))) (cmpi .ne r (every (constantI S_ 32 0#32))))
    (addi r (every divisor)) r

/-- Whether a column lies in the first or the third quarter. -/
def even : IVec S64 1 := cmpi .eq parity (every (constantI S_ 32 0#32))

/-- The same, told by the column's number. -/
theorem even_apply (e : Fin 64) : even (ix1 e) = if e.val / 16 % 2 = 0 then 1#1 else 0#1 := by
  have : ∀ e : Fin 64, even (ix1 e) = if e.val / 16 % 2 = 0 then 1#1 else 0#1 := by decide +kernel
  exact this e

/-- That for every token. -/
abbrev evens : IVec S8448x64 1 := broadcastInDim S8448x64 ![0, 1] bcast_S1x64_S8448x64_0_1 (broadcastInDim S1x64 ![1] bcast_S64_S1x64_1 even)

/-- Nought for every token and column. -/
abbrev zeros : FVec Ideal S8448x64 .f32 := broadcastInDim S8448x64 ![] bcast_S_S8448x64 (constant (F := Ideal) S_ .f32 0x00000000#32)

/-- The columns' numbers divided by 64 and rounded down, as the host computes them. -/
def groups : IVec S256 32 :=
  let q := Host.divsi (iotaInDim S256 32 0) (broadcastInDim S256 ![] bcast_S_S256 (constantI S_ 32 64#32))
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi q (broadcastInDim S256 ![] bcast_S_S256 (constantI S_ 32 1#32))) q

/-- The same, told by the column's number. -/
theorem groups_apply (k : Fin 256) : groups (ix1 k) = BitVec.ofNat 32 (k.val / 64) := by
  have : ∀ k : Fin 256, groups (ix1 k) = BitVec.ofNat 32 (k.val / 64) := by decide +kernel
  exact this k

/-- The table of ones where two columns are of one head and noughts elsewhere. -/
def heads : FVec Ideal S256x256 .bf16 :=
  uitofp .bf16 (cmpi .eq (broadcastInDim S256x256 ![0, 1] bcast_S256x1_S256x256_0_1 (broadcastInDim S256x1 ![0] bcast_S256_S256x1_0 groups))
    (broadcastInDim S256x256 ![0, 1] bcast_S1x256_S256x256_0_1 (broadcastInDim S1x256 ![1] bcast_S256_S1x256_1 groups)))

/-- A row of 64 gains for each of a block's eight heads. -/
def tiled (x : FVec Ideal S1x64 .f32) : FVec Ideal S1x512 .f32 :=
  broadcastInDim S1x512 ![1] bcast_S512_S1x512_1 (shapeCast S512 (broadcastInDim S8x64 ![0, 1] bcast_S1x64_S8x64_0_1
    (shapeCast S1x64 (shapeCast S64 x shapeCasts_S1x64_S64) shapeCasts_S64_S1x64)) shapeCasts_S8x64_S512)

/-- A row of ones. -/
def ones : FVec Ideal S1x512 .f32 := broadcastInDim S1x512 ![1] bcast_S512_S1x512_1 (broadcastInDim S512 ![] bcast_S_S512 (constant (F := Ideal) S_ .f32 0x3F800000#32))

/-- The gains of the six stretches of columns. -/
def stacked (g g' : FVec Ideal S2x64 .f32) : FVec Ideal S6x1x512 .f32 :=
  broadcastInDim S6x1x512 ![0, 2] bcast_S6x512_S6x1x512_0_2 (concatenate S6x512 0 [⟨S1x512, tiled (extractStridedSlice S1x64 ![0, 0] g slices_S2x64_S1x64_0_0)⟩,
    ⟨S1x512, tiled (extractStridedSlice S1x64 ![1, 0] g slices_S2x64_S1x64_1_0)⟩, ⟨S1x512, ones⟩,
    ⟨S1x512, tiled (extractStridedSlice S1x64 ![0, 0] g' slices_S2x64_S1x64_0_0)⟩,
    ⟨S1x512, tiled (extractStridedSlice S1x64 ![1, 0] g' slices_S2x64_S1x64_1_0)⟩, ⟨S1x512, ones⟩] concatenates_S1x512_S1x512_S1x512_S1x512_S1x512_S1x512_S6x512_d0)

set_option maxHeartbeats 8000000 in
/-- The cosines' table that the grid reads. -/
theorem cos_eq : (V m c main_v15 : Vec Ideal S8448x128 .f32) = twice (cosAll (cosines m c)) := by
  unfold V
  simp only [hostOps0, hostOps0_1, hostOps0_2, hostOps0_3, hostOps0_4, hostOps0_5, hostOps0_6, hostOps0_7, hostOps0_8, hostOps0_9, hostOps0_10, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

set_option maxHeartbeats 8000000 in
/-- The sines' table for the columns ahead. -/
theorem sina_eq : (V m c main_v18 : Vec Ideal S8448x128 .f32) = twice (select evens (Host.negf (sinAll (sines m c))) zeros) := by
  unfold V
  simp only [hostOps0, hostOps0_1, hostOps0_2, hostOps0_3, hostOps0_4, hostOps0_5, hostOps0_6, hostOps0_7, hostOps0_8, hostOps0_9, hostOps0_10, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

set_option maxHeartbeats 8000000 in
/-- The sines' table for the columns behind. -/
theorem sinb_eq : (V m c main_v21 : Vec Ideal S8448x128 .f32) = twice (select evens zeros (sinAll (sines m c))) := by
  unfold V
  simp only [hostOps0, hostOps0_1, hostOps0_2, hostOps0_3, hostOps0_4, hostOps0_5, hostOps0_6, hostOps0_7, hostOps0_8, hostOps0_9, hostOps0_10, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

set_option maxHeartbeats 8000000 in
/-- The table of heads that the grid reads. -/
theorem heads_eq : (V m c main_v58 : Vec Ideal S256x256 .bf16) = heads := by
  unfold V
  simp only [hostOps0, hostOps0_1, hostOps0_2, hostOps0_3, hostOps0_4, hostOps0_5, hostOps0_6, hostOps0_7, hostOps0_8, hostOps0_9, hostOps0_10, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

set_option maxHeartbeats 8000000 in
/-- The gains that the grid reads. -/
theorem gains_eq : (V m c main_v50 : Vec Ideal S6x1x512 .f32) = stacked (gains m c) (gains' m c) := by
  unfold V
  simp only [hostOps0, hostOps0_1, hostOps0_2, hostOps0_3, hostOps0_4, hostOps0_5, hostOps0_6, hostOps0_7, hostOps0_8, hostOps0_9, hostOps0_10, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

set_option maxHeartbeats 8000000 in
/-- The rows' gain as the host lays it out. -/
theorem gain_eq : (V m c main_v59 : Vec Ideal S1x1024 .f32) = shapeCast S1x1024 (m ((c : Thread nD τ).loc main_arg1) : FVec Ideal S1024 .f32) shapeCasts_S1024_S1x1024 := by
  unfold V
  simp only [hostOps0, hostOps0_1, hostOps0_2, hostOps0_3, hostOps0_4, hostOps0_5, hostOps0_6, hostOps0_7, hostOps0_8, hostOps0_9, hostOps0_10, List.flatten_cons, List.flatten_nil,
    List.cons_append, List.nil_append, List.append_nil, StableHlo.TRef.binary, StableHlo.TRef.ternary, StableHlo.TRef.unary, StableHlo.TRef.nullary, StableHlo.TRef.toBuf, StableHlo.TRef.ofBuf, cast_eq]
  after_results_simp <;> rfl

end Cert.Kernel6Ideal.OddIn

end
-- ==== Proof.OddInTables.lean ====
/- The odd layers' input projection: its tables entry by entry. -/
module

public import proofs.«01_k».proof.Proof.OddInHost

@[expose] public section

set_option maxRecDepth 16384

noncomputable section

namespace Cert.Kernel6Ideal.OddIn

open Cert.Kernel6Ideal Cert.Kernel6Ideal.Gen Cert.Samples
open Idealize.ShloMosaic Idealize.ShloMosaic.TcCoe Idealize.SL.Sem

/-- A column's place among its head's 64. -/
def inHead {n : ℕ} (N : Fin n) : Fin 64 := ⟨N.val % 64, by omega⟩

/-- The cosines' table on a token of the image. -/
theorem cosAll_image (x : FVec Ideal S8192x64 .f32) (l : Fin 8448) (e : Fin 64) (h : l.val < 8192) :
    cosAll x (ix2 l e) = x (ix2 (⟨l.val, h⟩ : Fin 8192) e) := by
  pointwise [cosAll]
  rw [dif_pos h]

/-- And on one of the context. -/
theorem cosAll_context (x : FVec Ideal S8192x64 .f32) (l : Fin 8448) (e : Fin 64) (h : ¬l.val < 8192) :
    cosAll x (ix2 l e) = Ideal.ofBits .f32 0x3F800000#32 := by
  pointwise [cosAll]
  rw [dif_neg h]

/-- The sines' table on a token of the image. -/
theorem sinAll_image (x : FVec Ideal S8192x64 .f32) (l : Fin 8448) (e : Fin 64) (h : l.val < 8192) :
    sinAll x (ix2 l e) = x (ix2 (⟨l.val, h⟩ : Fin 8192) e) := by
  pointwise [sinAll]
  rw [dif_pos h]

/-- And on one of the context. -/
theorem sinAll_context (x : FVec Ideal S8192x64 .f32) (l : Fin 8448) (e : Fin 64) (h : ¬l.val < 8192) :
    sinAll x (ix2 l e) = 0 := by
  refine Eq.trans ?_ Ideal.ofBits_zero_f32
  pointwise [sinAll]
  rw [dif_neg h]

/-- A table laid twice side by side repeats its columns. -/
theorem twice_apply (x : FVec Ideal S8448x64 .f32) (l : Fin 8448) (n : Fin 128) : twice x (ix2 l n) = x (ix2 l (inHead n)) := by
  unfold twice
  refine (shapeCast_apply (s := S1x8448x2x64) _ _ _ (ix4 (0 : Fin 1) l (⟨n.val / 64, by omega⟩ : Fin 2) (inHead n)) ?_).trans ?_
  · rw [Shape.rowMajor_val_four, Shape.rowMajor_val_two]
    show ((0 * 8448 + l.val) * 2 + n.val / 64) * 64 + n.val % 64 = l.val * 128 + n.val
    omega
  · refine (broadcastInDim_apply _ _ _ _ (ix4 (0 : Fin 1) l (0 : Fin 1) (inHead n)) fun a => match a with
      | ⟨0, _⟩ => rfl
      | ⟨1, _⟩ => rfl
      | ⟨2, _⟩ => rfl
      | ⟨3, _⟩ => rfl).trans ?_
    refine shapeCast_apply (s := S8448x64) _ _ _ _ ?_
    rw [Shape.rowMajor_val_four, Shape.rowMajor_val_two]
    show l.val * 64 + n.val % 64 = ((0 * 8448 + l.val) * 1 + 0) * 64 + n.val % 64
    omega

/-- A row of gains laid for every head repeats its columns. -/
theorem tiled_apply (x : FVec Ideal S1x64 .f32) (n : Fin 512) : tiled x (ix2 0 n) = x (ix2 0 (inHead n)) := by
  unfold tiled
  refine (broadcastInDim_apply _ _ _ _ (ix1 n) fun a => match a with
      | ⟨0, _⟩ => rfl).trans ?_
  refine (shapeCast_apply (s := S8x64) _ _ _ (ix2 (⟨n.val / 64, by omega⟩ : Fin 8) (inHead n)) ?_).trans ?_
  · rw [Shape.rowMajor_val_two, Shape.rowMajor_val_one]
    show n.val / 64 * 64 + n.val % 64 = n.val
    omega
  · refine (broadcastInDim_apply _ _ _ _ (ix2 (0 : Fin 1) (inHead n)) fun a => match a with
      | ⟨0, _⟩ => rfl
      | ⟨1, _⟩ => rfl).trans ?_
    refine (shapeCast_apply (s := S64) _ _ _ (ix1 (inHead n)) ?_).trans ?_
    · rw [Shape.rowMajor_val_two, Shape.rowMajor_val_one]
      show n.val % 64 = 0 * 64 + n.val % 64
      omega
    · refine shapeCast_apply (s := S1x64) _ _ _ _ ?_
      rw [Shape.rowMajor_val_two, Shape.rowMajor_val_one]
      show 0 * 64 + n.val % 64 = n.val % 64
      omega

/-- The table of heads is one where two columns are of one head. -/
theorem heads_apply (k l : Fin 256) : heads (ix2 k l) = if k.val / 64 = l.val / 64 then (1 : EReal) else 0 := by
  refine (Cert.Kernel2Ideal.Experts.bit_value (Scalar.cmpi .eq (groups (ix1 k)) (groups (ix1 l)))).trans ?_
  rw [groups_apply, groups_apply]
  have key : (Scalar.cmpi .eq (BitVec.ofNat 32 (k.val / 64)) (BitVec.ofNat 32 (l.val / 64)) = 1#1) ↔ k.val / 64 = l.val / 64 := by
    rw [show Scalar.cmpi .eq (BitVec.ofNat 32 (k.val / 64)) (BitVec.ofNat 32 (l.val / 64)) = BitVec.ofBool (BitVec.ofNat 32 (k.val / 64) == BitVec.ofNat 32 (l.val / 64)) from rfl,
      Cert.Kernel2Ideal.Experts.ofBool_iff, beq_iff_eq]
    constructor
    · intro h
      have h := congrArg BitVec.toNat h
      rwa [BitVec.toNat_ofNat, BitVec.toNat_ofNat, Nat.mod_eq_of_lt (by omega), Nat.mod_eq_of_lt (by omega)] at h
    · intro h; rw [h]
  simp only [key]

/-- A sum against a column of the table of heads is the sum over the column's head. -/
theorem sum_heads (f : Fin 256 → EReal) (l : Fin 256) :
    (∑ k : Fin 256, f k * heads (ix2 k l)) = ∑ e : Fin 64, f (⟨l.val / 64 * 64 + e.val, by omega⟩ : Fin 256) := by
  have hl : l.val / 64 < 4 := by omega
  rw [← (finProdFinEquiv (m := 4) (n := 64)).sum_comp (fun k : Fin 256 => f k * heads (ix2 k l)), Fintype.sum_prod_type,
    Finset.sum_eq_single (⟨l.val / 64, hl⟩ : Fin 4)]
  · refine Finset.sum_congr rfl fun e _ => ?_
    have e1 : (finProdFinEquiv ((⟨l.val / 64, hl⟩ : Fin 4), e) : Fin 256) = ⟨l.val / 64 * 64 + e.val, by omega⟩ :=
      Fin.ext (by show e.val + 64 * (l.val / 64) = _; simp only []; omega)
    rw [e1, heads_apply, if_pos (by simp only []; omega), mul_one]
  · intro i _ hi
    refine Finset.sum_eq_zero fun e _ => ?_
    rw [heads_apply, if_neg, mul_zero]
    intro h
    refine hi (Fin.ext ?_)
    have h' : (e.val + 64 * i.val) / 64 = l.val / 64 := h
    show i.val = l.val / 64
    omega
  · exact fun h => absurd (Finset.mem_univ _) h

/-- The first queries' gains. -/
theorem stacked_0 (g g' : FVec Ideal S2x64 .f32) (n : Fin 512) : stacked g g' (ix3 0 0 n) = g (ix2 0 (inHead n)) := by
  unfold stacked
  generalize e : tiled = T
  pointwise []
  rw [← e, tiled_apply]
  pointwise []

/-- The first keys' gains. -/
theorem stacked_1 (g g' : FVec Ideal S2x64 .f32) (n : Fin 512) : stacked g g' (ix3 1 0 n) = g (ix2 1 (inHead n)) := by
  unfold stacked
  generalize e : tiled = T
  pointwise []
  rw [← e, tiled_apply]
  pointwise []

/-- The other queries' gains. -/
theorem stacked_3 (g g' : FVec Ideal S2x64 .f32) (n : Fin 512) : stacked g g' (ix3 3 0 n) = g' (ix2 0 (inHead n)) := by
  unfold stacked
  generalize e : tiled = T
  pointwise []
  rw [← e, tiled_apply]
  pointwise []

/-- The other keys' gains. -/
theorem stacked_4 (g g' : FVec Ideal S2x64 .f32) (n : Fin 512) : stacked g g' (ix3 4 0 n) = g' (ix2 1 (inHead n)) := by
  unfold stacked
  generalize e : tiled = T
  pointwise []
  rw [← e, tiled_apply]
  pointwise []

/-- The sines' table for the columns ahead. -/
theorem ahead_apply (x : FVec Ideal S8448x64 .f32) (l : Fin 8448) (n : Fin 128) :
    twice (select evens (Host.negf x) zeros) (ix2 l n) = if (inHead n).val / 16 % 2 = 0 then -(x (ix2 l (inHead n))) else 0 := by
  rw [twice_apply]
  generalize inHead n = e
  pointwise []
  unfold Scalar.select
  rw [even_apply]
  by_cases h : e.val / 16 % 2 = 0
  · rw [if_pos h, if_pos h]
    exact if_pos rfl
  · rw [if_neg h, if_neg h]
    exact if_neg (by decide)

/-- The sines' table for the columns behind. -/
theorem behind_apply (x : FVec Ideal S8448x64 .f32) (l : Fin 8448) (n : Fin 128) :
    twice (select evens zeros x) (ix2 l n) = if (inHead n).val / 16 % 2 = 0 then 0 else x (ix2 l (inHead n)) := by
  rw [twice_apply]
  generalize inHead n = e
  pointwise []
  unfold Scalar.select
  rw [even_apply]
  by_cases h : e.val / 16 % 2 = 0
  · rw [if_pos h, if_pos h]
    exact if_pos rfl
  · rw [if_neg h, if_neg h]
    exact if_neg (by decide)

end Cert.Kernel6Ideal.OddIn

end
-- ==== Proof.OddInSpec.lean ====
/- The odd layers' input projection: what an entry of the result is, and the body's blocks as such entries. -/
module

public import proofs.«01_k».proof.Proof.OddInTables

@[expose] public section

set_option maxRecDepth 16384

noncomputable section

namespace Cert.Samples

open Idealize.ShloMosaic

/-- A head's 64 entries over their root mean square, with the gains. -/
def headNorm (a g : Fin 64 → EReal) (e : Fin 64) : EReal :=
  a e * Ideal.rsqrt (Ideal.div (∑ k, a k * a k) (Ideal.ofBits .f32 0x42800000#32) + Ideal.ofBits .f32 0x358637BD#32) * g e

/-- A head's entries turned by a token's cosines and sines: each quarter with its neighbour. -/
def rotated (a c s : Fin 64 → EReal) (e : Fin 64) : EReal :=
  a e * c e + (if e.val / 16 % 2 = 0 then -(a ⟨(e.val + 16) % 64, by omega⟩) else a ⟨(e.val + 48) % 64, by omega⟩) * s e

/-- The same on the image's tokens, the entries themselves on the context's. -/
def rotatedAt (a : Fin 64 → EReal) (c s : Fin 8192 → Fin 64 → EReal) (l : Fin 8448) (e : Fin 64) : EReal :=
  if h : l.val < 8192 then rotated a (c ⟨l.val, h⟩) (s ⟨l.val, h⟩) e else a e

/-- The 64 entries of a column's head. -/
def ofHead (p : Fin 3072 → EReal) (N : Fin 3072) (e : Fin 64) : EReal := p ⟨N.val / 64 * 64 + e.val, by omega⟩

/-- An entry of the projection: its stretch of 512 columns says whether its head is normed, and whether it is turned. -/
def entry (p : Fin 3072 → EReal) (q q' : Fin 2 → Fin 64 → EReal) (c s : Fin 8192 → Fin 64 → EReal) (l : Fin 8448) (N : Fin 3072) : EReal :=
  if N.val / 512 = 0 then headNorm (ofHead p N) (q 0) ⟨N.val % 64, by omega⟩
  else if N.val / 512 = 1 then headNorm (ofHead p N) (q 1) ⟨N.val % 64, by omega⟩
  else if N.val / 512 = 3 then rotatedAt (headNorm (ofHead p N) (q' 0)) c s l ⟨N.val % 64, by omega⟩
  else if N.val / 512 = 4 then rotatedAt (headNorm (ofHead p N) (q' 1)) c s l ⟨N.val % 64, by omega⟩
  else p N

/-- Dividing by 64 is multiplying by its reciprocal. -/
theorem div_64 (x : EReal) : Ideal.div x (Ideal.ofBits .f32 0x42800000#32) = x * Ideal.ofBits .f32 0x3C800000#32 := by
  have h : Ideal.ofBits .f32 0x42800000#32 = ((64 : ℝ) : EReal) := by
    simp [Ideal.ofBits, Ideal.ieee, -EReal.coe_mul]
    norm_num
  have h' : Ideal.ofBits .f32 0x3C800000#32 = ((1 / 64 : ℝ) : EReal) := by
    simp [Ideal.ofBits, Ideal.ieee, -EReal.coe_mul]
    norm_num
  rw [h, h', Ideal.div_coe (by norm_num)]

end Cert.Samples

namespace Cert.Kernel6Ideal.OddIn

open Cert.Kernel6Ideal Cert.Kernel6Ideal.Gen Cert.Samples
open Idealize.ShloMosaic Idealize.ShloMosaic.TcCoe Idealize.SL.Sem

variable (a : FVec Ideal S768x512 .f32) (g : Vec Ideal S1x1x512 .f32) (r : Fin 768) (p : Fin 3072 → EReal) (s : ℕ) (G : Fin 64 → EReal)
  (ha : ∀ (n : Fin 512) (N : Fin 3072), N.val = s * 512 + n.val → a (ix2 r n) = p N) (hg : ∀ n : Fin 512, g (ix3 0 0 n) = G (inHead n))

include ha hg in
/-- A block's columns over their means are its heads normed. -/
theorem over_eq (n : Fin 512) (N : Fin 3072) (hN : N.val = s * 512 + n.val) :
    k0_pay10 a heads g (ix2 r n) = headNorm (ofHead p N) G (inHead n) := by
  rw [over_apply, hg, sum_heads (fun k => a (ix2 r (inHalf n k)) * a (ix2 r (inHalf n k))), ← div_64]
  have e1 : ∀ e : Fin 64, a (ix2 r (inHalf n ⟨n.val % 256 / 64 * 64 + e.val, by omega⟩)) = ofHead p N e := fun e =>
    ha _ _ (by show N.val / 64 * 64 + e.val = s * 512 + (n.val / 256 * 256 + (n.val % 256 / 64 * 64 + e.val)); omega)
  have e2 : a (ix2 r n) = ofHead p N (inHead n) :=
    ha _ _ (by show N.val / 64 * 64 + n.val % 64 = s * 512 + n.val; omega)
  simp only [e1]
  rw [e2]
  rfl

variable (cs sa sb : Vec Ideal S768x128 .f32) (x y : FVec Ideal S8192x64 .f32) (l : Fin 8448)
  (hc : ∀ n, cs (ix2 r n) = twice (cosAll x) (ix2 l n))
  (hsa : ∀ n, sa (ix2 r n) = twice (select evens (Host.negf (sinAll y)) zeros) (ix2 l n))
  (hsb : ∀ n, sb (ix2 r n) = twice (select evens zeros (sinAll y)) (ix2 l n))

include ha hg hc hsa hsb in
/-- A turned block's columns are its heads normed and turned. -/
theorem turned_eq (n : Fin 512) (N : Fin 3072) (hN : N.val = s * 512 + n.val) :
    k0_pay5 (k0_pay11 sb) (k0_pay12 a heads g) (k0_pay13 a heads g cs sa) (ix2 r n)
      = rotatedAt (headNorm (ofHead p N) G) (fun l e => x (ix2 l e)) (fun l e => y (ix2 l e)) l (inHead n) := by
  have hh : inHead (⟨n.val % 128, by omega⟩ : Fin 128) = inHead n := Fin.ext (by show n.val % 128 % 64 = n.val % 64; omega)
  rw [turned_apply, hc, hsa, hsb, over_eq a g r p s G ha hg n N hN, twice_apply, ahead_apply, behind_apply, hh]
  unfold rotatedAt
  by_cases hl : l.val < 8192
  · rw [dif_pos hl, cosAll_image _ _ _ hl, sinAll_image _ _ _ hl]
    unfold rotated
    by_cases he : (inHead n).val / 16 % 2 = 0
    · have he' : n.val % 64 / 16 % 2 = 0 := he
      have hk : ofHead p (⟨s * 512 + (n.val + 16) % 512, by omega⟩ : Fin 3072) = ofHead p N := funext fun e =>
        congrArg p (Fin.ext (by show (s * 512 + (n.val + 16) % 512) / 64 * 64 + e.val = N.val / 64 * 64 + e.val; omega))
      have hi : inHead (⟨(n.val + 16) % 512, by omega⟩ : Fin 512) = ⟨((inHead n).val + 16) % 64, by omega⟩ :=
        Fin.ext (by show (n.val + 16) % 512 % 64 = (n.val % 64 + 16) % 64; omega)
      rw [if_pos he, if_pos he, if_pos he, over_eq a g r p s G ha hg (⟨(n.val + 16) % 512, by omega⟩ : Fin 512) (⟨s * 512 + (n.val + 16) % 512, by omega⟩ : Fin 3072) rfl, hk, hi,
        mul_zero, add_zero, mul_neg, neg_mul]
    · have he' : ¬n.val % 64 / 16 % 2 = 0 := he
      have hk : ofHead p (⟨s * 512 + (n.val + 496) % 512, by omega⟩ : Fin 3072) = ofHead p N := funext fun e =>
        congrArg p (Fin.ext (by show (s * 512 + (n.val + 496) % 512) / 64 * 64 + e.val = N.val / 64 * 64 + e.val; omega))
      have hi : inHead (⟨(n.val + 496) % 512, by omega⟩ : Fin 512) = ⟨((inHead n).val + 48) % 64, by omega⟩ :=
        Fin.ext (by show (n.val + 496) % 512 % 64 = (n.val % 64 + 48) % 64; omega)
      rw [if_neg he, if_neg he, if_neg he, over_eq a g r p s G ha hg (⟨(n.val + 496) % 512, by omega⟩ : Fin 512) (⟨s * 512 + (n.val + 496) % 512, by omega⟩ : Fin 3072) rfl, hk, hi,
        mul_zero, add_zero]
  · rw [dif_neg hl, cosAll_context _ _ _ hl, sinAll_context _ _ _ hl, Ideal.ofBits_one_f32, neg_zero, ite_self, mul_zero, mul_zero, add_zero, add_zero, mul_one]

end Cert.Kernel6Ideal.OddIn

end
-- ==== Proof.OddInRun.lean ====
/- The odd layers' input projection: the whole run. -/
module

public import proofs.«01_k».proof.Proof.OddInSpec

@[expose] public section

set_option maxRecDepth 16384

noncomputable section

namespace Cert.Kernel6Ideal.OddIn

open Cert.Kernel6Ideal Cert.Kernel6Ideal.Gen Cert.Samples
open Idealize.ShloMosaic Idealize.ShloMosaic.TcCoe Idealize.SL.Sem

variable (m : (ℓ : Loc nD τ sig) → Buf (Elt Ideal) ℓ) (c : Dev nD)

/-- The rows. -/
abbrev xs : FVec Ideal S33792x1024 .f32 := m ((c : Thread nD τ).loc main_arg0)
/-- The rows' gain. -/
abbrev gs : FVec Ideal S1024 .f32 := m ((c : Thread nD τ).loc main_arg1)
/-- The modulation table. -/
abbrev mods : FVec Ideal S4x16x1024 .f32 := m ((c : Thread nD τ).loc main_arg2)
/-- The weights. -/
abbrev ws : FVec Ideal S1024x3072 .bf16 := m ((c : Thread nD τ).loc main_arg3)

/-- A row's products with the weights' columns. -/
def projected (x : FVec Ideal S33792x1024 .f32) (g : FVec Ideal S1024 .f32) (v : FVec Ideal S4x16x1024 .f32) (w : FVec Ideal S1024x3072 .bf16)
    (R : Fin 33792) (N : Fin 3072) : EReal := ∑ k : Fin 1024, Kernel3Ideal.EvenProj.rowsOf x g v R k * w (ix2 k N)

/-- The result array as a function of the arguments. -/
def result (x : FVec Ideal S33792x1024 .f32) (g : FVec Ideal S1024 .f32) (v : FVec Ideal S4x16x1024 .f32) (w : FVec Ideal S1024x3072 .bf16)
    (q q' : FVec Ideal S2x64 .f32) (cs sn : FVec Ideal S8192x64 .f32) : FVec Ideal S33792x3072 .bf16 :=
  fun j => entry (projected x g v w (j 0)) (fun i e => q (ix2 i e)) (fun i e => q' (ix2 i e)) (fun l e => cs (ix2 l e)) (fun l e => sn (ix2 l e)) (place (j 0)) (j 1)

/-- The gain as the host line before the grid lays it out. -/
theorem gain_row (q : Fin 1024) : V m c main_v59 (ix2 0 q) = gs m c (ix1 q) := by
  rw [gain_eq]
  refine shapeCast_apply (s := S1024) _ _ _ _ ?_
  rw [Shape.rowMajor_val_one, Shape.rowMajor_val_two]
  show q.val = 0 * 1024 + q.val
  omega

variable (t : Fin cfg0.N) (r : Fin 768) (R : Fin 33792) (hR : R.val = t.val / 6 * 768 + r.val)

include hR in
/-- The rows' block. -/
theorem blk_x (k : Fin 1024) : (iblk m c 0 t : FVec Ideal S768x1024 .f32) (ix2 r k) = xs m c (ix2 R k) := by
  have h : t.val / 6 * 768 + r.val < 33792 := hR ▸ R.2
  obtain rfl : R = ⟨t.val / 6 * 768 + r.val, h⟩ := Fin.ext hR
  refine Eq.trans ?_ (congrFun (V_main_arg0 m c) _)
  blk_ext [iblk, idx t]

/-- The gain's block is all of it. -/
theorem blk_g (q : Fin 1024) : (iblk m c 1 t : FVec Ideal S1x1024 .f32) (ix2 0 q) = gs m c (ix1 q) := by
  refine Eq.trans ?_ (gain_row m c q)
  blk_ext [iblk, idx t]

include hR in
/-- The modulation table's block is the row's sample's. -/
theorem blk_m (i : Fin 16) (q : Fin 1024) : (iblk m c 2 t : FVec Ideal S1x16x1024 .f32) (ix3 0 i q) = mods m c (ix3 (sample R) i q) := by
  have hs : t.val / 66 = (sample R).val := by show _ = R.val / 8448; omega
  generalize sample R = b at hs
  have h : t.val / 66 < 4 := hs ▸ b.2
  obtain rfl : b = ⟨t.val / 66, h⟩ := Fin.ext hs.symm
  refine Eq.trans ?_ (congrFun (V_main_arg2 m c) _)
  blk_ext [iblk, idx t]

/-- The weights' block is a stretch of columns. -/
theorem blk_w (k : Fin 1024) (n : Fin 512) (N : Fin 3072) (hN : N.val = t.val % 6 * 512 + n.val) :
    (iblk m c 3 t : FVec Ideal S1024x512 .bf16) (ix2 k n) = ws m c (ix2 k N) := by
  have h : t.val % 6 * 512 + n.val < 3072 := hN ▸ N.2
  obtain rfl : N = ⟨t.val % 6 * 512 + n.val, h⟩ := Fin.ext hN
  refine Eq.trans ?_ (congrFun (V_main_arg3 m c) _)
  blk_ext [iblk, idx t]

/-- The head gains' block is the row of the stretch. -/
theorem blk_q (i : Fin 6) (hi : i.val = t.val % 6) (n : Fin 512) :
    (iblk m c 4 t : FVec Ideal S1x1x512 .f32) (ix3 0 0 n) = stacked (gains m c) (gains' m c) (ix3 i 0 n) := by
  have h : t.val % 6 < 6 := hi ▸ i.2
  obtain rfl : i = ⟨t.val % 6, h⟩ := Fin.ext hi
  refine Eq.trans ?_ (congrFun (gains_eq m c) _)
  blk_ext [iblk, idx t]

/-- The table of heads is read whole. -/
theorem blk_h : (iblk m c 5 t : FVec Ideal S256x256 .bf16) = heads := by
  funext y
  obtain ⟨k, l, rfl⟩ : ∃ (k l : Fin 256), y = ix2 k l := ⟨y 0, y 1, funext fun a => match a with
    | ⟨0, _⟩ => rfl
    | ⟨1, _⟩ => rfl⟩
  refine Eq.trans ?_ (congrFun (heads_eq m c) _)
  blk_ext [iblk, idx t]

include hR in
/-- The cosines' block is of the rows' tokens. -/
theorem blk_c (n : Fin 128) : (iblk m c 6 t : FVec Ideal S768x128 .f32) (ix2 r n) = twice (cosAll (cosines m c)) (ix2 (place R) n) := by
  have hs : t.val / 6 % 11 * 768 + r.val = (place R).val := by show _ = R.val % 8448; omega
  generalize place R = b at hs
  have h : t.val / 6 % 11 * 768 + r.val < 8448 := hs ▸ b.2
  obtain rfl : b = ⟨t.val / 6 % 11 * 768 + r.val, h⟩ := Fin.ext hs.symm
  refine Eq.trans ?_ (congrFun (cos_eq m c) _)
  blk_ext [iblk, idx t]

include hR in
/-- So is the block of the sines for the columns ahead. -/
theorem blk_sa (n : Fin 128) : (iblk m c 7 t : FVec Ideal S768x128 .f32) (ix2 r n)
    = twice (select evens (Host.negf (sinAll (sines m c))) zeros) (ix2 (place R) n) := by
  have hs : t.val / 6 % 11 * 768 + r.val = (place R).val := by show _ = R.val % 8448; omega
  generalize place R = b at hs
  have h : t.val / 6 % 11 * 768 + r.val < 8448 := hs ▸ b.2
  obtain rfl : b = ⟨t.val / 6 % 11 * 768 + r.val, h⟩ := Fin.ext hs.symm
  refine Eq.trans ?_ (congrFun (sina_eq m c) _)
  blk_ext [iblk, idx t]

include hR in
/-- And the block of those for the columns behind. -/
theorem blk_sb (n : Fin 128) : (iblk m c 8 t : FVec Ideal S768x128 .f32) (ix2 r n)
    = twice (select evens zeros (sinAll (sines m c))) (ix2 (place R) n) := by
  have hs : t.val / 6 % 11 * 768 + r.val = (place R).val := by show _ = R.val % 8448; omega
  generalize place R = b at hs
  have h : t.val / 6 % 11 * 768 + r.val < 8448 := hs ▸ b.2
  obtain rfl : b = ⟨t.val / 6 % 11 * 768 + r.val, h⟩ := Fin.ext hs.symm
  refine Eq.trans ?_ (congrFun (sinb_eq m c) _)
  blk_ext [iblk, idx t]

include hR in
/-- The place of a block's entry in the result. -/
theorem emb_o (n : Fin 512) (N : Fin 3072) (hN : N.val = t.val % 6 * 512 + n.val) :
    ((win0_9.blk t).view.emb (ix2 r n) : S33792x3072.Idx) = ix2 R N := by
  have h : t.val / 6 * 768 + r.val < 33792 := hR ▸ R.2
  obtain rfl : R = ⟨t.val / 6 * 768 + r.val, h⟩ := Fin.ext hR
  have h' : t.val % 6 * 512 + n.val < 3072 := hN ▸ N.2
  obtain rfl : N = ⟨t.val % 6 * 512 + n.val, h'⟩ := Fin.ext hN
  blk_ext [iblk, idx t]

include hR in
/-- The rows kept at the first point of a block of rows are the modulated ones. -/
theorem kept_first (h : t.val % 6 = 0) (q : Fin 1024) :
    (outsAt0 m c t.val t.isLt).2 (ix2 r q) = Kernel3Ideal.EvenProj.rowsOf (xs m c) (gs m c) (mods m c) R q := by
  have ht : t.val < 264 := lt_of_lt_of_eq t.isLt N_0
  rw [kept_A m c t h, kept_apply, coord_row t, test_eq ⟨t.val / 6, by omega⟩ r R hR]
  simp only [blk_x m c t r R hR, blk_g m c t, blk_m m c t r R hR]
  unfold Kernel3Ideal.EvenProj.rowsOf modulated pick
  by_cases h : Ctx R
  · rw [if_pos h, if_pos h, if_pos h, if_pos rfl, if_pos rfl]; rfl
  · rw [if_neg h, if_neg h, if_neg h, if_neg (by decide), if_neg (by decide)]; rfl

end Cert.Kernel6Ideal.OddIn

namespace Cert.Kernel6Ideal.OddIn

open Cert.Kernel6Ideal Cert.Kernel6Ideal.Gen Cert.Samples
open Idealize.ShloMosaic Idealize.ShloMosaic.TcCoe Idealize.SL.Sem

variable (m : (ℓ : Loc nD τ sig) → Buf (Elt Ideal) ℓ) (c : Dev nD)

/-- And so at every point of that block. -/
theorem kept_rows (n : ℕ) : ∀ (h : n < cfg0.N) (r : Fin 768) (R : Fin 33792), R.val = n / 6 * 768 + r.val → ∀ q : Fin 1024,
    (outsAt0 m c n h).2 (ix2 r q) = Kernel3Ideal.EvenProj.rowsOf (xs m c) (gs m c) (mods m c) R q := by
  induction n with
  | zero => exact fun h r R hR q => kept_first m c ⟨0, h⟩ r R hR rfl q
  | succ n ih => exact fun h r R hR q =>
      if h6 : (n + 1) % 6 = 0 then kept_first m c ⟨n + 1, h⟩ r R hR h6 q
      else (congrFun (kept_later m c ⟨n + 1, h⟩ h6) _).trans (ih (Nat.lt_of_succ_lt h) r R (by omega) q)

/-- A point's product is a block of the projection. -/
theorem product_rows (t : Fin cfg0.N) (r : Fin 768) (R : Fin 33792) (hR : R.val = t.val / 6 * 768 + r.val) (n : Fin 512) (N : Fin 3072)
    (hN : N.val = t.val % 6 * 512 + n.val) : (k0_pay2 (outsAt0 m c t.val t.isLt).2 (iblk m c 3 t) : FVec Ideal S768x512 .f32) (ix2 r n)
      = projected (xs m c) (gs m c) (mods m c) (ws m c) R N :=
  (product_apply _ (iblk m c 3 t) r n).trans
    (Finset.sum_congr rfl fun k _ => congrArg₂ (· * ·) (kept_rows m c t.val t.isLt r R hR k) (blk_w m c t k n N hN))

/-- The block a point writes. -/
theorem out_entry (t : Fin cfg0.N) (r : Fin 768) (R : Fin 33792) (hR : R.val = t.val / 6 * 768 + r.val) (n : Fin 512) (N : Fin 3072)
    (hN : N.val = t.val % 6 * 512 + n.val) : ((outsAt0 m c t.val t.isLt).1 : FVec Ideal S768x512 .bf16) (ix2 r n)
      = result (xs m c) (gs m c) (mods m c) (ws m c) (gains m c) (gains' m c) (cosines m c) (sines m c) (ix2 R N) := by
  have hs : N.val / 512 = t.val % 6 := by omega
  have hh : inHead n = ⟨N.val % 64, by omega⟩ := Fin.ext (by show n.val % 64 = N.val % 64; omega)
  show _ = entry (projected (xs m c) (gs m c) (mods m c) (ws m c) R) _ _ _ _ (place R) N
  unfold entry
  rw [hs]
  by_cases h0 : t.val % 6 = 0
  · rw [if_pos h0, out_normed m c t (by omega), blk_h, ← hh]
    exact over_eq _ _ r _ (t.val % 6) _ (product_rows m c t r R hR) (fun n => (blk_q m c t 0 h0.symm n).trans (stacked_0 _ _ n)) n N hN
  rw [if_neg h0]
  by_cases h1 : t.val % 6 = 1
  · rw [if_pos h1, out_normed m c t (by omega), blk_h, ← hh]
    exact over_eq _ _ r _ (t.val % 6) _ (product_rows m c t r R hR) (fun n => (blk_q m c t 1 h1.symm n).trans (stacked_1 _ _ n)) n N hN
  rw [if_neg h1]
  by_cases h3 : t.val % 6 = 3
  · rw [if_pos h3, out_turned m c t (by omega), blk_h, ← hh]
    exact turned_eq _ _ r _ (t.val % 6) _ (product_rows m c t r R hR) (fun n => (blk_q m c t 3 h3.symm n).trans (stacked_3 _ _ n))
      _ _ _ _ _ _ (blk_c m c t r R hR) (blk_sa m c t r R hR) (blk_sb m c t r R hR) n N hN
  rw [if_neg h3]
  by_cases h4 : t.val % 6 = 4
  · rw [if_pos h4, out_turned m c t (by omega), blk_h, ← hh]
    exact turned_eq _ _ r _ (t.val % 6) _ (product_rows m c t r R hR) (fun n => (blk_q m c t 4 h4.symm n).trans (stacked_4 _ _ n))
      _ _ _ _ _ _ (blk_c m c t r R hR) (blk_sa m c t r R hR) (blk_sb m c t r R hR) n N hN
  rw [if_neg h4, out_plain m c t (by omega)]
  exact product_rows m c t r R hR n N hN

/-- The result's blocks cover its array. -/
theorem covers : (cfg0.win 9).Covers :=
  (cfg0.win 9).covers_of_index_surj rfl (by decide) fun β => by
    have h0 : (β ⟨0, by decide⟩).val < 44 := lt_of_lt_of_eq (β ⟨0, by decide⟩).isLt (by decide : (cfg0.win 9).nblk ⟨0, by decide⟩ = 44)
    have h1 : (β ⟨1, by decide⟩).val < 6 := lt_of_lt_of_eq (β ⟨1, by decide⟩).isLt (by decide : (cfg0.win 9).nblk ⟨1, by decide⟩ = 6)
    have ht : (β ⟨0, by decide⟩).val * 6 + (β ⟨1, by decide⟩).val < cfg0.N := lt_of_lt_of_eq (by omega : _ < 264) N_0.symm
    refine ⟨⟨_, ht⟩, fun a => ?_⟩
    refine (congrFun (idx ⟨_, ht⟩).2.2.2.2.2.2.2.2.2 a).trans ?_
    match a with
    | ⟨0, _⟩ => show ((β ⟨0, by decide⟩).val * 6 + (β ⟨1, by decide⟩).val) / 6 = (β ⟨0, by decide⟩).val; omega
    | ⟨1, _⟩ => show ((β ⟨0, by decide⟩).val * 6 + (β ⟨1, by decide⟩).val) % 6 = (β ⟨1, by decide⟩).val; omega

/-- After the grid the result array holds every row's normed and turned projection. -/
theorem out_whole : (dats m 0 c).arrAt 9 cfg0.N
    = result (xs m c) (gs m c) (mods m c) (ws m c) (gains m c) (gains' m c) (cosines m c) (sines m c) := by
  refine (dats m 0 c).arrAt_eq_of_covers 9 _ covers fun t hf y => ?_
  blk_simp
  rw [after0_9]
  obtain ⟨r, n, rfl⟩ : ∃ (r : Fin 768) (n : Fin 512), y = ix2 r n := ⟨y 0, y 1, by blk_ext [iblk, idx t]⟩
  have ht : t.val < 264 := lt_of_lt_of_eq t.isLt N_0
  obtain ⟨R, hR⟩ : ∃ R : Fin 33792, R.val = t.val / 6 * 768 + r.val := ⟨⟨t.val / 6 * 768 + r.val, by omega⟩, rfl⟩
  obtain ⟨N, hN⟩ : ∃ N : Fin 3072, N.val = t.val % 6 * 512 + n.val := ⟨⟨t.val % 6 * 512 + n.val, by omega⟩, rfl⟩
  rw [emb_o t r R hR n N hN]
  exact out_entry m c t r R hR n N hN

/-- The kernel's run with its result array read, the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v60) = result (xs m c) (gs m c) (mods m c) (ws m c) (gains m c) (gains' m c) (cosines m c) (sines m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨((h c).1 9).trans (out_whole m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Kernel6Ideal.OddIn

end
-- ==== Proof.OddInRef.lean ====
/- The odd layers' input projection's reference, entry by entry. -/
module

public import proofs.«01_k».proof.Proof.OddInRun
public import proofs.«01_k».proof.Proof.Gen.Reference6Ideal.Read

@[expose] public section

set_option maxRecDepth 16384

noncomputable section

namespace Cert.Reference6Ideal.OddIn

open Cert.Reference6Ideal Cert.Reference6Ideal.Gen Cert.Reference6Ideal.Read Cert.Samples
open Idealize.ShloMosaic Idealize.SL.Sem

/-- Heads over their root mean square with the gains, as the host computes them. -/
def hostNorm (y : FVec Ideal S4x8448x8x64 .f32) (q : FVec Ideal S1x64 .f32) : FVec Ideal S4x8448x8x64 .f32 :=
  mulf (mulf y (broadcastInDim S4x8448x8x64 ![0, 1, 2, 3] bcast_S4x8448x8x1_S4x8448x8x64_0_1_2_3
      (Host.rsqrt (addf (Host.divf (broadcastInDim S4x8448x8x1 ![0, 1, 2] bcast_S4x8448x8_S4x8448x8x1_0_1_2
          (Host.reduceAdd (mulf y y) (constant (F := Ideal) S_ .f32 0x00000000#32) reducesTo_S4x8448x8x64_S4x8448x8_d3 h_S_))
          (broadcastInDim S4x8448x8x1 ![] bcast_S_S4x8448x8x1 (constant (F := Ideal) S_ .f32 0x42800000#32)))
        (broadcastInDim S4x8448x8x1 ![] bcast_S_S4x8448x8x1 (constant (F := Ideal) S_ .f32 0x358637BD#32))))))
    (broadcastInDim S4x8448x8x64 ![0, 1, 2, 3] bcast_S1x1x1x64_S4x8448x8x64_0_1_2_3
      (broadcastInDim S1x1x1x64 ![3] bcast_S64_S1x1x1x64_3 (shapeCast S64 q shapeCasts_S1x64_S64)))

/-- An entry of those. -/
theorem hostNorm_apply (y : FVec Ideal S4x8448x8x64 .f32) (q : FVec Ideal S1x64 .f32) (b : Fin 4) (l : Fin 8448) (h : Fin 8) (e : Fin 64) :
    hostNorm y q (ix4 b l h e) = headNorm (fun e => y (ix4 b l h e)) (fun e => q (ix2 0 e)) e := by
  pointwise [hostNorm]
  rfl

/-- Heads turned on the image's tokens, as the host computes them. -/
def hostTurn (y : FVec Ideal S4x8448x8x64 .f32) (c s : FVec Ideal S8192x64 .f32) : FVec Ideal S4x8448x8x64 .f32 :=
  let z := extractStridedSlice S4x8192x8x64 ![0, 0, 0, 0] y slices_S4x8448x8x64_S4x8192x8x64_0_0_0_0
  concatenate S4x8448x8x64 1 [⟨S4x8192x8x64, addf
      (mulf z (broadcastInDim S4x8192x8x64 ![0, 1, 2, 3] bcast_S1x8192x1x64_S4x8192x8x64_0_1_2_3
        (broadcastInDim S1x8192x1x64 ![1, 2, 3] bcast_S8192x1x64_S1x8192x1x64_1_2_3 (broadcastInDim S8192x1x64 ![0, 2] bcast_S8192x64_S8192x1x64_0_2 c))))
      (mulf (concatenate S4x8192x8x64 3 [⟨S4x8192x8x16, Host.negf (extractStridedSlice S4x8192x8x16 ![0, 0, 0, 16] z slices_S4x8192x8x64_S4x8192x8x16_0_0_0_16)⟩,
          ⟨S4x8192x8x16, extractStridedSlice S4x8192x8x16 ![0, 0, 0, 0] z slices_S4x8192x8x64_S4x8192x8x16_0_0_0_0⟩,
          ⟨S4x8192x8x16, Host.negf (extractStridedSlice S4x8192x8x16 ![0, 0, 0, 48] z slices_S4x8192x8x64_S4x8192x8x16_0_0_0_48)⟩,
          ⟨S4x8192x8x16, extractStridedSlice S4x8192x8x16 ![0, 0, 0, 32] z slices_S4x8192x8x64_S4x8192x8x16_0_0_0_32⟩]
          concatenates_S4x8192x8x16_S4x8192x8x16_S4x8192x8x16_S4x8192x8x16_S4x8192x8x64_d3)
        (broadcastInDim S4x8192x8x64 ![0, 1, 2, 3] bcast_S1x8192x1x64_S4x8192x8x64_0_1_2_3
        (broadcastInDim S1x8192x1x64 ![1, 2, 3] bcast_S8192x1x64_S1x8192x1x64_1_2_3 (broadcastInDim S8192x1x64 ![0, 2] bcast_S8192x64_S8192x1x64_0_2 s))))⟩,
    ⟨S4x256x8x64, extractStridedSlice S4x256x8x64 ![0, 8192, 0, 0] y slices_S4x8448x8x64_S4x256x8x64_0_8192_0_0⟩]
    concatenates_S4x8192x8x64_S4x256x8x64_S4x8448x8x64_d1

/-- An entry of those. -/
theorem hostTurn_apply (y : FVec Ideal S4x8448x8x64 .f32) (c s : FVec Ideal S8192x64 .f32) (b : Fin 4) (l : Fin 8448) (h : Fin 8) (e : Fin 64) :
    hostTurn y c s (ix4 b l h e) = rotatedAt (fun e => y (ix4 b l h e)) (fun l e => c (ix2 l e)) (fun l e => s (ix2 l e)) l e := by
  unfold rotatedAt rotated
  pointwise [hostTurn]
  have col : ∀ z : Fin 64 → EReal, (if h1 : e.val < 16 then -z ⟨16 + e.val, by omega⟩ else
      if h2 : e.val - 16 < 16 then z ⟨e.val - 16, by omega⟩ else
        if h3 : e.val - 16 - 16 < 16 then -z ⟨48 + (e.val - 16 - 16), by omega⟩ else z ⟨32 + (e.val - 16 - 16 - 16), by omega⟩)
      = if e.val / 16 % 2 = 0 then -z ⟨(e.val + 16) % 64, by omega⟩ else z ⟨(e.val + 48) % 64, by omega⟩ := fun z => by
    by_cases h1 : e.val < 16
    · rw [dif_pos h1, if_pos (by omega)]
      exact congrArg (fun i => -z i) (Fin.ext (by simp only []; omega))
    rw [dif_neg h1]
    by_cases h2 : e.val - 16 < 16
    · rw [dif_pos h2, if_neg (by omega)]
      exact congrArg z (Fin.ext (by simp only []; omega))
    rw [dif_neg h2]
    by_cases h3 : e.val - 16 - 16 < 16
    · rw [dif_pos h3, if_pos (by omega)]
      exact congrArg (fun i => -z i) (Fin.ext (by simp only []; omega))
    · rw [dif_neg h3, if_neg (by omega)]
      exact congrArg z (Fin.ext (by simp only []; omega))
  by_cases hl : l.val < 8192
  · rw [dif_pos hl, dif_pos hl, ← col fun e => y (ix4 b l h e)]
  · rw [dif_neg hl, dif_neg hl]
    exact congrArg y (congrArg (fun l => ix4 b l h e) (Fin.ext (by simp only []; omega)))

/-- A stretch of 512 columns as eight heads. -/
theorem split_apply (y : FVec Ideal S4x8448x512 .f32) (b : Fin 4) (l : Fin 8448) (h : Fin 8) (e : Fin 64) :
    shapeCast S4x8448x8x64 y shapeCasts_S4x8448x512_S4x8448x8x64 (ix4 b l h e) = y (ix3 b l (⟨h.val * 64 + e.val, by omega⟩ : Fin 512)) := by
  refine shapeCast_apply (s := S4x8448x512) _ _ _ _ ?_
  rw [Shape.rowMajor_val_three, Shape.rowMajor_val_four]
  show (b.val * 8448 + l.val) * 512 + (h.val * 64 + e.val) = ((b.val * 8448 + l.val) * 8 + h.val) * 64 + e.val
  omega

/-- Eight heads as a stretch of 512 columns. -/
theorem merge_apply (y : FVec Ideal S4x8448x8x64 .f32) (b : Fin 4) (l : Fin 8448) (n : Fin 512) :
    shapeCast S4x8448x512 y shapeCasts_S4x8448x8x64_S4x8448x512 (ix3 b l n) = y (ix4 b l (⟨n.val / 64, by omega⟩ : Fin 8) (⟨n.val % 64, by omega⟩ : Fin 64)) := by
  refine shapeCast_apply (s := S4x8448x8x64) _ _ _ _ ?_
  rw [Shape.rowMajor_val_three, Shape.rowMajor_val_four]
  show ((b.val * 8448 + l.val) * 8 + n.val / 64) * 64 + n.val % 64 = (b.val * 8448 + l.val) * 512 + n.val
  omega

variable (x : FVec Ideal S33792x1024 .f32) (g : FVec Ideal S1024 .f32) (v : FVec Ideal S4x16x1024 .f32) (w : FVec Ideal S1024x3072 .bf16)
  (q q' : FVec Ideal S2x64 .f32) (c s : FVec Ideal S8192x64 .f32)

/-- The first queries. -/
theorem v61_eq : val_main_v61 (F := Ideal) x g v w q
    = hostNorm (val_main_v36 (F := Ideal) x g v w) (extractStridedSlice S1x64 ![0, 0] q slices_S2x64_S1x64_0_0) := rfl

/-- The first keys. -/
theorem v76_eq : val_main_v76 (F := Ideal) x g v w q
    = hostNorm (val_main_v38 (F := Ideal) x g v w) (extractStridedSlice S1x64 ![1, 0] q slices_S2x64_S1x64_1_0) := rfl

/-- The other queries. -/
theorem v110_eq : val_main_v110 (F := Ideal) x g v w q' c s
    = hostTurn (hostNorm (val_main_v42 (F := Ideal) x g v w) (extractStridedSlice S1x64 ![0, 0] q' slices_S2x64_S1x64_0_0)) c s := rfl

/-- The other keys. -/
theorem v142_eq : val_main_v142 (F := Ideal) x g v w q' c s
    = hostTurn (hostNorm (val_main_v44 (F := Ideal) x g v w) (extractStridedSlice S1x64 ![1, 0] q' slices_S2x64_S1x64_1_0)) c s := rfl

/-- The rows are those of the even layers' projection. -/
theorem rows_eq : val_main_v32 (F := Ideal) x g v = Reference3Ideal.Read.val_main_v32 (F := Ideal) x g v := rfl

open Kernel6Ideal.OddIn in
/-- The product of the rows with the weights. -/
theorem product_apply (R : Fin 33792) (N : Fin 3072) :
    val_main_v34 (F := Ideal) x g v w (ix3 (sample R) (place R) N) = projected x g v w R N := by
  have hl : ∀ k, lidx_main_v34 (ix3 (sample R) (place R) N) k = ix3 (sample R) (place R) k := fun k => funext fun a => match a with
    | ⟨0, _⟩ => rfl
    | ⟨1, _⟩ => rfl
    | ⟨2, _⟩ => rfl
  have hr : ∀ k, ridx_main_v34 (ix3 (sample R) (place R) N) k = ix2 k N := fun k => funext fun a => match a with
    | ⟨0, _⟩ => rfl
    | ⟨1, _⟩ => rfl
  rw [val_main_v34_apply]
  refine Finset.sum_congr rfl fun k _ => ?_
  rw [hl, hr, rows_eq, Reference3Ideal.EvenProj.rows_apply]
  rfl

/-- A stretch of 512 columns of the product. -/
theorem stretch_apply (z : FVec Ideal S4x8448x3072 .f32) (o : ℕ) (hs : S4x8448x3072.Slices ![0, 0, o] S4x8448x512) (b : Fin 4) (l : Fin 8448) (n : Fin 512) (M : Fin 3072)
    (hM : M.val = o + n.val) : extractStridedSlice S4x8448x512 ![0, 0, o] z hs (ix3 b l n) = z (ix3 b l M) :=
  extractStridedSlice_apply ![0, 0, o] z hs (ix3 b l n) (ix3 b l M) fun a => match a with
    | ⟨0, _⟩ => by show b.val = 0 + b.val; omega
    | ⟨1, _⟩ => by show l.val = 0 + l.val; omega
    | ⟨2, _⟩ => by show M.val = o + n.val; omega

/-- A column's head in its stretch is the column's head in the product. -/
theorem head_apply (z : FVec Ideal S4x8448x3072 .f32) (o : ℕ) (hs : S4x8448x3072.Slices ![0, 0, o] S4x8448x512) (b : Fin 4) (l : Fin 8448) (p : Fin 3072 → EReal) (hz : ∀ M, z (ix3 b l M) = p M)
    (N : Fin 3072) (n : Fin 512) (hn : n.val = N.val % 512) (ho : o = N.val / 512 * 512) :
    (fun e => shapeCast S4x8448x8x64 (extractStridedSlice S4x8448x512 ![0, 0, o] z hs) shapeCasts_S4x8448x512_S4x8448x8x64
      (ix4 b l (⟨n.val / 64, by omega⟩ : Fin 8) e)) = ofHead p N := funext fun e => by
  rw [split_apply, stretch_apply z o hs b l _ (⟨N.val / 64 * 64 + e.val, by omega⟩ : Fin 3072)
    (by show N.val / 64 * 64 + e.val = o + (n.val / 64 * 64 + e.val); omega), hz]
  rfl

/-- A stretch taken apart into heads and put together is the stretch. -/
theorem whole_apply (z : FVec Ideal S4x8448x3072 .f32) (o : ℕ) (hs : S4x8448x3072.Slices ![0, 0, o] S4x8448x512) (b : Fin 4) (l : Fin 8448) (p : Fin 3072 → EReal) (hz : ∀ M, z (ix3 b l M) = p M)
    (N : Fin 3072) (n : Fin 512) (hn : n.val = N.val % 512) (ho : o = N.val / 512 * 512) :
    shapeCast S4x8448x512 (shapeCast S4x8448x8x64 (extractStridedSlice S4x8448x512 ![0, 0, o] z hs) shapeCasts_S4x8448x512_S4x8448x8x64)
      shapeCasts_S4x8448x8x64_S4x8448x512 (ix3 b l n) = p N := by
  rw [merge_apply, split_apply, stretch_apply z o hs b l _ N (by show N.val = o + (n.val / 64 * 64 + n.val % 64); omega), hz]

/-- A row of gains. -/
theorem row_0 (q : FVec Ideal S2x64 .f32) (e : Fin 64) : extractStridedSlice S1x64 ![0, 0] q slices_S2x64_S1x64_0_0 (ix2 0 e) = q (ix2 0 e) := by
  pointwise []

/-- The other row. -/
theorem row_1 (q : FVec Ideal S2x64 .f32) (e : Fin 64) : extractStridedSlice S1x64 ![1, 0] q slices_S2x64_S1x64_1_0 (ix2 0 e) = q (ix2 1 e) := by
  pointwise []

/-- The joined stretches: a column is of the stretch that its number says. -/
theorem joined_apply (y0 y1 y2 y3 y4 y5 : FVec Ideal S4x8448x512 .f32) (b : Fin 4) (l : Fin 8448) (N : Fin 3072) (n : Fin 512) (hn : n.val = N.val % 512) :
    concatenate S4x8448x3072 2 [⟨S4x8448x512, y0⟩, ⟨S4x8448x512, y1⟩, ⟨S4x8448x512, y2⟩, ⟨S4x8448x512, y3⟩, ⟨S4x8448x512, y4⟩, ⟨S4x8448x512, y5⟩]
        concatenates_S4x8448x512_S4x8448x512_S4x8448x512_S4x8448x512_S4x8448x512_S4x8448x512_S4x8448x3072_d2 (ix3 b l N)
      = if N.val / 512 = 0 then y0 (ix3 b l n) else if N.val / 512 = 1 then y1 (ix3 b l n) else if N.val / 512 = 3 then y3 (ix3 b l n)
        else if N.val / 512 = 4 then y4 (ix3 b l n) else if N.val / 512 = 2 then y2 (ix3 b l n) else y5 (ix3 b l n) := by
  have e : ∀ (z : FVec Ideal S4x8448x512 .f32) (k : ℕ) (hk : k < 512), k = N.val % 512 → z (ix3 b l (⟨k, hk⟩ : Fin 512)) = z (ix3 b l n) := fun z k hk hi =>
    congrArg (fun i => z (ix3 b l i)) (Fin.ext (hi.trans hn.symm))
  pointwise []
  have b0 : N.val < 512 ↔ N.val / 512 = 0 := by omega
  have b1 : N.val - 512 < 512 ↔ N.val / 512 < 2 := by omega
  have b2 : N.val - 512 - 512 < 512 ↔ N.val / 512 < 3 := by omega
  have b3 : N.val - 512 - 512 - 512 < 512 ↔ N.val / 512 < 4 := by omega
  have b4 : N.val - 512 - 512 - 512 - 512 < 512 ↔ N.val / 512 < 5 := by omega
  by_cases h0 : N.val / 512 = 0
  · rw [dif_pos (b0.mpr h0), if_pos h0]
    exact e _ _ _ (by omega)
  rw [dif_neg fun h => h0 (b0.mp h), if_neg h0]
  by_cases h1 : N.val / 512 = 1
  · rw [dif_pos (b1.mpr (by omega)), if_pos h1]
    exact e _ _ _ (by omega)
  rw [dif_neg fun h => absurd (b1.mp h) (by omega), if_neg h1]
  by_cases h2 : N.val / 512 = 2
  · rw [dif_pos (b2.mpr (by omega)), if_neg (show ¬N.val / 512 = 3 by omega), if_neg (show ¬N.val / 512 = 4 by omega), if_pos h2]
    exact e _ _ _ (by omega)
  rw [dif_neg fun h => absurd (b2.mp h) (by omega)]
  by_cases h3 : N.val / 512 = 3
  · rw [dif_pos (b3.mpr (by omega)), if_pos h3]
    exact e _ _ _ (by omega)
  rw [dif_neg fun h => absurd (b3.mp h) (by omega), if_neg h3]
  by_cases h4 : N.val / 512 = 4
  · rw [dif_pos (b4.mpr (by omega)), if_pos h4]
    exact e _ _ _ (by omega)
  rw [dif_neg fun h => absurd (b4.mp h) (by omega), if_neg h4, if_neg h2]
  exact e _ _ _ (by omega)

/-- A row's place in the table of samples and positions. -/
theorem idx_out (R : Fin 33792) (n : Fin 3072) : idx_main_v150 (ix2 R n) = ix3 (sample R) (place R) n := funext fun a => by
  have := R.isLt
  have := n.isLt
  match a with
  | ⟨0, _⟩ => exact Fin.ext (by show (R.val * 3072 + n.val) / 25952256 = R.val / 8448; omega)
  | ⟨1, _⟩ => exact Fin.ext (by show (R.val * 3072 + n.val) / 3072 % 8448 = R.val % 8448; omega)
  | ⟨2, _⟩ => exact Fin.ext (by show (R.val * 3072 + n.val) % 3072 = n.val; omega)

/-- The last rounding leaves the entries. -/
theorem cast_apply (i : S33792x3072.Idx) : val_main_v151 (F := Ideal) x g v w q q' c s i = val_main_v150 (F := Ideal) x g v w q q' c s i := by
  unfold val_main_v151
  generalize val_main_v150 (F := Ideal) x g v w q q' c s = y
  rfl

/-- An entry of the result is one of the six stretches'. -/
theorem out_apply (R : Fin 33792) (N : Fin 3072) (n : Fin 512) (hn : n.val = N.val % 512) : val_main_v151 (F := Ideal) x g v w q q' c s (ix2 R N)
    = if N.val / 512 = 0 then val_main_v143 (F := Ideal) x g v w q (ix3 (sample R) (place R) n)
      else if N.val / 512 = 1 then val_main_v144 (F := Ideal) x g v w q (ix3 (sample R) (place R) n)
      else if N.val / 512 = 3 then val_main_v146 (F := Ideal) x g v w q' c s (ix3 (sample R) (place R) n)
      else if N.val / 512 = 4 then val_main_v147 (F := Ideal) x g v w q' c s (ix3 (sample R) (place R) n)
      else if N.val / 512 = 2 then val_main_v145 (F := Ideal) x g v w (ix3 (sample R) (place R) n)
      else val_main_v148 (F := Ideal) x g v w (ix3 (sample R) (place R) n) := by
  rw [cast_apply, val_main_v150_apply, idx_out]
  unfold val_main_v149
  exact joined_apply _ _ _ _ _ _ (sample R) (place R) N n hn

open Kernel6Ideal.OddIn in
/-- The reference's result is the normed and turned projection. -/
theorem result_eq : val_main_v151 (F := Ideal) x g v w q q' c s = result x g v w q q' c s := by
  funext j
  obtain ⟨R, N, rfl⟩ : ∃ (R : Fin 33792) (N : Fin 3072), j = ix2 R N := ⟨j 0, j 1, funext fun a => match a with
    | ⟨0, _⟩ => rfl
    | ⟨1, _⟩ => rfl⟩
  have hz := product_apply x g v w R
  obtain ⟨n, hn⟩ : ∃ n : Fin 512, n.val = N.val % 512 := ⟨⟨N.val % 512, by omega⟩, rfl⟩
  have he : (⟨n.val % 64, by omega⟩ : Fin 64) = ⟨N.val % 64, by omega⟩ := Fin.ext (by show n.val % 64 = N.val % 64; omega)
  refine (out_apply x g v w q q' c s R N n hn).trans ?_
  show _ = entry (projected x g v w R) _ _ _ _ (place R) N
  unfold entry
  by_cases h0 : N.val / 512 = 0
  · rw [if_pos h0, if_pos h0]
    unfold val_main_v143
    rw [merge_apply, v61_eq, hostNorm_apply, he]
    exact congrArg₂ (fun a b => headNorm a b _) (head_apply _ 0 slices_S4x8448x3072_S4x8448x512_0_0_0 _ _ _ hz N n hn (by omega)) (funext (row_0 q))
  rw [if_neg h0, if_neg h0]
  by_cases h1 : N.val / 512 = 1
  · rw [if_pos h1, if_pos h1]
    unfold val_main_v144
    rw [merge_apply, v76_eq, hostNorm_apply, he]
    exact congrArg₂ (fun a b => headNorm a b _) (head_apply _ 512 slices_S4x8448x3072_S4x8448x512_0_0_512 _ _ _ hz N n hn (by omega)) (funext (row_1 q))
  rw [if_neg h1, if_neg h1]
  by_cases h3 : N.val / 512 = 3
  · rw [if_pos h3, if_pos h3]
    unfold val_main_v146
    rw [merge_apply, v110_eq, hostTurn_apply, he]
    refine congrArg (fun a => rotatedAt a _ _ _ _) (funext fun e => ?_)
    rw [hostNorm_apply]
    exact congrArg₂ (fun a b => headNorm a b _) (head_apply _ 1536 slices_S4x8448x3072_S4x8448x512_0_0_1536 _ _ _ hz N n hn (by omega)) (funext (row_0 q'))
  rw [if_neg h3, if_neg h3]
  by_cases h4 : N.val / 512 = 4
  · rw [if_pos h4, if_pos h4]
    unfold val_main_v147
    rw [merge_apply, v142_eq, hostTurn_apply, he]
    refine congrArg (fun a => rotatedAt a _ _ _ _) (funext fun e => ?_)
    rw [hostNorm_apply]
    exact congrArg₂ (fun a b => headNorm a b _) (head_apply _ 2048 slices_S4x8448x3072_S4x8448x512_0_0_2048 _ _ _ hz N n hn (by omega)) (funext (row_1 q'))
  rw [if_neg h4, if_neg h4]
  by_cases h2 : N.val / 512 = 2
  · rw [if_pos h2]
    exact whole_apply _ 1024 slices_S4x8448x3072_S4x8448x512_0_0_1024 _ _ _ hz N n hn (by omega)
  · rw [if_neg h2]
    exact whole_apply _ 2560 slices_S4x8448x3072_S4x8448x512_0_0_2560 _ _ _ hz N n hn (by omega)

end Cert.Reference6Ideal.OddIn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_experts_in_range
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_values
public import proofs.«01_k».proof.Proof.Gen.ReferenceIdeal.Run
public import proofs.«01_k».proof.Proof.Gen.ReferenceIdeal.Read
public import proofs.«01_k».proof.Proof.Ref
public import proofs.«01_k».proof.Proof.Pre
public import proofs.«01_k».proof.Proof.OddInRef
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's run with its result array read: the layer's result, the arguments unchanged. -/
theorem kernel_run (m : (ℓ : Loc KernelIdeal.nD KernelIdeal.τ KernelIdeal.sig) → Buf (Elt Ideal) ℓ)
    (g : Dev KernelIdeal.nD → PrngReg) (X : Dev KernelIdeal.nD → Fin 4 → Fin 8448 → Fin 3072 → ℝ)
    (lr : Dev KernelIdeal.nD → ℝ)
    (hX : ∀ c b n (k : Fin 3072), 1536 ≤ k.1 → KernelIdeal.Whole.qkv m c (ix3 b n k) = (X c b n k : EReal))
    (hl : ∀ c, Spec.lam (fun i d => KernelIdeal.Whole.vecs m c (ix2 i d)) = (lr c : EReal)) :
    θ_run (KernelIdeal.defs (F := Ideal)) (onTc (τ := KernelIdeal.τ) (KernelIdeal.main (F := Ideal))) ⟨m, fun _ => 0, g⟩
      fun r => ∀ c : Dev KernelIdeal.nD,
        r.2.mem ((c : Thread KernelIdeal.nD KernelIdeal.τ).loc KernelIdeal.main_v0)
            = KernelIdeal.Whole.G (X c) (lr c) (fun e => KernelIdeal.Whole.gain m c (ix2 0 e))
          ∧ r.2.mem ((c : Thread KernelIdeal.nD KernelIdeal.τ).loc KernelIdeal.main_arg0)
              = m ((c : Thread KernelIdeal.nD KernelIdeal.τ).loc KernelIdeal.main_arg0)
          ∧ r.2.mem ((c : Thread KernelIdeal.nD KernelIdeal.τ).loc KernelIdeal.main_arg1)
              = m ((c : Thread KernelIdeal.nD KernelIdeal.τ).loc KernelIdeal.main_arg1)
          ∧ r.2.mem ((c : Thread KernelIdeal.nD KernelIdeal.τ).loc KernelIdeal.main_arg2)
              = m ((c : Thread KernelIdeal.nD KernelIdeal.τ).loc KernelIdeal.main_arg2) :=
  (θ_run KernelIdeal.defs _ _).mono (fun _ h c =>
    ⟨((h c).1 5).trans (KernelIdeal.Whole.out_whole m c (X c) (lr c) (hX c) (hl c)),
      ((h c).1 4).trans (((KernelIdeal.Gen.dats m 0 c).arrAt_in 4 rfl _).trans
        ((KernelIdeal.Gen.A_eq m c 4).trans (KernelIdeal.Gen.V_main_arg0 m c))),
      ((h c).1 0).trans (((KernelIdeal.Gen.dats m 0 c).arrAt_in 0 rfl _).trans
        ((KernelIdeal.Gen.A_eq m c 0).trans (KernelIdeal.Gen.V_main_arg1 m c))),
      ((h c).1 1).trans (((KernelIdeal.Gen.dats m 0 c).arrAt_in 1 rfl _).trans
        ((KernelIdeal.Gen.A_eq m c 1).trans (KernelIdeal.Gen.V_main_arg2 m c)))⟩)
    (KernelIdeal.Gen.run_main m g)

/-- The kernel and the reference, at real queries, keys, values and scale vectors, end with the same result. -/
theorem algebraic : Cert.algebraic_KernelIdeal_ReferenceIdeal_pre_finite_values := by
  intro m g m' g' hp ha
  have hd := fun c => Pre_finite_values.Read.decode _ _ _ ix0 (congrFun (hp c) _)
  have hl : ∀ c, ∃ r : ℝ, Spec.lam (fun i d => KernelIdeal.Whole.vecs m c (ix2 i d)) = (r : EReal) := fun c =>
    (Spec.lam_coe fun i d => EReal.toReal (KernelIdeal.Whole.vecs m c (ix2 i d))).imp fun r hr =>
      (congrArg Spec.lam (funext fun i => funext fun d => (hd c).2 i d)).trans hr
  choose lr hlr using hl
  let X : Dev KernelIdeal.nD → Fin 4 → Fin 8448 → Fin 3072 → ℝ := fun c b n k =>
    EReal.toReal (KernelIdeal.Whole.qkv m c (ix3 b n k))
  refine ⟨fun c => KernelIdeal.Whole.G (X c) (lr c) (fun e => KernelIdeal.Whole.gain m c (ix2 0 e)),
    kernel_run m g X lr (fun c => (hd c).1) hlr, ?_⟩
  refine (θ_run ReferenceIdeal.defs _ _).mono (fun r h c => ⟨(h c).1.trans ?_, (h c).2⟩)
    (ReferenceIdeal.Value.run m' g')
  rw [ReferenceIdeal.Read.val_main_v63_eq, (ha c).1, (ha c).2.1, (ha c).2.2]
  exact ReferenceIdeal.Ref.result _ _ _ (X c) (hd c).1 (lr c) (hlr c)

/-- The reference runs to its end with its arguments unchanged; it declares no semaphore. -/
theorem reference_frame : Cert.quiescent_ReferenceIdeal := fun m g _ =>
  (θ_run ReferenceIdeal.defs _ _).mono (fun r h => ⟨fun c => (h c).2, sem_eq_zero_of_no_sems (by decide) r.2⟩)
    (ReferenceIdeal.Value.run m g)

/-- The experts' call as printed runs to its end, with its arguments and every semaphore as they were. -/
theorem printed_frame : Cert.quiescent_Kernel2 := fun m g hp =>
  Kernel2.Experts.quiescent m g (Kernel2.Experts.ok_of_range m 0 fun k =>
    Pre_experts_in_range.Read.decode _ _ _ _ _ _ _ ix0 (congrFun (hp 0) _) k)

/-- The table of the experts' call names experts that exist. -/
theorem experts_ok (m : (ℓ : Loc Kernel2Ideal.nD Kernel2Ideal.τ Kernel2Ideal.sig) → Buf (Elt Ideal) ℓ) (hp : Cert.Pre_Kernel2Ideal m) :
    Kernel2Ideal.Experts.Ok m :=
  Kernel2Ideal.Experts.ok_of_range m 0 fun k => Pre_experts_in_range.Read.decode _ _ _ _ _ _ _ ix0 (congrFun (hp 0) _) k

/-- The same of the idealized experts' call. -/
theorem experts_frame : Cert.quiescent_Kernel2Ideal := fun m g hp => Kernel2Ideal.Experts.quiescent m g (experts_ok m hp)

/-- The experts' reference runs to its end with its arguments unchanged; it declares no semaphore. -/
theorem reference2_frame : Cert.quiescent_Reference2Ideal := fun m g _ =>
  (θ_run Reference2Ideal.defs _ _).mono (fun r h => ⟨fun c => (h c).2, sem_eq_zero_of_no_sems (by decide) r.2⟩)
    (Reference2Ideal.Value.run m g)

/-- The experts' call and its reference end with the same result. -/
theorem experts_algebraic : Cert.algebraic_Kernel2Ideal_Reference2Ideal := by
  intro m g m' g' hp ha
  refine ⟨fun c => Kernel2Ideal.Experts.answers (Kernel2Ideal.Experts.experts m c) (Kernel2Ideal.Experts.blocks m c) (Kernel2Ideal.Experts.rows m c)
      (Kernel2Ideal.Experts.gates m c) (Kernel2Ideal.Experts.biases m c) (Kernel2Ideal.Experts.downs m c) (Kernel2Ideal.Experts.offsets m c),
    Kernel2Ideal.Experts.run m (experts_ok m hp) g, ?_⟩
  refine (θ_run Reference2Ideal.defs _ _).mono (fun r h c => ⟨(h c).1.trans ?_, (h c).2⟩) (Reference2Ideal.Value.run m' g')
  obtain ⟨h0, h1, h2, h3, h4, h5, h6⟩ := ha c
  rw [Reference2Ideal.Read.val_main_v66_eq, h0, h1, h2, h3, h4, h5, h6]
  exact Reference2Ideal.Experts.result _ _ _ _ _ _ _ fun b => Pre_experts_in_range.Read.decode _ _ _ _ _ _ _ ix0 (congrFun (hp c) _) b

/-- The even layers' input projection's reference runs to its end with its arguments unchanged; it declares no semaphore. -/
theorem reference3_frame : Cert.quiescent_Reference3Ideal := fun m g _ =>
  (θ_run Reference3Ideal.defs _ _).mono (fun r h => ⟨fun c => (h c).2, sem_eq_zero_of_no_sems (by decide) r.2⟩)
    (Reference3Ideal.Value.run m g)

/-- The even layers' output projection's likewise. -/
theorem reference4_frame : Cert.quiescent_Reference4Ideal := fun m g _ =>
  (θ_run Reference4Ideal.defs _ _).mono (fun r h => ⟨fun c => (h c).2, sem_eq_zero_of_no_sems (by decide) r.2⟩)
    (Reference4Ideal.Value.run m g)

/-- The odd layers' likewise. -/
theorem reference5_frame : Cert.quiescent_Reference5Ideal := fun m g _ =>
  (θ_run Reference5Ideal.defs _ _).mono (fun r h => ⟨fun c => (h c).2, sem_eq_zero_of_no_sems (by decide) r.2⟩)
    (Reference5Ideal.Value.run m g)

/-- The odd layers' input projection's likewise. -/
theorem reference6_frame : Cert.quiescent_Reference6Ideal := fun m g _ =>
  (θ_run Reference6Ideal.defs _ _).mono (fun r h => ⟨fun c => (h c).2, sem_eq_zero_of_no_sems (by decide) r.2⟩)
    (Reference6Ideal.Value.run m g)

open Kernel3Ideal.EvenProj in
/-- The even layers' input projection and its reference end with the same result. -/
theorem even_proj_algebraic : Cert.algebraic_Kernel3Ideal_Reference3Ideal := by
  intro m g m' g' _ ha
  refine ⟨fun c => result (xs m c) (gs m c) (mods m c) (ws m c), run m g, ?_⟩
  refine (θ_run Reference3Ideal.defs _ _).mono (fun r h c => ⟨(h c).1.trans ?_, (h c).2⟩) (Reference3Ideal.Value.run m' g')
  obtain ⟨h0, h1, h2, h3⟩ := ha c
  rw [Reference3Ideal.Read.val_main_v35_eq, h0, h1, h2, h3]
  exact Reference3Ideal.EvenProj.result _ _ _ _

open Kernel4Ideal.OutProj in
/-- The even layers' output projection and its reference end with the same result. -/
theorem even_out_algebraic : Cert.algebraic_Kernel4Ideal_Reference4Ideal := by
  intro m g m' g' _ ha
  refine ⟨fun c => result (ys m c) (ss m c) (ws m c) (xs m c) (mods m c), run m g, ?_⟩
  refine (θ_run Reference4Ideal.defs _ _).mono (fun r h c => ⟨(h c).1.trans ?_, (h c).2⟩) (Reference4Ideal.Value.run m' g')
  obtain ⟨h0, h1, h2, h3, h4⟩ := ha c
  rw [Reference4Ideal.Read.val_main_v19_eq, h0, h1, h2, h3, h4]
  exact Reference4Ideal.OutProj.result _ _ _ _ _

open Kernel5Ideal.OddProj in
/-- The odd layers' output projection and its reference end with the same result. -/
theorem odd_out_algebraic : Cert.algebraic_Kernel5Ideal_Reference5Ideal := by
  intro m g m' g' _ ha
  refine ⟨fun c => result (ys m c) (ss m c) (ws m c) (xs m c) (mods m c), run m g, ?_⟩
  refine (θ_run Reference5Ideal.defs _ _).mono (fun r h c => ⟨(h c).1.trans ?_, (h c).2⟩) (Reference5Ideal.Value.run m' g')
  obtain ⟨h0, h1, h2, h3, h4⟩ := ha c
  rw [Reference5Ideal.Read.val_main_v19_eq, h0, h1, h2, h3, h4]
  exact Reference5Ideal.OddProj.result _ _ _ _ _

open Kernel6Ideal.OddIn in
/-- The odd layers' input projection and its reference end with the same result. -/
theorem odd_in_algebraic : Cert.algebraic_Kernel6Ideal_Reference6Ideal := by
  intro m g m' g' _ ha
  refine ⟨fun c => result (xs m c) (gs m c) (mods m c) (ws m c) (gains m c) (gains' m c) (cosines m c) (sines m c), run m g, ?_⟩
  refine (θ_run Reference6Ideal.defs _ _).mono (fun r h c => ⟨(h c).1.trans ?_, (h c).2⟩) (Reference6Ideal.Value.run m' g')
  obtain ⟨h0, h1, h2, h3, h4, h5, h6, h7⟩ := ha c
  have e0 : StableHlo.launchContents m' c (Proc.devRef .tc Reference6Ideal.main_arg0) = xs m c := h0
  have e1 : StableHlo.launchContents m' c (Proc.devRef .tc Reference6Ideal.main_arg1) = gs m c := h1
  have e2 : StableHlo.launchContents m' c (Proc.devRef .tc Reference6Ideal.main_arg2) = mods m c := h2
  have e3 : StableHlo.launchContents m' c (Proc.devRef .tc Reference6Ideal.main_arg3) = ws m c := h3
  have e4 : StableHlo.launchContents m' c (Proc.devRef .tc Reference6Ideal.main_arg4) = gains m c := h4
  have e5 : StableHlo.launchContents m' c (Proc.devRef .tc Reference6Ideal.main_arg5) = gains' m c := h5
  have e6 : StableHlo.launchContents m' c (Proc.devRef .tc Reference6Ideal.main_arg6) = cosines m c := h6
  have e7 : StableHlo.launchContents m' c (Proc.devRef .tc Reference6Ideal.main_arg7) = sines m c := h7
  rw [Reference6Ideal.Read.val_main_v151_eq, e0, e1, e2, e3, e4, e5, e6, e7]
  exact Reference6Ideal.OddIn.result_eq _ _ _ _ _ _ _ _

/-- Every claim of the certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts, Cert.Pre_finite_values.Gen.facts, Cert.Pre_experts_in_range.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, printed_frame, experts_frame, reference2_frame,
  fun m ρ _ => reference2_frame m ρ trivial,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  trivial, algebraic, trivial, experts_algebraic, trivial, even_proj_algebraic, trivial, even_out_algebraic, trivial, odd_out_algebraic, trivial,
  odd_in_algebraic⟩

end Cert.Proof

end
